-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "half_log_two_pi" .f32 0x3F6B3F8E#32 ((2⁻¹ * (Real.log (13176795 / 2097152)) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x3072 : Shape := ⟨2, ![128, 3072]⟩
abbrev S3072x8x2 : Shape := ⟨3, ![3072, 8, 2]⟩
abbrev S2048x8x8x2 : Shape := ⟨4, ![2048, 8, 8, 2]⟩
abbrev S1024x8x8x2 : Shape := ⟨4, ![1024, 8, 8, 2]⟩
abbrev S512x8x8x2 : Shape := ⟨4, ![512, 8, 8, 2]⟩
abbrev S256x8x8x2 : Shape := ⟨4, ![256, 8, 8, 2]⟩
abbrev S128x8x8x2 : Shape := ⟨4, ![128, 8, 8, 2]⟩
abbrev S64x8x8x2 : Shape := ⟨4, ![64, 8, 8, 2]⟩
abbrev S32x8x8x2 : Shape := ⟨4, ![32, 8, 8, 2]⟩
abbrev S16x8x8x2 : Shape := ⟨4, ![16, 8, 8, 2]⟩
abbrev S8x8x8x2 : Shape := ⟨4, ![8, 8, 8, 2]⟩
abbrev S4x8x8x2 : Shape := ⟨4, ![4, 8, 8, 2]⟩
abbrev S2x8x8x2 : Shape := ⟨4, ![2, 8, 8, 2]⟩
abbrev S1x8x8x2 : Shape := ⟨4, ![1, 8, 8, 2]⟩
abbrev S16 : Shape := ⟨1, ![16]⟩
abbrev S4096 : Shape := ⟨1, ![4096]⟩
abbrev S_ : Shape := ⟨0, ![]⟩

class Facts : Prop where
  bcast_S_S128x3072 : S_.BroadcastsInDim S128x3072 (![] : Fin 0 → Fin S128x3072.rank)
  bcast_S_S3072x8x2 : S_.BroadcastsInDim S3072x8x2 (![] : Fin 0 → Fin S3072x8x2.rank)
  bcast_S_S2048x8x8x2 : S_.BroadcastsInDim S2048x8x8x2 (![] : Fin 0 → Fin S2048x8x8x2.rank)
  bcast_S_S1024x8x8x2 : S_.BroadcastsInDim S1024x8x8x2 (![] : Fin 0 → Fin S1024x8x8x2.rank)
  bcast_S_S512x8x8x2 : S_.BroadcastsInDim S512x8x8x2 (![] : Fin 0 → Fin S512x8x8x2.rank)
  bcast_S_S256x8x8x2 : S_.BroadcastsInDim S256x8x8x2 (![] : Fin 0 → Fin S256x8x8x2.rank)
  bcast_S_S128x8x8x2 : S_.BroadcastsInDim S128x8x8x2 (![] : Fin 0 → Fin S128x8x8x2.rank)
  bcast_S_S64x8x8x2 : S_.BroadcastsInDim S64x8x8x2 (![] : Fin 0 → Fin S64x8x8x2.rank)
  bcast_S_S32x8x8x2 : S_.BroadcastsInDim S32x8x8x2 (![] : Fin 0 → Fin S32x8x8x2.rank)
  bcast_S_S16x8x8x2 : S_.BroadcastsInDim S16x8x8x2 (![] : Fin 0 → Fin S16x8x8x2.rank)
  bcast_S_S8x8x8x2 : S_.BroadcastsInDim S8x8x8x2 (![] : Fin 0 → Fin S8x8x8x2.rank)
  bcast_S_S4x8x8x2 : S_.BroadcastsInDim S4x8x8x2 (![] : Fin 0 → Fin S4x8x8x2.rank)
  bcast_S_S2x8x8x2 : S_.BroadcastsInDim S2x8x8x2 (![] : Fin 0 → Fin S2x8x8x2.rank)
  bcast_S_S1x8x8x2 : S_.BroadcastsInDim S1x8x8x2 (![] : Fin 0 → Fin S1x8x8x2.rank)
  bcast_S_S16 : S_.BroadcastsInDim S16 (![] : Fin 0 → Fin S16.rank)

variable [Facts]

def fn_part2 {F : FTy → Type} [FloatOps F] (main_arg12 : FVec F S4x8x8x2 .f32) (main_arg13 : FVec F S2x8x8x2 .f32) (main_arg14 : FVec F S1x8x8x2 .f32) (main_arg15 : FVec F S16 .f32) (main_arg16 : IVec S4096 32) (main_v2 : IVec S128x3072 1) (main_v5 : IVec S3072x8x2 1) (main_v8 : IVec S3072x8x2 1) (main_v11 : IVec S2048x8x8x2 1) (main_v14 : IVec S1024x8x8x2 1) (main_v17 : IVec S512x8x8x2 1) (main_v20 : IVec S256x8x8x2 1) (main_v23 : IVec S128x8x8x2 1) (main_v26 : IVec S64x8x8x2 1) (main_v29 : IVec S32x8x8x2 1) (main_v32 : IVec S16x8x8x2 1) (main_v35 : IVec S8x8x8x2 1) : IVec S128x3072 1 × IVec S3072x8x2 1 × IVec S3072x8x2 1 × IVec S2048x8x8x2 1 × IVec S1024x8x8x2 1 × IVec S512x8x8x2 1 × IVec S256x8x8x2 1 × IVec S128x8x8x2 1 × IVec S64x8x8x2 1 × IVec S32x8x8x2 1 × IVec S16x8x8x2 1 × IVec S8x8x8x2 1 × IVec S4x8x8x2 1 × IVec S2x8x8x2 1 × IVec S1x8x8x2 1 × IVec S16 1 × IVec S4096 1 :=
  let main_v36 : FVec F S4x8x8x2 .f32 := Host.absf main_arg12
  let main_cst_11 : FVec F S_ .f32 := constant S_ .f32 0x7F800000#32
  let main_v37 : FVec F S4x8x8x2 .f32 := broadcastInDim S4x8x8x2 ![] bcast_S_S4x8x8x2 main_cst_11
  let main_v38 : IVec S4x8x8x2 1 := cmpf .olt main_v36 main_v37
  let main_v39 : FVec F S2x8x8x2 .f32 := Host.absf main_arg13
  let main_cst_12 : FVec F S_ .f32 := constant S_ .f32 0x7F800000#32
  let main_v40 : FVec F S2x8x8x2 .f32 := broadcastInDim S2x8x8x2 ![] bcast_S_S2x8x8x2 main_cst_12
  let main_v41 : IVec S2x8x8x2 1 := cmpf .olt main_v39 main_v40
  let main_v42 : FVec F S1x8x8x2 .f32 := Host.absf main_arg14
  let main_cst_13 : FVec F S_ .f32 := constant S_ .f32 0x7F800000#32
  let main_v43 : FVec F S1x8x8x2 .f32 := broadcastInDim S1x8x8x2 ![] bcast_S_S1x8x8x2 main_cst_13
  let main_v44 : IVec S1x8x8x2 1 := cmpf .olt main_v42 main_v43
  let main_v45 : FVec F S16 .f32 := Host.absf main_arg15
  let main_cst_14 : FVec F S_ .f32 := constant S_ .f32 0x7F800000#32
  let main_v46 : FVec F S16 .f32 := broadcastInDim S16 ![] bcast_S_S16 main_cst_14
  let main_v47 : IVec S16 1 := cmpf .olt main_v45 main_v46
  let main_v48 : IVec S4096 32 := iotaInDim S4096 32 0
  let main_v49 : IVec S4096 1 := cmpi .eq main_arg16 main_v48
  (main_v2, main_v5, main_v8, main_v11, main_v14, main_v17, main_v20, main_v23, main_v26, main_v29, main_v32, main_v35, main_v38, main_v41, main_v44, main_v47, main_v49)

def fn_part1 {F : FTy → Type} [FloatOps F] (main_arg6 : FVec F S256x8x8x2 .f32) (main_arg7 : FVec F S128x8x8x2 .f32) (main_arg8 : FVec F S64x8x8x2 .f32) (main_arg9 : FVec F S32x8x8x2 .f32) (main_arg10 : FVec F S16x8x8x2 .f32) (main_arg11 : FVec F S8x8x8x2 .f32) (main_arg12 : FVec F S4x8x8x2 .f32) (main_arg13 : FVec F S2x8x8x2 .f32) (main_arg14 : FVec F S1x8x8x2 .f32) (main_arg15 : FVec F S16 .f32) (main_arg16 : IVec S4096 32) (main_v2 : IVec S128x3072 1) (main_v5 : IVec S3072x8x2 1) (main_v8 : IVec S3072x8x2 1) (main_v11 : IVec S2048x8x8x2 1) (main_v14 : IVec S1024x8x8x2 1) (main_v17 : IVec S512x8x8x2 1) : IVec S128x3072 1 × IVec S3072x8x2 1 × IVec S3072x8x2 1 × IVec S2048x8x8x2 1 × IVec S1024x8x8x2 1 × IVec S512x8x8x2 1 × IVec S256x8x8x2 1 × IVec S128x8x8x2 1 × IVec S64x8x8x2 1 × IVec S32x8x8x2 1 × IVec S16x8x8x2 1 × IVec S8x8x8x2 1 × IVec S4x8x8x2 1 × IVec S2x8x8x2 1 × IVec S1x8x8x2 1 × IVec S16 1 × IVec S4096 1 :=
  let main_v18 : FVec F S256x8x8x2 .f32 := Host.absf main_arg6
  let main_cst_5 : FVec F S_ .f32 := constant S_ .f32 0x7F800000#32
  let main_v19 : FVec F S256x8x8x2 .f32 := broadcastInDim S256x8x8x2 ![] bcast_S_S256x8x8x2 main_cst_5
  let main_v20 : IVec S256x8x8x2 1 := cmpf .olt main_v18 main_v19
  let main_v21 : FVec F S128x8x8x2 .f32 := Host.absf main_arg7
  let main_cst_6 : FVec F S_ .f32 := constant S_ .f32 0x7F800000#32
  let main_v22 : FVec F S128x8x8x2 .f32 := broadcastInDim S128x8x8x2 ![] bcast_S_S128x8x8x2 main_cst_6
  let main_v23 : IVec S128x8x8x2 1 := cmpf .olt main_v21 main_v22
  let main_v24 : FVec F S64x8x8x2 .f32 := Host.absf main_arg8
  let main_cst_7 : FVec F S_ .f32 := constant S_ .f32 0x7F800000#32
  let main_v25 : FVec F S64x8x8x2 .f32 := broadcastInDim S64x8x8x2 ![] bcast_S_S64x8x8x2 main_cst_7
  let main_v26 : IVec S64x8x8x2 1 := cmpf .olt main_v24 main_v25
  let main_v27 : FVec F S32x8x8x2 .f32 := Host.absf main_arg9
  let main_cst_8 : FVec F S_ .f32 := constant S_ .f32 0x7F800000#32
  let main_v28 : FVec F S32x8x8x2 .f32 := broadcastInDim S32x8x8x2 ![] bcast_S_S32x8x8x2 main_cst_8
  let main_v29 : IVec S32x8x8x2 1 := cmpf .olt main_v27 main_v28
  let main_v30 : FVec F S16x8x8x2 .f32 := Host.absf main_arg10
  let main_cst_9 : FVec F S_ .f32 := constant S_ .f32 0x7F800000#32
  let main_v31 : FVec F S16x8x8x2 .f32 := broadcastInDim S16x8x8x2 ![] bcast_S_S16x8x8x2 main_cst_9
  let main_v32 : IVec S16x8x8x2 1 := cmpf .olt main_v30 main_v31
  let main_v33 : FVec F S8x8x8x2 .f32 := Host.absf main_arg11
  let main_cst_10 : FVec F S_ .f32 := constant S_ .f32 0x7F800000#32
  let main_v34 : FVec F S8x8x8x2 .f32 := broadcastInDim S8x8x8x2 ![] bcast_S_S8x8x8x2 main_cst_10
  let main_v35 : IVec S8x8x8x2 1 := cmpf .olt main_v33 main_v34
  fn_part2 (F := F) main_arg12 main_arg13 main_arg14 main_arg15 main_arg16 main_v2 main_v5 main_v8 main_v11 main_v14 main_v17 main_v20 main_v23 main_v26 main_v29 main_v32 main_v35

def fn {F : FTy → Type} [FloatOps F] (main_arg0 : FVec F S128x3072 .f32) (main_arg1 : FVec F S3072x8x2 .f32) (main_arg2 : FVec F S3072x8x2 .f32) (main_arg3 : FVec F S2048x8x8x2 .f32) (main_arg4 : FVec F S1024x8x8x2 .f32) (main_arg5 : FVec F S512x8x8x2 .f32) (main_arg6 : FVec F S256x8x8x2 .f32) (main_arg7 : FVec F S128x8x8x2 .f32) (main_arg8 : FVec F S64x8x8x2 .f32) (main_arg9 : FVec F S32x8x8x2 .f32) (main_arg10 : FVec F S16x8x8x2 .f32) (main_arg11 : FVec F S8x8x8x2 .f32) (main_arg12 : FVec F S4x8x8x2 .f32) (main_arg13 : FVec F S2x8x8x2 .f32) (main_arg14 : FVec F S1x8x8x2 .f32) (main_arg15 : FVec F S16 .f32) (main_arg16 : IVec S4096 32) : IVec S128x3072 1 × IVec S3072x8x2 1 × IVec S3072x8x2 1 × IVec S2048x8x8x2 1 × IVec S1024x8x8x2 1 × IVec S512x8x8x2 1 × IVec S256x8x8x2 1 × IVec S128x8x8x2 1 × IVec S64x8x8x2 1 × IVec S32x8x8x2 1 × IVec S16x8x8x2 1 × IVec S8x8x8x2 1 × IVec S4x8x8x2 1 × IVec S2x8x8x2 1 × IVec S1x8x8x2 1 × IVec S16 1 × IVec S4096 1 :=
  let main_v0 : FVec F S128x3072 .f32 := Host.absf main_arg0
  let main_cst : FVec F S_ .f32 := constant S_ .f32 0x7F800000#32
  let main_v1 : FVec F S128x3072 .f32 := broadcastInDim S128x3072 ![] bcast_S_S128x3072 main_cst
  let main_v2 : IVec S128x3072 1 := cmpf .olt main_v0 main_v1
  let main_v3 : FVec F S3072x8x2 .f32 := Host.absf main_arg1
  let main_cst_0 : FVec F S_ .f32 := constant S_ .f32 0x7F800000#32
  let main_v4 : FVec F S3072x8x2 .f32 := broadcastInDim S3072x8x2 ![] bcast_S_S3072x8x2 main_cst_0
  let main_v5 : IVec S3072x8x2 1 := cmpf .olt main_v3 main_v4
  let main_v6 : FVec F S3072x8x2 .f32 := Host.absf main_arg2
  let main_cst_1 : FVec F S_ .f32 := constant S_ .f32 0x7F800000#32
  let main_v7 : FVec F S3072x8x2 .f32 := broadcastInDim S3072x8x2 ![] bcast_S_S3072x8x2 main_cst_1
  let main_v8 : IVec S3072x8x2 1 := cmpf .olt main_v6 main_v7
  let main_v9 : FVec F S2048x8x8x2 .f32 := Host.absf main_arg3
  let main_cst_2 : FVec F S_ .f32 := constant S_ .f32 0x7F800000#32
  let main_v10 : FVec F S2048x8x8x2 .f32 := broadcastInDim S2048x8x8x2 ![] bcast_S_S2048x8x8x2 main_cst_2
  let main_v11 : IVec S2048x8x8x2 1 := cmpf .olt main_v9 main_v10
  let main_v12 : FVec F S1024x8x8x2 .f32 := Host.absf main_arg4
  let main_cst_3 : FVec F S_ .f32 := constant S_ .f32 0x7F800000#32
  let main_v13 : FVec F S1024x8x8x2 .f32 := broadcastInDim S1024x8x8x2 ![] bcast_S_S1024x8x8x2 main_cst_3
  let main_v14 : IVec S1024x8x8x2 1 := cmpf .olt main_v12 main_v13
  let main_v15 : FVec F S512x8x8x2 .f32 := Host.absf main_arg5
  let main_cst_4 : FVec F S_ .f32 := constant S_ .f32 0x7F800000#32
  let main_v16 : FVec F S512x8x8x2 .f32 := broadcastInDim S512x8x8x2 ![] bcast_S_S512x8x8x2 main_cst_4
  let main_v17 : IVec S512x8x8x2 1 := cmpf .olt main_v15 main_v16
  fn_part1 (F := F) main_arg6 main_arg7 main_arg8 main_arg9 main_arg10 main_arg11 main_arg12 main_arg13 main_arg14 main_arg15 main_arg16 main_v2 main_v5 main_v8 main_v11 main_v14 main_v17
-- ==== Kernel.lean ====
abbrev S128x3072 : Shape := ⟨2, ![128, 3072]⟩
abbrev S3072x8x2 : Shape := ⟨3, ![3072, 8, 2]⟩
abbrev S2048x8x8x2 : Shape := ⟨4, ![2048, 8, 8, 2]⟩
abbrev S1024x8x8x2 : Shape := ⟨4, ![1024, 8, 8, 2]⟩
abbrev S512x8x8x2 : Shape := ⟨4, ![512, 8, 8, 2]⟩
abbrev S256x8x8x2 : Shape := ⟨4, ![256, 8, 8, 2]⟩
abbrev S128x8x8x2 : Shape := ⟨4, ![128, 8, 8, 2]⟩
abbrev S64x8x8x2 : Shape := ⟨4, ![64, 8, 8, 2]⟩
abbrev S32x8x8x2 : Shape := ⟨4, ![32, 8, 8, 2]⟩
abbrev S16x8x8x2 : Shape := ⟨4, ![16, 8, 8, 2]⟩
abbrev S8x8x8x2 : Shape := ⟨4, ![8, 8, 8, 2]⟩
abbrev S4x8x8x2 : Shape := ⟨4, ![4, 8, 8, 2]⟩
abbrev S2x8x8x2 : Shape := ⟨4, ![2, 8, 8, 2]⟩
abbrev S1x8x8x2 : Shape := ⟨4, ![1, 8, 8, 2]⟩
abbrev S16 : Shape := ⟨1, ![16]⟩
abbrev S4096 : Shape := ⟨1, ![4096]⟩
abbrev S3072 : Shape := ⟨1, ![3072]⟩
abbrev S4092 : Shape := ⟨1, ![4092]⟩
abbrev S_ : Shape := ⟨0, ![]⟩
abbrev S3072x1 : Shape := ⟨2, ![3072, 1]⟩
abbrev S1 : Shape := ⟨1, ![1]⟩
abbrev S1x1 : Shape := ⟨2, ![1, 1]⟩
abbrev S3072x16 : Shape := ⟨2, ![3072, 16]⟩
abbrev S16x3072 : Shape := ⟨2, ![16, 3072]⟩
abbrev S32x3072 : Shape := ⟨2, ![32, 3072]⟩
abbrev S2048x128 : Shape := ⟨2, ![2048, 128]⟩
abbrev S1024x128 : Shape := ⟨2, ![1024, 128]⟩
abbrev S512x128 : Shape := ⟨2, ![512, 128]⟩
abbrev S256x128 : Shape := ⟨2, ![256, 128]⟩
abbrev S128x128 : Shape := ⟨2, ![128, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S4x128 : Shape := ⟨2, ![4, 128]⟩
abbrev S4092x128 : Shape := ⟨2, ![4092, 128]⟩
abbrev S4092x1 : Shape := ⟨2, ![4092, 1]⟩
abbrev S128x2048 : Shape := ⟨2, ![128, 2048]⟩
abbrev S128x1024 : Shape := ⟨2, ![128, 1024]⟩
abbrev S128x512 : Shape := ⟨2, ![128, 512]⟩
abbrev S2x128 : Shape := ⟨2, ![2, 128]⟩
abbrev S1x128 : Shape := ⟨2, ![1, 128]⟩
abbrev S1x16 : Shape := ⟨2, ![1, 16]⟩
abbrev S16x1024 : Shape := ⟨2, ![16, 1024]⟩
abbrev S128x256 : Shape := ⟨2, ![128, 256]⟩
abbrev S16x128x512 : Shape := ⟨3, ![16, 128, 512]⟩
abbrev S16x128x128 : Shape := ⟨3, ![16, 128, 128]⟩
abbrev S16x8x128 : Shape := ⟨3, ![16, 8, 128]⟩
abbrev S1x128x128 : Shape := ⟨3, ![1, 128, 128]⟩
abbrev S1x64x128 : Shape := ⟨3, ![1, 64, 128]⟩
abbrev S64x1 : Shape := ⟨2, ![64, 1]⟩
abbrev S1x32x128 : Shape := ⟨3, ![1, 32, 128]⟩
abbrev S32x1 : Shape := ⟨2, ![32, 1]⟩
abbrev S1x16x128 : Shape := ⟨3, ![1, 16, 128]⟩
abbrev S16x1 : Shape := ⟨2, ![16, 1]⟩
abbrev S1x8x128 : Shape := ⟨3, ![1, 8, 128]⟩
abbrev S8x1 : Shape := ⟨2, ![8, 1]⟩
abbrev S1x4x128 : Shape := ⟨3, ![1, 4, 128]⟩
abbrev S4x1 : Shape := ⟨2, ![4, 1]⟩
abbrev S1x2x128 : Shape := ⟨3, ![1, 2, 128]⟩
abbrev S2x1 : Shape := ⟨2, ![2, 1]⟩
abbrev S1x1x128 : Shape := ⟨3, ![1, 1, 128]⟩
abbrev S1x1x16 : Shape := ⟨3, ![1, 1, 16]⟩
abbrev S1x1x1 : Shape := ⟨3, ![1, 1, 1]⟩

abbrev nBuf : Space → Nat
  | .hbm => 116
  | .vmem => 20
  | .smem => 0
  | _ => 0

abbrev bufTy : (tb : Table) → Fin (tcTables nBuf tb) → BufTy
  | .hbm, ⟨0, _⟩ => ⟨S128x3072, .f32⟩
  | .hbm, ⟨1, _⟩ => ⟨S3072x8x2, .f32⟩
  | .hbm, ⟨2, _⟩ => ⟨S3072x8x2, .f32⟩
  | .hbm, ⟨3, _⟩ => ⟨S2048x8x8x2, .f32⟩
  | .hbm, ⟨4, _⟩ => ⟨S1024x8x8x2, .f32⟩
  | .hbm, ⟨5, _⟩ => ⟨S512x8x8x2, .f32⟩
  | .hbm, ⟨6, _⟩ => ⟨S256x8x8x2, .f32⟩
  | .hbm, ⟨7, _⟩ => ⟨S128x8x8x2, .f32⟩
  | .hbm, ⟨8, _⟩ => ⟨S64x8x8x2, .f32⟩
  | .hbm, ⟨9, _⟩ => ⟨S32x8x8x2, .f32⟩
  | .hbm, ⟨10, _⟩ => ⟨S16x8x8x2, .f32⟩
  | .hbm, ⟨11, _⟩ => ⟨S8x8x8x2, .f32⟩
  | .hbm, ⟨12, _⟩ => ⟨S4x8x8x2, .f32⟩
  | .hbm, ⟨13, _⟩ => ⟨S2x8x8x2, .f32⟩
  | .hbm, ⟨14, _⟩ => ⟨S1x8x8x2, .f32⟩
  | .hbm, ⟨15, _⟩ => ⟨S16, .f32⟩
  | .hbm, ⟨16, _⟩ => ⟨S4096, .i32⟩
  | .hbm, ⟨17, _⟩ => ⟨S3072, .i32⟩
  | .hbm, ⟨18, _⟩ => ⟨S4092, .i32⟩
  | .hbm, ⟨19, _⟩ => ⟨S_, .i32⟩
  | .hbm, ⟨20, _⟩ => ⟨S3072, .i32⟩
  | .hbm, ⟨21, _⟩ => ⟨S3072, .i1⟩
  | .hbm, ⟨22, _⟩ => ⟨S_, .i32⟩
  | .hbm, ⟨23, _⟩ => ⟨S3072, .i32⟩
  | .hbm, ⟨24, _⟩ => ⟨S3072, .i32⟩
  | .hbm, ⟨25, _⟩ => ⟨S3072, .i32⟩
  | .hbm, ⟨26, _⟩ => ⟨S3072x1, .i32⟩
  | .hbm, ⟨27, _⟩ => ⟨S1, .i32⟩
  | .hbm, ⟨28, _⟩ => ⟨S_, .i32⟩
  | .hbm, ⟨29, _⟩ => ⟨S3072x1, .i32⟩
  | .hbm, ⟨30, _⟩ => ⟨S3072x1, .i1⟩
  | .hbm, ⟨31, _⟩ => ⟨S1x1, .i32⟩
  | .hbm, ⟨32, _⟩ => ⟨S3072x1, .i32⟩
  | .hbm, ⟨33, _⟩ => ⟨S3072x1, .i1⟩
  | .hbm, ⟨34, _⟩ => ⟨S3072x1, .i1⟩
  | .hbm, ⟨35, _⟩ => ⟨S_, .i1⟩
  | .hbm, ⟨36, _⟩ => ⟨S3072, .i1⟩
  | .hbm, ⟨37, _⟩ => ⟨S128x3072, .f32⟩
  | .hbm, ⟨38, _⟩ => ⟨S128x3072, .i1⟩
  | .hbm, ⟨39, _⟩ => ⟨S_, .f32⟩
  | .hbm, ⟨40, _⟩ => ⟨S128x3072, .f32⟩
  | .hbm, ⟨41, _⟩ => ⟨S128x3072, .f32⟩
  | .hbm, ⟨42, _⟩ => ⟨S3072x16, .f32⟩
  | .hbm, ⟨43, _⟩ => ⟨S16x3072, .f32⟩
  | .hbm, ⟨44, _⟩ => ⟨S3072x16, .f32⟩
  | .hbm, ⟨45, _⟩ => ⟨S16x3072, .f32⟩
  | .hbm, ⟨46, _⟩ => ⟨S32x3072, .f32⟩
  | .hbm, ⟨47, _⟩ => ⟨S_, .i32⟩
  | .hbm, ⟨48, _⟩ => ⟨S3072, .i32⟩
  | .hbm, ⟨49, _⟩ => ⟨S3072, .i1⟩
  | .hbm, ⟨50, _⟩ => ⟨S_, .i32⟩
  | .hbm, ⟨51, _⟩ => ⟨S3072, .i32⟩
  | .hbm, ⟨52, _⟩ => ⟨S3072, .i32⟩
  | .hbm, ⟨53, _⟩ => ⟨S3072, .i32⟩
  | .hbm, ⟨54, _⟩ => ⟨S3072x1, .i32⟩
  | .hbm, ⟨55, _⟩ => ⟨S1, .i32⟩
  | .hbm, ⟨56, _⟩ => ⟨S_, .i32⟩
  | .hbm, ⟨57, _⟩ => ⟨S3072x1, .i32⟩
  | .hbm, ⟨58, _⟩ => ⟨S3072x1, .i1⟩
  | .hbm, ⟨59, _⟩ => ⟨S1x1, .i32⟩
  | .hbm, ⟨60, _⟩ => ⟨S3072x1, .i32⟩
  | .hbm, ⟨61, _⟩ => ⟨S3072x1, .i1⟩
  | .hbm, ⟨62, _⟩ => ⟨S3072x1, .i1⟩
  | .hbm, ⟨63, _⟩ => ⟨S_, .i1⟩
  | .hbm, ⟨64, _⟩ => ⟨S3072, .i1⟩
  | .hbm, ⟨65, _⟩ => ⟨S32x3072, .f32⟩
  | .hbm, ⟨66, _⟩ => ⟨S32x3072, .i1⟩
  | .hbm, ⟨67, _⟩ => ⟨S_, .f32⟩
  | .hbm, ⟨68, _⟩ => ⟨S32x3072, .f32⟩
  | .hbm, ⟨69, _⟩ => ⟨S32x3072, .f32⟩
  | .hbm, ⟨70, _⟩ => ⟨S16x3072, .f32⟩
  | .hbm, ⟨71, _⟩ => ⟨S16x3072, .f32⟩
  | .hbm, ⟨72, _⟩ => ⟨S2048x128, .f32⟩
  | .hbm, ⟨73, _⟩ => ⟨S1024x128, .f32⟩
  | .hbm, ⟨74, _⟩ => ⟨S512x128, .f32⟩
  | .hbm, ⟨75, _⟩ => ⟨S256x128, .f32⟩
  | .hbm, ⟨76, _⟩ => ⟨S128x128, .f32⟩
  | .hbm, ⟨77, _⟩ => ⟨S64x128, .f32⟩
  | .hbm, ⟨78, _⟩ => ⟨S32x128, .f32⟩
  | .hbm, ⟨79, _⟩ => ⟨S16x128, .f32⟩
  | .hbm, ⟨80, _⟩ => ⟨S8x128, .f32⟩
  | .hbm, ⟨81, _⟩ => ⟨S4x128, .f32⟩
  | .hbm, ⟨82, _⟩ => ⟨S4092x128, .f32⟩
  | .hbm, ⟨83, _⟩ => ⟨S_, .i32⟩
  | .hbm, ⟨84, _⟩ => ⟨S4092, .i32⟩
  | .hbm, ⟨85, _⟩ => ⟨S4092, .i1⟩
  | .hbm, ⟨86, _⟩ => ⟨S_, .i32⟩
  | .hbm, ⟨87, _⟩ => ⟨S4092, .i32⟩
  | .hbm, ⟨88, _⟩ => ⟨S4092, .i32⟩
  | .hbm, ⟨89, _⟩ => ⟨S4092, .i32⟩
  | .hbm, ⟨90, _⟩ => ⟨S4092x1, .i32⟩
  | .hbm, ⟨91, _⟩ => ⟨S1, .i32⟩
  | .hbm, ⟨92, _⟩ => ⟨S_, .i32⟩
  | .hbm, ⟨93, _⟩ => ⟨S4092x1, .i32⟩
  | .hbm, ⟨94, _⟩ => ⟨S4092x1, .i1⟩
  | .hbm, ⟨95, _⟩ => ⟨S1x1, .i32⟩
  | .hbm, ⟨96, _⟩ => ⟨S4092x1, .i32⟩
  | .hbm, ⟨97, _⟩ => ⟨S4092x1, .i1⟩
  | .hbm, ⟨98, _⟩ => ⟨S4092x1, .i1⟩
  | .hbm, ⟨99, _⟩ => ⟨S_, .i1⟩
  | .hbm, ⟨100, _⟩ => ⟨S4092, .i1⟩
  | .hbm, ⟨101, _⟩ => ⟨S4092x128, .f32⟩
  | .hbm, ⟨102, _⟩ => ⟨S4092x128, .i1⟩
  | .hbm, ⟨103, _⟩ => ⟨S_, .f32⟩
  | .hbm, ⟨104, _⟩ => ⟨S4092x128, .f32⟩
  | .hbm, ⟨105, _⟩ => ⟨S4092x128, .f32⟩
  | .hbm, ⟨106, _⟩ => ⟨S2048x128, .f32⟩
  | .hbm, ⟨107, _⟩ => ⟨S128x2048, .f32⟩
  | .hbm, ⟨108, _⟩ => ⟨S1024x128, .f32⟩
  | .hbm, ⟨109, _⟩ => ⟨S128x1024, .f32⟩
  | .hbm, ⟨110, _⟩ => ⟨S512x128, .f32⟩
  | .hbm, ⟨111, _⟩ => ⟨S128x512, .f32⟩
  | .hbm, ⟨112, _⟩ => ⟨S2x128, .f32⟩
  | .hbm, ⟨113, _⟩ => ⟨S1x128, .f32⟩
  | .hbm, ⟨114, _⟩ => ⟨S1x16, .f32⟩
  | .hbm, ⟨115, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S128x512, .f32⟩
  | .local _ .vmem, ⟨7, _⟩ => ⟨S128x512, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S4092x128, .f32⟩
  | .local _ .vmem, ⟨13, _⟩ => ⟨S2x128, .f32⟩
  | .local _ .vmem, ⟨14, _⟩ => ⟨S1x128, .f32⟩
  | .local _ .vmem, ⟨15, _⟩ => ⟨S1x16, .f32⟩
  | .local _ .vmem, ⟨16, _⟩ => ⟨S1x128, .f32⟩
  | .local _ .vmem, ⟨17, _⟩ => ⟨S16x128x512, .f32⟩
  | .local _ .vmem, ⟨18, _⟩ => ⟨S16x128x128, .f32⟩
  | .local _ .vmem, ⟨19, _⟩ => ⟨S16x8x128, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![3], ![false]⟩

def k0_off1 (i : grid0.Coords) : Fin 2 → Nat :=
  let c3584_i32 : BitVec 32 := 3584#32
  let arg0 : BitVec 32 := BitVec.ofNat 32 (i 0).val
  let c64_i32 : BitVec 32 := 64#32
  let v11477 : BitVec 32 := Scalar.muli arg0 c64_i32
  let v11478 : BitVec 32 := Scalar.addi c3584_i32 v11477
  let v11479 : Index := Scalar.indexCast v11478
  let c0_3417 : Index := 0#32
  ![v11479.toNat, 0]
def k0_off2 (i : grid0.Coords) : Fin 2 → Nat :=
  let c3840_i32 : BitVec 32 := 3840#32
  let arg0 : BitVec 32 := BitVec.ofNat 32 (i 0).val
  let c32_i32 : BitVec 32 := 32#32
  let v12345 : BitVec 32 := Scalar.muli arg0 c32_i32
  let v12346 : BitVec 32 := Scalar.addi c3840_i32 v12345
  let v12347 : Index := Scalar.indexCast v12346
  let c0_3562 : Index := 0#32
  ![v12347.toNat, 0]
def k0_off3 (i : grid0.Coords) : Fin 2 → Nat :=
  let c3968_i32 : BitVec 32 := 3968#32
  let arg0 : BitVec 32 := BitVec.ofNat 32 (i 0).val
  let c16_i32 : BitVec 32 := 16#32
  let v13213 : BitVec 32 := Scalar.muli arg0 c16_i32
  let v13214 : BitVec 32 := Scalar.addi c3968_i32 v13213
  let v13215 : Index := Scalar.indexCast v13214
  let c0_3707 : Index := 0#32
  ![v13215.toNat, 0]
def k0_off4 (i : grid0.Coords) : Fin 2 → Nat :=
  let c4032_i32 : BitVec 32 := 4032#32
  let arg0 : BitVec 32 := BitVec.ofNat 32 (i 0).val
  let c8_i32 : BitVec 32 := 8#32
  let v14081 : BitVec 32 := Scalar.muli arg0 c8_i32
  let v14082 : BitVec 32 := Scalar.addi c4032_i32 v14081
  let v14083 : Index := Scalar.indexCast v14082
  let c0_3852 : Index := 0#32
  ![v14083.toNat, 0]
def k0_off5 (i : grid0.Coords) : Fin 2 → Nat :=
  let c4064_i32 : BitVec 32 := 4064#32
  let arg0 : BitVec 32 := BitVec.ofNat 32 (i 0).val
  let c4_i32 : BitVec 32 := 4#32
  let v14949 : BitVec 32 := Scalar.muli arg0 c4_i32
  let v14950 : BitVec 32 := Scalar.addi c4064_i32 v14949
  let v14951 : Index := Scalar.indexCast v14950
  let c0_3997 : Index := 0#32
  ![v14951.toNat, 0]
def k0_off6 (i : grid0.Coords) : Fin 2 → Nat :=
  let c4080_i32 : BitVec 32 := 4080#32
  let arg0 : BitVec 32 := BitVec.ofNat 32 (i 0).val
  let c2_i32 : BitVec 32 := 2#32
  let v15817 : BitVec 32 := Scalar.muli arg0 c2_i32
  let v15818 : BitVec 32 := Scalar.addi c4080_i32 v15817
  let v15819 : Index := Scalar.indexCast v15818
  let c0_4142 : Index := 0#32
  ![v15819.toNat, 0]
def k0_off7 (i : grid0.Coords) : Fin 2 → Nat :=
  let c4088_i32 : BitVec 32 := 4088#32
  let arg0 : BitVec 32 := BitVec.ofNat 32 (i 0).val
  let c1_i32 : BitVec 32 := 1#32
  let v16685 : BitVec 32 := Scalar.muli arg0 c1_i32
  let v16686 : BitVec 32 := Scalar.addi c4088_i32 v16685
  let v16687 : Index := Scalar.indexCast v16686
  let c0_4287 : Index := 0#32
  ![v16687.toNat, 0]
def k0_off8 (i : grid0.Coords) : Fin 3 → Nat :=
  let c0_4435 : Index := 0#32
  let arg0 : BitVec 32 := BitVec.ofNat 32 (i 0).val
  let v17555 : Index := Scalar.indexCast arg0
  let c0_4436 : Index := 0#32
  ![0, v17555.toNat, 0]
def k0_off9 (i : grid0.Coords) : Fin 3 → Nat :=
  let c1_4440 : Index := 1#32
  let arg0 : BitVec 32 := BitVec.ofNat 32 (i 0).val
  let v17561 : Index := Scalar.indexCast arg0
  let c0_4441 : Index := 0#32
  ![1, v17561.toNat, 0]
def k0_off10 (i : grid0.Coords) : Fin 3 → Nat :=
  let c2_4445 : Index := 2#32
  let arg0 : BitVec 32 := BitVec.ofNat 32 (i 0).val
  let v17567 : Index := Scalar.indexCast arg0
  let c0_4446 : Index := 0#32
  ![2, v17567.toNat, 0]
def k0_off11 (i : grid0.Coords) : Fin 3 → Nat :=
  let c3_4450 : Index := 3#32
  let arg0 : BitVec 32 := BitVec.ofNat 32 (i 0).val
  let v17573 : Index := Scalar.indexCast arg0
  let c0_4451 : Index := 0#32
  ![3, v17573.toNat, 0]
def k0_off12 (i : grid0.Coords) : Fin 3 → Nat :=
  let c4_4455 : Index := 4#32
  let arg0 : BitVec 32 := BitVec.ofNat 32 (i 0).val
  let v17579 : Index := Scalar.indexCast arg0
  let c0_4456 : Index := 0#32
  ![4, v17579.toNat, 0]
def k0_off13 (i : grid0.Coords) : Fin 3 → Nat :=
  let c5_4460 : Index := 5#32
  let arg0 : BitVec 32 := BitVec.ofNat 32 (i 0).val
  let v17585 : Index := Scalar.indexCast arg0
  let c0_4461 : Index := 0#32
  ![5, v17585.toNat, 0]
def k0_off14 (i : grid0.Coords) : Fin 3 → Nat :=
  let c6_4465 : Index := 6#32
  let arg0 : BitVec 32 := BitVec.ofNat 32 (i 0).val
  let v17591 : Index := Scalar.indexCast arg0
  let c0_4466 : Index := 0#32
  ![6, v17591.toNat, 0]
def k0_off15 (i : grid0.Coords) : Fin 3 → Nat :=
  let c7_4470 : Index := 7#32
  let arg0 : BitVec 32 := BitVec.ofNat 32 (i 0).val
  let v17597 : Index := Scalar.indexCast arg0
  let c0_4471 : Index := 0#32
  ![7, v17597.toNat, 0]
def k0_off16 (i : grid0.Coords) : Fin 3 → Nat :=
  let c8_4475 : Index := 8#32
  let arg0 : BitVec 32 := BitVec.ofNat 32 (i 0).val
  let v17603 : Index := Scalar.indexCast arg0
  let c0_4476 : Index := 0#32
  ![8, v17603.toNat, 0]
def k0_off17 (i : grid0.Coords) : Fin 3 → Nat :=
  let c9_4480 : Index := 9#32
  let arg0 : BitVec 32 := BitVec.ofNat 32 (i 0).val
  let v17609 : Index := Scalar.indexCast arg0
  let c0_4481 : Index := 0#32
  ![9, v17609.toNat, 0]
def k0_off18 (i : grid0.Coords) : Fin 3 → Nat :=
  let c10_4485 : Index := 10#32
  let arg0 : BitVec 32 := BitVec.ofNat 32 (i 0).val
  let v17615 : Index := Scalar.indexCast arg0
  let c0_4486 : Index := 0#32
  ![10, v17615.toNat, 0]
def k0_off19 (i : grid0.Coords) : Fin 3 → Nat :=
  let c11_4490 : Index := 11#32
  let arg0 : BitVec 32 := BitVec.ofNat 32 (i 0).val
  let v17621 : Index := Scalar.indexCast arg0
  let c0_4491 : Index := 0#32
  ![11, v17621.toNat, 0]
def k0_off20 (i : grid0.Coords) : Fin 3 → Nat :=
  let c12_4495 : Index := 12#32
  let arg0 : BitVec 32 := BitVec.ofNat 32 (i 0).val
  let v17627 : Index := Scalar.indexCast arg0
  let c0_4496 : Index := 0#32
  ![12, v17627.toNat, 0]
def k0_off21 (i : grid0.Coords) : Fin 3 → Nat :=
  let c13_4500 : Index := 13#32
  let arg0 : BitVec 32 := BitVec.ofNat 32 (i 0).val
  let v17633 : Index := Scalar.indexCast arg0
  let c0_4501 : Index := 0#32
  ![13, v17633.toNat, 0]
def k0_off22 (i : grid0.Coords) : Fin 3 → Nat :=
  let c14_4505 : Index := 14#32
  let arg0 : BitVec 32 := BitVec.ofNat 32 (i 0).val
  let v17639 : Index := Scalar.indexCast arg0
  let c0_4506 : Index := 0#32
  ![14, v17639.toNat, 0]
def k0_off23 (i : grid0.Coords) : Fin 3 → Nat :=
  let c15_4510 : Index := 15#32
  let arg0 : BitVec 32 := BitVec.ofNat 32 (i 0).val
  let v17645 : Index := Scalar.indexCast arg0
  let c0_4511 : Index := 0#32
  ![15, v17645.toNat, 0]
def k0_cond2 (i : grid0.Coords) : BitVec 1 :=
  let arg0 : BitVec 32 := BitVec.ofNat 32 (i 0).val
  let c2_i32_4512 : BitVec 32 := 2#32
  let v17649 : BitVec 1 := Scalar.cmpi .eq arg0 c2_i32_4512
  let v17650 : BitVec 32 := Scalar.extui v17649
  let c0_i32_4513 : BitVec 32 := 0#32
  let v17651 : BitVec 1 := Scalar.cmpi .ne v17650 c0_i32_4513
  v17651

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4092x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "half_log_two_pi" => some ((2⁻¹ * (Real.log (13176795 / 2097152)) : ℝ) : EReal)
  | _ => none
-- ==== ReferenceIdeal.lean ====
abbrev S128x3072 : Shape := ⟨2, ![128, 3072]⟩
abbrev S3072x8x2 : Shape := ⟨3, ![3072, 8, 2]⟩
abbrev S2048x8x8x2 : Shape := ⟨4, ![2048, 8, 8, 2]⟩
abbrev S1024x8x8x2 : Shape := ⟨4, ![1024, 8, 8, 2]⟩
abbrev S512x8x8x2 : Shape := ⟨4, ![512, 8, 8, 2]⟩
abbrev S256x8x8x2 : Shape := ⟨4, ![256, 8, 8, 2]⟩
abbrev S128x8x8x2 : Shape := ⟨4, ![128, 8, 8, 2]⟩
abbrev S64x8x8x2 : Shape := ⟨4, ![64, 8, 8, 2]⟩
abbrev S32x8x8x2 : Shape := ⟨4, ![32, 8, 8, 2]⟩
abbrev S16x8x8x2 : Shape := ⟨4, ![16, 8, 8, 2]⟩
abbrev S8x8x8x2 : Shape := ⟨4, ![8, 8, 8, 2]⟩
abbrev S4x8x8x2 : Shape := ⟨4, ![4, 8, 8, 2]⟩
abbrev S2x8x8x2 : Shape := ⟨4, ![2, 8, 8, 2]⟩
abbrev S1x8x8x2 : Shape := ⟨4, ![1, 8, 8, 2]⟩
abbrev S16 : Shape := ⟨1, ![16]⟩
abbrev S4096 : Shape := ⟨1, ![4096]⟩
abbrev S_ : Shape := ⟨0, ![]⟩
abbrev S128x3072x1x1 : Shape := ⟨4, ![128, 3072, 1, 1]⟩
abbrev S1x3072x8x2 : Shape := ⟨4, ![1, 3072, 8, 2]⟩
abbrev S128x3072x8x2 : Shape := ⟨4, ![128, 3072, 8, 2]⟩
abbrev S128x4096x8x2 : Shape := ⟨4, ![128, 4096, 8, 2]⟩
abbrev S1 : Shape := ⟨1, ![1]⟩
abbrev S4096x1 : Shape := ⟨2, ![4096, 1]⟩
abbrev S1x1 : Shape := ⟨2, ![1, 1]⟩
abbrev S128x2048x8x2 : Shape := ⟨4, ![128, 2048, 8, 2]⟩
abbrev S2048x8x2 : Shape := ⟨3, ![2048, 8, 2]⟩
abbrev S2048x8x1x2 : Shape := ⟨4, ![2048, 8, 1, 2]⟩
abbrev S128x2048x1x8x2 : Shape := ⟨5, ![128, 2048, 1, 8, 2]⟩
abbrev S1x2048x8x8x2 : Shape := ⟨5, ![1, 2048, 8, 8, 2]⟩
abbrev S128x2048x8x8x2 : Shape := ⟨5, ![128, 2048, 8, 8, 2]⟩
abbrev S128x2048x8x1x2 : Shape := ⟨5, ![128, 2048, 8, 1, 2]⟩
abbrev S128x1024x8x2 : Shape := ⟨4, ![128, 1024, 8, 2]⟩
abbrev S1024x8x2 : Shape := ⟨3, ![1024, 8, 2]⟩
abbrev S1024x8x1x2 : Shape := ⟨4, ![1024, 8, 1, 2]⟩
abbrev S128x1024x1x8x2 : Shape := ⟨5, ![128, 1024, 1, 8, 2]⟩
abbrev S1x1024x8x8x2 : Shape := ⟨5, ![1, 1024, 8, 8, 2]⟩
abbrev S128x1024x8x8x2 : Shape := ⟨5, ![128, 1024, 8, 8, 2]⟩
abbrev S128x1024x8x1x2 : Shape := ⟨5, ![128, 1024, 8, 1, 2]⟩
abbrev S128x512x8x2 : Shape := ⟨4, ![128, 512, 8, 2]⟩
abbrev S512x8x2 : Shape := ⟨3, ![512, 8, 2]⟩
abbrev S512x8x1x2 : Shape := ⟨4, ![512, 8, 1, 2]⟩
abbrev S128x512x1x8x2 : Shape := ⟨5, ![128, 512, 1, 8, 2]⟩
abbrev S1x512x8x8x2 : Shape := ⟨5, ![1, 512, 8, 8, 2]⟩
abbrev S128x512x8x8x2 : Shape := ⟨5, ![128, 512, 8, 8, 2]⟩
abbrev S128x512x8x1x2 : Shape := ⟨5, ![128, 512, 8, 1, 2]⟩
abbrev S128x256x8x2 : Shape := ⟨4, ![128, 256, 8, 2]⟩
abbrev S256x8x2 : Shape := ⟨3, ![256, 8, 2]⟩
abbrev S256x8x1x2 : Shape := ⟨4, ![256, 8, 1, 2]⟩
abbrev S128x256x1x8x2 : Shape := ⟨5, ![128, 256, 1, 8, 2]⟩
abbrev S1x256x8x8x2 : Shape := ⟨5, ![1, 256, 8, 8, 2]⟩
abbrev S128x256x8x8x2 : Shape := ⟨5, ![128, 256, 8, 8, 2]⟩
abbrev S128x256x8x1x2 : Shape := ⟨5, ![128, 256, 8, 1, 2]⟩
abbrev S128x128x8x2 : Shape := ⟨4, ![128, 128, 8, 2]⟩
abbrev S128x8x2 : Shape := ⟨3, ![128, 8, 2]⟩
abbrev S128x8x1x2 : Shape := ⟨4, ![128, 8, 1, 2]⟩
abbrev S128x128x1x8x2 : Shape := ⟨5, ![128, 128, 1, 8, 2]⟩
abbrev S1x128x8x8x2 : Shape := ⟨5, ![1, 128, 8, 8, 2]⟩
abbrev S128x128x8x8x2 : Shape := ⟨5, ![128, 128, 8, 8, 2]⟩
abbrev S128x128x8x1x2 : Shape := ⟨5, ![128, 128, 8, 1, 2]⟩
abbrev S128x64x8x2 : Shape := ⟨4, ![128, 64, 8, 2]⟩
abbrev S64x8x2 : Shape := ⟨3, ![64, 8, 2]⟩
abbrev S64x8x1x2 : Shape := ⟨4, ![64, 8, 1, 2]⟩
abbrev S128x64x1x8x2 : Shape := ⟨5, ![128, 64, 1, 8, 2]⟩
abbrev S1x64x8x8x2 : Shape := ⟨5, ![1, 64, 8, 8, 2]⟩
abbrev S128x64x8x8x2 : Shape := ⟨5, ![128, 64, 8, 8, 2]⟩
abbrev S128x64x8x1x2 : Shape := ⟨5, ![128, 64, 8, 1, 2]⟩
abbrev S128x32x8x2 : Shape := ⟨4, ![128, 32, 8, 2]⟩
abbrev S32x8x2 : Shape := ⟨3, ![32, 8, 2]⟩
abbrev S32x8x1x2 : Shape := ⟨4, ![32, 8, 1, 2]⟩
abbrev S128x32x1x8x2 : Shape := ⟨5, ![128, 32, 1, 8, 2]⟩
abbrev S1x32x8x8x2 : Shape := ⟨5, ![1, 32, 8, 8, 2]⟩
abbrev S128x32x8x8x2 : Shape := ⟨5, ![128, 32, 8, 8, 2]⟩
abbrev S128x32x8x1x2 : Shape := ⟨5, ![128, 32, 8, 1, 2]⟩
abbrev S128x16x8x2 : Shape := ⟨4, ![128, 16, 8, 2]⟩
abbrev S16x8x2 : Shape := ⟨3, ![16, 8, 2]⟩
abbrev S16x8x1x2 : Shape := ⟨4, ![16, 8, 1, 2]⟩
abbrev S128x16x1x8x2 : Shape := ⟨5, ![128, 16, 1, 8, 2]⟩
abbrev S1x16x8x8x2 : Shape := ⟨5, ![1, 16, 8, 8, 2]⟩
abbrev S128x16x8x8x2 : Shape := ⟨5, ![128, 16, 8, 8, 2]⟩
abbrev S128x16x8x1x2 : Shape := ⟨5, ![128, 16, 8, 1, 2]⟩
abbrev S8x8x2 : Shape := ⟨3, ![8, 8, 2]⟩
abbrev S8x8x1x2 : Shape := ⟨4, ![8, 8, 1, 2]⟩
abbrev S128x8x1x8x2 : Shape := ⟨5, ![128, 8, 1, 8, 2]⟩
abbrev S1x8x8x8x2 : Shape := ⟨5, ![1, 8, 8, 8, 2]⟩
abbrev S128x8x8x8x2 : Shape := ⟨5, ![128, 8, 8, 8, 2]⟩
abbrev S128x8x8x1x2 : Shape := ⟨5, ![128, 8, 8, 1, 2]⟩
abbrev S128x4x8x2 : Shape := ⟨4, ![128, 4, 8, 2]⟩
abbrev S4x8x2 : Shape := ⟨3, ![4, 8, 2]⟩
abbrev S4x8x1x2 : Shape := ⟨4, ![4, 8, 1, 2]⟩
abbrev S128x4x1x8x2 : Shape := ⟨5, ![128, 4, 1, 8, 2]⟩
abbrev S1x4x8x8x2 : Shape := ⟨5, ![1, 4, 8, 8, 2]⟩
abbrev S128x4x8x8x2 : Shape := ⟨5, ![128, 4, 8, 8, 2]⟩
abbrev S128x4x8x1x2 : Shape := ⟨5, ![128, 4, 8, 1, 2]⟩
abbrev S128x2x8x2 : Shape := ⟨4, ![128, 2, 8, 2]⟩
abbrev S2x8x2 : Shape := ⟨3, ![2, 8, 2]⟩
abbrev S2x8x1x2 : Shape := ⟨4, ![2, 8, 1, 2]⟩
abbrev S128x2x1x8x2 : Shape := ⟨5, ![128, 2, 1, 8, 2]⟩
abbrev S1x2x8x8x2 : Shape := ⟨5, ![1, 2, 8, 8, 2]⟩
abbrev S128x2x8x8x2 : Shape := ⟨5, ![128, 2, 8, 8, 2]⟩
abbrev S128x2x8x1x2 : Shape := ⟨5, ![128, 2, 8, 1, 2]⟩
abbrev S128x1x8x2 : Shape := ⟨4, ![128, 1, 8, 2]⟩
abbrev S1x8x2 : Shape := ⟨3, ![1, 8, 2]⟩
abbrev S1x8x1x2 : Shape := ⟨4, ![1, 8, 1, 2]⟩
abbrev S128x1x1x8x2 : Shape := ⟨5, ![128, 1, 1, 8, 2]⟩
abbrev S1x1x8x8x2 : Shape := ⟨5, ![1, 1, 8, 8, 2]⟩
abbrev S128x1x8x8x2 : Shape := ⟨5, ![128, 1, 8, 8, 2]⟩
abbrev S128x1x8x1x2 : Shape := ⟨5, ![128, 1, 8, 1, 2]⟩
abbrev S128x16 : Shape := ⟨2, ![128, 16]⟩
abbrev S1x16 : Shape := ⟨2, ![1, 16]⟩
abbrev S128 : Shape := ⟨1, ![128]⟩
abbrev S128x1 : Shape := ⟨2, ![128, 1]⟩
abbrev S1x128 : Shape := ⟨2, ![1, 128]⟩

abbrev nBuf : Space → Nat
  | .hbm => 497
  | .vmem => 0
  | .smem => 0
  | _ => 0

abbrev hbmTy0_0 (i : Nat) : BufTy := match i % 128 with
  | 0 => ⟨S128x3072, .f32⟩
  | 1 => ⟨S3072x8x2, .f32⟩
  | 2 => ⟨S3072x8x2, .f32⟩
  | 3 => ⟨S2048x8x8x2, .f32⟩
  | 4 => ⟨S1024x8x8x2, .f32⟩
  | 5 => ⟨S512x8x8x2, .f32⟩
  | 6 => ⟨S256x8x8x2, .f32⟩
  | 7 => ⟨S128x8x8x2, .f32⟩
  | 8 => ⟨S64x8x8x2, .f32⟩
  | 9 => ⟨S32x8x8x2, .f32⟩
  | 10 => ⟨S16x8x8x2, .f32⟩
  | 11 => ⟨S8x8x8x2, .f32⟩
  | 12 => ⟨S4x8x8x2, .f32⟩
  | 13 => ⟨S2x8x8x2, .f32⟩
  | 14 => ⟨S1x8x8x2, .f32⟩
  | 15 => ⟨S16, .f32⟩
  | 16 => ⟨S4096, .i32⟩
  | 17 => ⟨S_, .f32⟩
  | 18 => ⟨S3072x8x2, .f32⟩
  | 19 => ⟨S3072x8x2, .f32⟩
  | 20 => ⟨S3072x8x2, .f32⟩
  | 21 => ⟨S128x3072x1x1, .f32⟩
  | 22 => ⟨S1x3072x8x2, .f32⟩
  | 23 => ⟨S128x3072x8x2, .f32⟩
  | 24 => ⟨S128x3072x8x2, .f32⟩
  | 25 => ⟨S128x3072x8x2, .f32⟩
  | 26 => ⟨S1x3072x8x2, .f32⟩
  | 27 => ⟨S128x3072x8x2, .f32⟩
  | 28 => ⟨S128x3072x8x2, .f32⟩
  | 29 => ⟨S128x3072x8x2, .f32⟩
  | 30 => ⟨S_, .f32⟩
  | 31 => ⟨S128x3072x8x2, .f32⟩
  | 32 => ⟨S128x3072x8x2, .f32⟩
  | 33 => ⟨S3072x8x2, .f32⟩
  | 34 => ⟨S1x3072x8x2, .f32⟩
  | 35 => ⟨S128x3072x8x2, .f32⟩
  | 36 => ⟨S128x3072x8x2, .f32⟩
  | 37 => ⟨S_, .f32⟩
  | 38 => ⟨S_, .f32⟩
  | 39 => ⟨S_, .f32⟩
  | 40 => ⟨S_, .f32⟩
  | 41 => ⟨S_, .f32⟩
  | 42 => ⟨S128x3072x8x2, .f32⟩
  | 43 => ⟨S128x3072x8x2, .f32⟩
  | 44 => ⟨S_, .f32⟩
  | 45 => ⟨S128x4096x8x2, .f32⟩
  | 46 => ⟨S_, .i32⟩
  | 47 => ⟨S1, .i32⟩
  | 48 => ⟨S128x4096x8x2, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S1, .i32⟩
  | 58 => ⟨S_, .i32⟩
  | 59 => ⟨S4096x1, .i32⟩
  | 60 => ⟨S4096x1, .i1⟩
  | 61 => ⟨S1x1, .i32⟩
  | 62 => ⟨S4096x1, .i32⟩
  | 63 => ⟨S4096x1, .i1⟩
  | 64 => ⟨S4096x1, .i1⟩
  | 65 => ⟨S_, .i1⟩
  | 66 => ⟨S4096, .i1⟩
  | 67 => ⟨S128x4096x8x2, .f32⟩
  | 68 => ⟨S128x4096x8x2, .i1⟩
  | 69 => ⟨S_, .f32⟩
  | 70 => ⟨S128x4096x8x2, .f32⟩
  | 71 => ⟨S128x4096x8x2, .f32⟩
  | 72 => ⟨S128x2048x8x2, .f32⟩
  | 73 => ⟨S128x2048x8x2, .f32⟩
  | 74 => ⟨S128x2048x8x2, .f32⟩
  | 75 => ⟨S_, .f32⟩
  | 76 => ⟨S2048x8x2, .f32⟩
  | 77 => ⟨S_, .f32⟩
  | 78 => ⟨S2048x8x2, .f32⟩
  | 79 => ⟨S2048x8x2, .f32⟩
  | 80 => ⟨S2048x8x1x2, .f32⟩
  | 81 => ⟨S2048x8x8x2, .f32⟩
  | 82 => ⟨S2048x8x8x2, .f32⟩
  | 83 => ⟨S2048x8x8x2, .f32⟩
  | 84 => ⟨S_, .f32⟩
  | 85 => ⟨S2048x8x2, .f32⟩
  | 86 => ⟨S2048x8x1x2, .f32⟩
  | 87 => ⟨S2048x8x1x2, .f32⟩
  | 88 => ⟨S2048x8x8x2, .f32⟩
  | 89 => ⟨S2048x8x8x2, .f32⟩
  | 90 => ⟨S128x2048x1x8x2, .f32⟩
  | 91 => ⟨S1x2048x8x8x2, .f32⟩
  | 92 => ⟨S128x2048x8x8x2, .f32⟩
  | 93 => ⟨S128x2048x8x8x2, .f32⟩
  | 94 => ⟨S128x2048x8x8x2, .f32⟩
  | 95 => ⟨S_, .f32⟩
  | 96 => ⟨S128x2048x8x2, .f32⟩
  | 97 => ⟨S128x2048x8x1x2, .f32⟩
  | 98 => ⟨S128x2048x8x8x2, .f32⟩
  | 99 => ⟨S128x2048x8x8x2, .f32⟩
  | 100 => ⟨S128x2048x8x8x2, .f32⟩
  | 101 => ⟨S_, .f32⟩
  | 102 => ⟨S128x2048x8x2, .f32⟩
  | 103 => ⟨S128x2048x8x2, .f32⟩
  | 104 => ⟨S128x2048x8x2, .f32⟩
  | 105 => ⟨S128x1024x8x2, .f32⟩
  | 106 => ⟨S128x1024x8x2, .f32⟩
  | 107 => ⟨S128x1024x8x2, .f32⟩
  | 108 => ⟨S_, .f32⟩
  | 109 => ⟨S1024x8x2, .f32⟩
  | 110 => ⟨S_, .f32⟩
  | 111 => ⟨S1024x8x2, .f32⟩
  | 112 => ⟨S1024x8x2, .f32⟩
  | 113 => ⟨S1024x8x1x2, .f32⟩
  | 114 => ⟨S1024x8x8x2, .f32⟩
  | 115 => ⟨S1024x8x8x2, .f32⟩
  | 116 => ⟨S1024x8x8x2, .f32⟩
  | 117 => ⟨S_, .f32⟩
  | 118 => ⟨S1024x8x2, .f32⟩
  | 119 => ⟨S1024x8x1x2, .f32⟩
  | 120 => ⟨S1024x8x1x2, .f32⟩
  | 121 => ⟨S1024x8x8x2, .f32⟩
  | 122 => ⟨S1024x8x8x2, .f32⟩
  | 123 => ⟨S128x1024x1x8x2, .f32⟩
  | 124 => ⟨S1x1024x8x8x2, .f32⟩
  | 125 => ⟨S128x1024x8x8x2, .f32⟩
  | 126 => ⟨S128x1024x8x8x2, .f32⟩
  | 127 => ⟨S128x1024x8x8x2, .f32⟩
  | _ => ⟨S128x3072, .f32⟩

abbrev hbmTy0_1 (i : Nat) : BufTy := match i % 128 with
  | 0 => ⟨S_, .f32⟩
  | 1 => ⟨S128x1024x8x2, .f32⟩
  | 2 => ⟨S128x1024x8x1x2, .f32⟩
  | 3 => ⟨S128x1024x8x8x2, .f32⟩
  | 4 => ⟨S128x1024x8x8x2, .f32⟩
  | 5 => ⟨S128x1024x8x8x2, .f32⟩
  | 6 => ⟨S_, .f32⟩
  | 7 => ⟨S128x1024x8x2, .f32⟩
  | 8 => ⟨S128x1024x8x2, .f32⟩
  | 9 => ⟨S128x1024x8x2, .f32⟩
  | 10 => ⟨S128x512x8x2, .f32⟩
  | 11 => ⟨S128x512x8x2, .f32⟩
  | 12 => ⟨S128x512x8x2, .f32⟩
  | 13 => ⟨S_, .f32⟩
  | 14 => ⟨S512x8x2, .f32⟩
  | 15 => ⟨S_, .f32⟩
  | 16 => ⟨S512x8x2, .f32⟩
  | 17 => ⟨S512x8x2, .f32⟩
  | 18 => ⟨S512x8x1x2, .f32⟩
  | 19 => ⟨S512x8x8x2, .f32⟩
  | 20 => ⟨S512x8x8x2, .f32⟩
  | 21 => ⟨S512x8x8x2, .f32⟩
  | 22 => ⟨S_, .f32⟩
  | 23 => ⟨S512x8x2, .f32⟩
  | 24 => ⟨S512x8x1x2, .f32⟩
  | 25 => ⟨S512x8x1x2, .f32⟩
  | 26 => ⟨S512x8x8x2, .f32⟩
  | 27 => ⟨S512x8x8x2, .f32⟩
  | 28 => ⟨S128x512x1x8x2, .f32⟩
  | 29 => ⟨S1x512x8x8x2, .f32⟩
  | 30 => ⟨S128x512x8x8x2, .f32⟩
  | 31 => ⟨S128x512x8x8x2, .f32⟩
  | 32 => ⟨S128x512x8x8x2, .f32⟩
  | 33 => ⟨S_, .f32⟩
  | 34 => ⟨S128x512x8x2, .f32⟩
  | 35 => ⟨S128x512x8x1x2, .f32⟩
  | 36 => ⟨S128x512x8x8x2, .f32⟩
  | 37 => ⟨S128x512x8x8x2, .f32⟩
  | 38 => ⟨S128x512x8x8x2, .f32⟩
  | 39 => ⟨S_, .f32⟩
  | 40 => ⟨S128x512x8x2, .f32⟩
  | 41 => ⟨S128x512x8x2, .f32⟩
  | 42 => ⟨S128x512x8x2, .f32⟩
  | 43 => ⟨S128x256x8x2, .f32⟩
  | 44 => ⟨S128x256x8x2, .f32⟩
  | 45 => ⟨S128x256x8x2, .f32⟩
  | 46 => ⟨S_, .f32⟩
  | 47 => ⟨S256x8x2, .f32⟩
  | 48 => ⟨S_, .f32⟩
  | 49 => ⟨S256x8x2, .f32⟩
  | 50 => ⟨S256x8x2, .f32⟩
  | 51 => ⟨S256x8x1x2, .f32⟩
  | 52 => ⟨S256x8x8x2, .f32⟩
  | 53 => ⟨S256x8x8x2, .f32⟩
  | 54 => ⟨S256x8x8x2, .f32⟩
  | 55 => ⟨S_, .f32⟩
  | 56 => ⟨S256x8x2, .f32⟩
  | 57 => ⟨S256x8x1x2, .f32⟩
  | 58 => ⟨S256x8x1x2, .f32⟩
  | 59 => ⟨S256x8x8x2, .f32⟩
  | 60 => ⟨S256x8x8x2, .f32⟩
  | 61 => ⟨S128x256x1x8x2, .f32⟩
  | 62 => ⟨S1x256x8x8x2, .f32⟩
  | 63 => ⟨S128x256x8x8x2, .f32⟩
  | 64 => ⟨S128x256x8x8x2, .f32⟩
  | 65 => ⟨S128x256x8x8x2, .f32⟩
  | 66 => ⟨S_, .f32⟩
  | 67 => ⟨S128x256x8x2, .f32⟩
  | 68 => ⟨S128x256x8x1x2, .f32⟩
  | 69 => ⟨S128x256x8x8x2, .f32⟩
  | 70 => ⟨S128x256x8x8x2, .f32⟩
  | 71 => ⟨S128x256x8x8x2, .f32⟩
  | 72 => ⟨S_, .f32⟩
  | 73 => ⟨S128x256x8x2, .f32⟩
  | 74 => ⟨S128x256x8x2, .f32⟩
  | 75 => ⟨S128x256x8x2, .f32⟩
  | 76 => ⟨S128x128x8x2, .f32⟩
  | 77 => ⟨S128x128x8x2, .f32⟩
  | 78 => ⟨S128x128x8x2, .f32⟩
  | 79 => ⟨S_, .f32⟩
  | 80 => ⟨S128x8x2, .f32⟩
  | 81 => ⟨S_, .f32⟩
  | 82 => ⟨S128x8x2, .f32⟩
  | 83 => ⟨S128x8x2, .f32⟩
  | 84 => ⟨S128x8x1x2, .f32⟩
  | 85 => ⟨S128x8x8x2, .f32⟩
  | 86 => ⟨S128x8x8x2, .f32⟩
  | 87 => ⟨S128x8x8x2, .f32⟩
  | 88 => ⟨S_, .f32⟩
  | 89 => ⟨S128x8x2, .f32⟩
  | 90 => ⟨S128x8x1x2, .f32⟩
  | 91 => ⟨S128x8x1x2, .f32⟩
  | 92 => ⟨S128x8x8x2, .f32⟩
  | 93 => ⟨S128x8x8x2, .f32⟩
  | 94 => ⟨S128x128x1x8x2, .f32⟩
  | 95 => ⟨S1x128x8x8x2, .f32⟩
  | 96 => ⟨S128x128x8x8x2, .f32⟩
  | 97 => ⟨S128x128x8x8x2, .f32⟩
  | 98 => ⟨S128x128x8x8x2, .f32⟩
  | 99 => ⟨S_, .f32⟩
  | 100 => ⟨S128x128x8x2, .f32⟩
  | 101 => ⟨S128x128x8x1x2, .f32⟩
  | 102 => ⟨S128x128x8x8x2, .f32⟩
  | 103 => ⟨S128x128x8x8x2, .f32⟩
  | 104 => ⟨S128x128x8x8x2, .f32⟩
  | 105 => ⟨S_, .f32⟩
  | 106 => ⟨S128x128x8x2, .f32⟩
  | 107 => ⟨S128x128x8x2, .f32⟩
  | 108 => ⟨S128x128x8x2, .f32⟩
  | 109 => ⟨S128x64x8x2, .f32⟩
  | 110 => ⟨S128x64x8x2, .f32⟩
  | 111 => ⟨S128x64x8x2, .f32⟩
  | 112 => ⟨S_, .f32⟩
  | 113 => ⟨S64x8x2, .f32⟩
  | 114 => ⟨S_, .f32⟩
  | 115 => ⟨S64x8x2, .f32⟩
  | 116 => ⟨S64x8x2, .f32⟩
  | 117 => ⟨S64x8x1x2, .f32⟩
  | 118 => ⟨S64x8x8x2, .f32⟩
  | 119 => ⟨S64x8x8x2, .f32⟩
  | 120 => ⟨S64x8x8x2, .f32⟩
  | 121 => ⟨S_, .f32⟩
  | 122 => ⟨S64x8x2, .f32⟩
  | 123 => ⟨S64x8x1x2, .f32⟩
  | 124 => ⟨S64x8x1x2, .f32⟩
  | 125 => ⟨S64x8x8x2, .f32⟩
  | 126 => ⟨S64x8x8x2, .f32⟩
  | 127 => ⟨S128x64x1x8x2, .f32⟩
  | _ => ⟨S128x3072, .f32⟩

abbrev hbmTy0_2 (i : Nat) : BufTy := match i % 128 with
  | 0 => ⟨S1x64x8x8x2, .f32⟩
  | 1 => ⟨S128x64x8x8x2, .f32⟩
  | 2 => ⟨S128x64x8x8x2, .f32⟩
  | 3 => ⟨S128x64x8x8x2, .f32⟩
  | 4 => ⟨S_, .f32⟩
  | 5 => ⟨S128x64x8x2, .f32⟩
  | 6 => ⟨S128x64x8x1x2, .f32⟩
  | 7 => ⟨S128x64x8x8x2, .f32⟩
  | 8 => ⟨S128x64x8x8x2, .f32⟩
  | 9 => ⟨S128x64x8x8x2, .f32⟩
  | 10 => ⟨S_, .f32⟩
  | 11 => ⟨S128x64x8x2, .f32⟩
  | 12 => ⟨S128x64x8x2, .f32⟩
  | 13 => ⟨S128x64x8x2, .f32⟩
  | 14 => ⟨S128x32x8x2, .f32⟩
  | 15 => ⟨S128x32x8x2, .f32⟩
  | 16 => ⟨S128x32x8x2, .f32⟩
  | 17 => ⟨S_, .f32⟩
  | 18 => ⟨S32x8x2, .f32⟩
  | 19 => ⟨S_, .f32⟩
  | 20 => ⟨S32x8x2, .f32⟩
  | 21 => ⟨S32x8x2, .f32⟩
  | 22 => ⟨S32x8x1x2, .f32⟩
  | 23 => ⟨S32x8x8x2, .f32⟩
  | 24 => ⟨S32x8x8x2, .f32⟩
  | 25 => ⟨S32x8x8x2, .f32⟩
  | 26 => ⟨S_, .f32⟩
  | 27 => ⟨S32x8x2, .f32⟩
  | 28 => ⟨S32x8x1x2, .f32⟩
  | 29 => ⟨S32x8x1x2, .f32⟩
  | 30 => ⟨S32x8x8x2, .f32⟩
  | 31 => ⟨S32x8x8x2, .f32⟩
  | 32 => ⟨S128x32x1x8x2, .f32⟩
  | 33 => ⟨S1x32x8x8x2, .f32⟩
  | 34 => ⟨S128x32x8x8x2, .f32⟩
  | 35 => ⟨S128x32x8x8x2, .f32⟩
  | 36 => ⟨S128x32x8x8x2, .f32⟩
  | 37 => ⟨S_, .f32⟩
  | 38 => ⟨S128x32x8x2, .f32⟩
  | 39 => ⟨S128x32x8x1x2, .f32⟩
  | 40 => ⟨S128x32x8x8x2, .f32⟩
  | 41 => ⟨S128x32x8x8x2, .f32⟩
  | 42 => ⟨S128x32x8x8x2, .f32⟩
  | 43 => ⟨S_, .f32⟩
  | 44 => ⟨S128x32x8x2, .f32⟩
  | 45 => ⟨S128x32x8x2, .f32⟩
  | 46 => ⟨S128x32x8x2, .f32⟩
  | 47 => ⟨S128x16x8x2, .f32⟩
  | 48 => ⟨S128x16x8x2, .f32⟩
  | 49 => ⟨S128x16x8x2, .f32⟩
  | 50 => ⟨S_, .f32⟩
  | 51 => ⟨S16x8x2, .f32⟩
  | 52 => ⟨S_, .f32⟩
  | 53 => ⟨S16x8x2, .f32⟩
  | 54 => ⟨S16x8x2, .f32⟩
  | 55 => ⟨S16x8x1x2, .f32⟩
  | 56 => ⟨S16x8x8x2, .f32⟩
  | 57 => ⟨S16x8x8x2, .f32⟩
  | 58 => ⟨S16x8x8x2, .f32⟩
  | 59 => ⟨S_, .f32⟩
  | 60 => ⟨S16x8x2, .f32⟩
  | 61 => ⟨S16x8x1x2, .f32⟩
  | 62 => ⟨S16x8x1x2, .f32⟩
  | 63 => ⟨S16x8x8x2, .f32⟩
  | 64 => ⟨S16x8x8x2, .f32⟩
  | 65 => ⟨S128x16x1x8x2, .f32⟩
  | 66 => ⟨S1x16x8x8x2, .f32⟩
  | 67 => ⟨S128x16x8x8x2, .f32⟩
  | 68 => ⟨S128x16x8x8x2, .f32⟩
  | 69 => ⟨S128x16x8x8x2, .f32⟩
  | 70 => ⟨S_, .f32⟩
  | 71 => ⟨S128x16x8x2, .f32⟩
  | 72 => ⟨S128x16x8x1x2, .f32⟩
  | 73 => ⟨S128x16x8x8x2, .f32⟩
  | 74 => ⟨S128x16x8x8x2, .f32⟩
  | 75 => ⟨S128x16x8x8x2, .f32⟩
  | 76 => ⟨S_, .f32⟩
  | 77 => ⟨S128x16x8x2, .f32⟩
  | 78 => ⟨S128x16x8x2, .f32⟩
  | 79 => ⟨S128x16x8x2, .f32⟩
  | 80 => ⟨S128x8x8x2, .f32⟩
  | 81 => ⟨S128x8x8x2, .f32⟩
  | 82 => ⟨S128x8x8x2, .f32⟩
  | 83 => ⟨S_, .f32⟩
  | 84 => ⟨S8x8x2, .f32⟩
  | 85 => ⟨S_, .f32⟩
  | 86 => ⟨S8x8x2, .f32⟩
  | 87 => ⟨S8x8x2, .f32⟩
  | 88 => ⟨S8x8x1x2, .f32⟩
  | 89 => ⟨S8x8x8x2, .f32⟩
  | 90 => ⟨S8x8x8x2, .f32⟩
  | 91 => ⟨S8x8x8x2, .f32⟩
  | 92 => ⟨S_, .f32⟩
  | 93 => ⟨S8x8x2, .f32⟩
  | 94 => ⟨S8x8x1x2, .f32⟩
  | 95 => ⟨S8x8x1x2, .f32⟩
  | 96 => ⟨S8x8x8x2, .f32⟩
  | 97 => ⟨S8x8x8x2, .f32⟩
  | 98 => ⟨S128x8x1x8x2, .f32⟩
  | 99 => ⟨S1x8x8x8x2, .f32⟩
  | 100 => ⟨S128x8x8x8x2, .f32⟩
  | 101 => ⟨S128x8x8x8x2, .f32⟩
  | 102 => ⟨S128x8x8x8x2, .f32⟩
  | 103 => ⟨S_, .f32⟩
  | 104 => ⟨S128x8x8x2, .f32⟩
  | 105 => ⟨S128x8x8x1x2, .f32⟩
  | 106 => ⟨S128x8x8x8x2, .f32⟩
  | 107 => ⟨S128x8x8x8x2, .f32⟩
  | 108 => ⟨S128x8x8x8x2, .f32⟩
  | 109 => ⟨S_, .f32⟩
  | 110 => ⟨S128x8x8x2, .f32⟩
  | 111 => ⟨S128x8x8x2, .f32⟩
  | 112 => ⟨S128x8x8x2, .f32⟩
  | 113 => ⟨S128x4x8x2, .f32⟩
  | 114 => ⟨S128x4x8x2, .f32⟩
  | 115 => ⟨S128x4x8x2, .f32⟩
  | 116 => ⟨S_, .f32⟩
  | 117 => ⟨S4x8x2, .f32⟩
  | 118 => ⟨S_, .f32⟩
  | 119 => ⟨S4x8x2, .f32⟩
  | 120 => ⟨S4x8x2, .f32⟩
  | 121 => ⟨S4x8x1x2, .f32⟩
  | 122 => ⟨S4x8x8x2, .f32⟩
  | 123 => ⟨S4x8x8x2, .f32⟩
  | 124 => ⟨S4x8x8x2, .f32⟩
  | 125 => ⟨S_, .f32⟩
  | 126 => ⟨S4x8x2, .f32⟩
  | 127 => ⟨S4x8x1x2, .f32⟩
  | _ => ⟨S128x3072, .f32⟩

abbrev hbmTy0_3 (i : Nat) : BufTy := match i % 128 with
  | 0 => ⟨S4x8x1x2, .f32⟩
  | 1 => ⟨S4x8x8x2, .f32⟩
  | 2 => ⟨S4x8x8x2, .f32⟩
  | 3 => ⟨S128x4x1x8x2, .f32⟩
  | 4 => ⟨S1x4x8x8x2, .f32⟩
  | 5 => ⟨S128x4x8x8x2, .f32⟩
  | 6 => ⟨S128x4x8x8x2, .f32⟩
  | 7 => ⟨S128x4x8x8x2, .f32⟩
  | 8 => ⟨S_, .f32⟩
  | 9 => ⟨S128x4x8x2, .f32⟩
  | 10 => ⟨S128x4x8x1x2, .f32⟩
  | 11 => ⟨S128x4x8x8x2, .f32⟩
  | 12 => ⟨S128x4x8x8x2, .f32⟩
  | 13 => ⟨S128x4x8x8x2, .f32⟩
  | 14 => ⟨S_, .f32⟩
  | 15 => ⟨S128x4x8x2, .f32⟩
  | 16 => ⟨S128x4x8x2, .f32⟩
  | 17 => ⟨S128x4x8x2, .f32⟩
  | 18 => ⟨S128x2x8x2, .f32⟩
  | 19 => ⟨S128x2x8x2, .f32⟩
  | 20 => ⟨S128x2x8x2, .f32⟩
  | 21 => ⟨S_, .f32⟩
  | 22 => ⟨S2x8x2, .f32⟩
  | 23 => ⟨S_, .f32⟩
  | 24 => ⟨S2x8x2, .f32⟩
  | 25 => ⟨S2x8x2, .f32⟩
  | 26 => ⟨S2x8x1x2, .f32⟩
  | 27 => ⟨S2x8x8x2, .f32⟩
  | 28 => ⟨S2x8x8x2, .f32⟩
  | 29 => ⟨S2x8x8x2, .f32⟩
  | 30 => ⟨S_, .f32⟩
  | 31 => ⟨S2x8x2, .f32⟩
  | 32 => ⟨S2x8x1x2, .f32⟩
  | 33 => ⟨S2x8x1x2, .f32⟩
  | 34 => ⟨S2x8x8x2, .f32⟩
  | 35 => ⟨S2x8x8x2, .f32⟩
  | 36 => ⟨S128x2x1x8x2, .f32⟩
  | 37 => ⟨S1x2x8x8x2, .f32⟩
  | 38 => ⟨S128x2x8x8x2, .f32⟩
  | 39 => ⟨S128x2x8x8x2, .f32⟩
  | 40 => ⟨S128x2x8x8x2, .f32⟩
  | 41 => ⟨S_, .f32⟩
  | 42 => ⟨S128x2x8x2, .f32⟩
  | 43 => ⟨S128x2x8x1x2, .f32⟩
  | 44 => ⟨S128x2x8x8x2, .f32⟩
  | 45 => ⟨S128x2x8x8x2, .f32⟩
  | 46 => ⟨S128x2x8x8x2, .f32⟩
  | 47 => ⟨S_, .f32⟩
  | 48 => ⟨S128x2x8x2, .f32⟩
  | 49 => ⟨S128x2x8x2, .f32⟩
  | 50 => ⟨S128x2x8x2, .f32⟩
  | 51 => ⟨S128x1x8x2, .f32⟩
  | 52 => ⟨S128x1x8x2, .f32⟩
  | 53 => ⟨S128x1x8x2, .f32⟩
  | 54 => ⟨S_, .f32⟩
  | 55 => ⟨S1x8x2, .f32⟩
  | 56 => ⟨S_, .f32⟩
  | 57 => ⟨S1x8x2, .f32⟩
  | 58 => ⟨S1x8x2, .f32⟩
  | 59 => ⟨S1x8x1x2, .f32⟩
  | 60 => ⟨S1x8x8x2, .f32⟩
  | 61 => ⟨S1x8x8x2, .f32⟩
  | 62 => ⟨S1x8x8x2, .f32⟩
  | 63 => ⟨S_, .f32⟩
  | 64 => ⟨S1x8x2, .f32⟩
  | 65 => ⟨S1x8x1x2, .f32⟩
  | 66 => ⟨S1x8x1x2, .f32⟩
  | 67 => ⟨S1x8x8x2, .f32⟩
  | 68 => ⟨S1x8x8x2, .f32⟩
  | 69 => ⟨S128x1x1x8x2, .f32⟩
  | 70 => ⟨S1x1x8x8x2, .f32⟩
  | 71 => ⟨S128x1x8x8x2, .f32⟩
  | 72 => ⟨S128x1x8x8x2, .f32⟩
  | 73 => ⟨S128x1x8x8x2, .f32⟩
  | 74 => ⟨S_, .f32⟩
  | 75 => ⟨S128x1x8x2, .f32⟩
  | 76 => ⟨S128x1x8x1x2, .f32⟩
  | 77 => ⟨S128x1x8x8x2, .f32⟩
  | 78 => ⟨S128x1x8x8x2, .f32⟩
  | 79 => ⟨S128x1x8x8x2, .f32⟩
  | 80 => ⟨S_, .f32⟩
  | 81 => ⟨S128x1x8x2, .f32⟩
  | 82 => ⟨S128x1x8x2, .f32⟩
  | 83 => ⟨S128x1x8x2, .f32⟩
  | 84 => ⟨S128x16, .f32⟩
  | 85 => ⟨S_, .f32⟩
  | 86 => ⟨S_, .f32⟩
  | 87 => ⟨S_, .f32⟩
  | 88 => ⟨S_, .f32⟩
  | 89 => ⟨S1, .f32⟩
  | 90 => ⟨S16, .f32⟩
  | 91 => ⟨S16, .f32⟩
  | 92 => ⟨S16, .f32⟩
  | 93 => ⟨S_, .f32⟩
  | 94 => ⟨S_, .f32⟩
  | 95 => ⟨S1, .f32⟩
  | 96 => ⟨S1, .f32⟩
  | 97 => ⟨S16, .f32⟩
  | 98 => ⟨S16, .f32⟩
  | 99 => ⟨S1x16, .f32⟩
  | 100 => ⟨S128x16, .f32⟩
  | 101 => ⟨S128x16, .f32⟩
  | 102 => ⟨S_, .f32⟩
  | 103 => ⟨S128, .f32⟩
  | 104 => ⟨S128x1, .f32⟩
  | 105 => ⟨S128x16, .f32⟩
  | 106 => ⟨S128x16, .f32⟩
  | 107 => ⟨S128x16, .f32⟩
  | 108 => ⟨S_, .f32⟩
  | 109 => ⟨S128, .f32⟩
  | 110 => ⟨S128, .f32⟩
  | 111 => ⟨S128, .f32⟩
  | 112 => ⟨S1x128, .f32⟩
  | _ => ⟨S128x3072, .f32⟩

abbrev hbmTy (i : Nat) : BufTy := match i / 128 with
  | 0 => hbmTy0_0 i
  | 1 => hbmTy0_1 i
  | 2 => hbmTy0_2 i
  | 3 => hbmTy0_3 i
  | _ => ⟨S128x3072, .f32⟩

abbrev bufTy : (tb : Table) → Fin (tcTables nBuf tb) → BufTy
  | .hbm, ⟨i, _⟩ => hbmTy i
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_call1_cst : Ref sig .tc := ⟨.hbm, 75, rfl⟩
abbrev main_call1_v0 : Ref sig .tc := ⟨.hbm, 76, rfl⟩
abbrev main_call1_cst_0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_cst_1 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_4 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_5 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_cst_6 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_cst_7 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_call3_cst : Ref sig .tc := ⟨.hbm, 141, rfl⟩
abbrev main_call3_v0 : Ref sig .tc := ⟨.hbm, 142, rfl⟩
abbrev main_call3_cst_0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_cst_1 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_cst_8 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_cst_9 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_call4_cst : Ref sig .tc := ⟨.hbm, 174, rfl⟩
abbrev main_call4_v0 : Ref sig .tc := ⟨.hbm, 175, rfl⟩
abbrev main_call4_cst_0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_call4_v5 : Ref sig .tc := ⟨.hbm, 181, rfl⟩
abbrev main_call4_v6 : Ref sig .tc := ⟨.hbm, 182, rfl⟩
abbrev main_call4_cst_1 : Ref sig .tc := ⟨.hbm, 183, rfl⟩
abbrev main_call4_v7 : Ref sig .tc := ⟨.hbm, 184, rfl⟩
abbrev main_call4_v8 : Ref sig .tc := ⟨.hbm, 185, rfl⟩
abbrev main_call4_v9 : Ref sig .tc := ⟨.hbm, 186, rfl⟩
abbrev main_call4_v10 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_cst_10 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_cst_11 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_call5_cst : Ref sig .tc := ⟨.hbm, 207, rfl⟩
abbrev main_call5_v0 : Ref sig .tc := ⟨.hbm, 208, rfl⟩
abbrev main_call5_cst_0 : Ref sig .tc := ⟨.hbm, 209, rfl⟩
abbrev main_call5_v1 : Ref sig .tc := ⟨.hbm, 210, rfl⟩
abbrev main_call5_v2 : Ref sig .tc := ⟨.hbm, 211, rfl⟩
abbrev main_call5_v3 : Ref sig .tc := ⟨.hbm, 212, rfl⟩
abbrev main_call5_v4 : Ref sig .tc := ⟨.hbm, 213, rfl⟩
abbrev main_call5_v5 : Ref sig .tc := ⟨.hbm, 214, rfl⟩
abbrev main_call5_v6 : Ref sig .tc := ⟨.hbm, 215, rfl⟩
abbrev main_call5_cst_1 : Ref sig .tc := ⟨.hbm, 216, rfl⟩
abbrev main_call5_v7 : Ref sig .tc := ⟨.hbm, 217, rfl⟩
abbrev main_call5_v8 : Ref sig .tc := ⟨.hbm, 218, rfl⟩
abbrev main_call5_v9 : Ref sig .tc := ⟨.hbm, 219, rfl⟩
abbrev main_call5_v10 : Ref sig .tc := ⟨.hbm, 220, rfl⟩
abbrev main_v98 : Ref sig .tc := ⟨.hbm, 221, rfl⟩
abbrev main_v99 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_cst_12 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_cst_13 : Ref sig .tc := ⟨.hbm, 233, rfl⟩
abbrev main_v109 : Ref sig .tc := ⟨.hbm, 234, rfl⟩
abbrev main_v110 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_call6_cst : Ref sig .tc := ⟨.hbm, 240, rfl⟩
abbrev main_call6_v0 : Ref sig .tc := ⟨.hbm, 241, rfl⟩
abbrev main_call6_cst_0 : Ref sig .tc := ⟨.hbm, 242, rfl⟩
abbrev main_call6_v1 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_call6_v5 : Ref sig .tc := ⟨.hbm, 247, rfl⟩
abbrev main_call6_v6 : Ref sig .tc := ⟨.hbm, 248, rfl⟩
abbrev main_call6_cst_1 : Ref sig .tc := ⟨.hbm, 249, rfl⟩
abbrev main_call6_v7 : Ref sig .tc := ⟨.hbm, 250, rfl⟩
abbrev main_call6_v8 : Ref sig .tc := ⟨.hbm, 251, rfl⟩
abbrev main_call6_v9 : Ref sig .tc := ⟨.hbm, 252, rfl⟩
abbrev main_call6_v10 : Ref sig .tc := ⟨.hbm, 253, rfl⟩
abbrev main_v115 : Ref sig .tc := ⟨.hbm, 254, rfl⟩
abbrev main_v116 : Ref sig .tc := ⟨.hbm, 255, rfl⟩
abbrev main_v117 : Ref sig .tc := ⟨.hbm, 256, rfl⟩
abbrev main_v118 : Ref sig .tc := ⟨.hbm, 257, rfl⟩
abbrev main_v119 : Ref sig .tc := ⟨.hbm, 258, rfl⟩
abbrev main_v120 : Ref sig .tc := ⟨.hbm, 259, rfl⟩
abbrev main_cst_14 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_cst_15 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_call7_cst : Ref sig .tc := ⟨.hbm, 273, rfl⟩
abbrev main_call7_v0 : Ref sig .tc := ⟨.hbm, 274, rfl⟩
abbrev main_call7_cst_0 : Ref sig .tc := ⟨.hbm, 275, rfl⟩
abbrev main_call7_v1 : Ref sig .tc := ⟨.hbm, 276, rfl⟩
abbrev main_call7_v2 : Ref sig .tc := ⟨.hbm, 277, rfl⟩
abbrev main_call7_v3 : Ref sig .tc := ⟨.hbm, 278, rfl⟩
abbrev main_call7_v4 : Ref sig .tc := ⟨.hbm, 279, rfl⟩
abbrev main_call7_v5 : Ref sig .tc := ⟨.hbm, 280, rfl⟩
abbrev main_call7_v6 : Ref sig .tc := ⟨.hbm, 281, rfl⟩
abbrev main_call7_cst_1 : Ref sig .tc := ⟨.hbm, 282, rfl⟩
abbrev main_call7_v7 : Ref sig .tc := ⟨.hbm, 283, rfl⟩
abbrev main_call7_v8 : Ref sig .tc := ⟨.hbm, 284, rfl⟩
abbrev main_call7_v9 : Ref sig .tc := ⟨.hbm, 285, rfl⟩
abbrev main_call7_v10 : Ref sig .tc := ⟨.hbm, 286, rfl⟩
abbrev main_v132 : Ref sig .tc := ⟨.hbm, 287, rfl⟩
abbrev main_v133 : Ref sig .tc := ⟨.hbm, 288, rfl⟩
abbrev main_v134 : Ref sig .tc := ⟨.hbm, 289, rfl⟩
abbrev main_v135 : Ref sig .tc := ⟨.hbm, 290, rfl⟩
abbrev main_v136 : Ref sig .tc := ⟨.hbm, 291, rfl⟩
abbrev main_v137 : Ref sig .tc := ⟨.hbm, 292, rfl⟩
abbrev main_cst_16 : Ref sig .tc := ⟨.hbm, 293, rfl⟩
abbrev main_v138 : Ref sig .tc := ⟨.hbm, 294, rfl⟩
abbrev main_v139 : Ref sig .tc := ⟨.hbm, 295, rfl⟩
abbrev main_v140 : Ref sig .tc := ⟨.hbm, 296, rfl⟩
abbrev main_v141 : Ref sig .tc := ⟨.hbm, 297, rfl⟩
abbrev main_v142 : Ref sig .tc := ⟨.hbm, 298, rfl⟩
abbrev main_cst_17 : Ref sig .tc := ⟨.hbm, 299, rfl⟩
abbrev main_v143 : Ref sig .tc := ⟨.hbm, 300, rfl⟩
abbrev main_v144 : Ref sig .tc := ⟨.hbm, 301, rfl⟩
abbrev main_v145 : Ref sig .tc := ⟨.hbm, 302, rfl⟩
abbrev main_v146 : Ref sig .tc := ⟨.hbm, 303, rfl⟩
abbrev main_v147 : Ref sig .tc := ⟨.hbm, 304, rfl⟩
abbrev main_v148 : Ref sig .tc := ⟨.hbm, 305, rfl⟩
abbrev main_call8_cst : Ref sig .tc := ⟨.hbm, 306, rfl⟩
abbrev main_call8_v0 : Ref sig .tc := ⟨.hbm, 307, rfl⟩
abbrev main_call8_cst_0 : Ref sig .tc := ⟨.hbm, 308, rfl⟩
abbrev main_call8_v1 : Ref sig .tc := ⟨.hbm, 309, rfl⟩
abbrev main_call8_v2 : Ref sig .tc := ⟨.hbm, 310, rfl⟩
abbrev main_call8_v3 : Ref sig .tc := ⟨.hbm, 311, rfl⟩
abbrev main_call8_v4 : Ref sig .tc := ⟨.hbm, 312, rfl⟩
abbrev main_call8_v5 : Ref sig .tc := ⟨.hbm, 313, rfl⟩
abbrev main_call8_v6 : Ref sig .tc := ⟨.hbm, 314, rfl⟩
abbrev main_call8_cst_1 : Ref sig .tc := ⟨.hbm, 315, rfl⟩
abbrev main_call8_v7 : Ref sig .tc := ⟨.hbm, 316, rfl⟩
abbrev main_call8_v8 : Ref sig .tc := ⟨.hbm, 317, rfl⟩
abbrev main_call8_v9 : Ref sig .tc := ⟨.hbm, 318, rfl⟩
abbrev main_call8_v10 : Ref sig .tc := ⟨.hbm, 319, rfl⟩
abbrev main_v149 : Ref sig .tc := ⟨.hbm, 320, rfl⟩
abbrev main_v150 : Ref sig .tc := ⟨.hbm, 321, rfl⟩
abbrev main_v151 : Ref sig .tc := ⟨.hbm, 322, rfl⟩
abbrev main_v152 : Ref sig .tc := ⟨.hbm, 323, rfl⟩
abbrev main_v153 : Ref sig .tc := ⟨.hbm, 324, rfl⟩
abbrev main_v154 : Ref sig .tc := ⟨.hbm, 325, rfl⟩
abbrev main_cst_18 : Ref sig .tc := ⟨.hbm, 326, rfl⟩
abbrev main_v155 : Ref sig .tc := ⟨.hbm, 327, rfl⟩
abbrev main_v156 : Ref sig .tc := ⟨.hbm, 328, rfl⟩
abbrev main_v157 : Ref sig .tc := ⟨.hbm, 329, rfl⟩
abbrev main_v158 : Ref sig .tc := ⟨.hbm, 330, rfl⟩
abbrev main_v159 : Ref sig .tc := ⟨.hbm, 331, rfl⟩
abbrev main_cst_19 : Ref sig .tc := ⟨.hbm, 332, rfl⟩
abbrev main_v160 : Ref sig .tc := ⟨.hbm, 333, rfl⟩
abbrev main_v161 : Ref sig .tc := ⟨.hbm, 334, rfl⟩
abbrev main_v162 : Ref sig .tc := ⟨.hbm, 335, rfl⟩
abbrev main_v163 : Ref sig .tc := ⟨.hbm, 336, rfl⟩
abbrev main_v164 : Ref sig .tc := ⟨.hbm, 337, rfl⟩
abbrev main_v165 : Ref sig .tc := ⟨.hbm, 338, rfl⟩
abbrev main_call9_cst : Ref sig .tc := ⟨.hbm, 339, rfl⟩
abbrev main_call9_v0 : Ref sig .tc := ⟨.hbm, 340, rfl⟩
abbrev main_call9_cst_0 : Ref sig .tc := ⟨.hbm, 341, rfl⟩
abbrev main_call9_v1 : Ref sig .tc := ⟨.hbm, 342, rfl⟩
abbrev main_call9_v2 : Ref sig .tc := ⟨.hbm, 343, rfl⟩
abbrev main_call9_v3 : Ref sig .tc := ⟨.hbm, 344, rfl⟩
abbrev main_call9_v4 : Ref sig .tc := ⟨.hbm, 345, rfl⟩
abbrev main_call9_v5 : Ref sig .tc := ⟨.hbm, 346, rfl⟩
abbrev main_call9_v6 : Ref sig .tc := ⟨.hbm, 347, rfl⟩
abbrev main_call9_cst_1 : Ref sig .tc := ⟨.hbm, 348, rfl⟩
abbrev main_call9_v7 : Ref sig .tc := ⟨.hbm, 349, rfl⟩
abbrev main_call9_v8 : Ref sig .tc := ⟨.hbm, 350, rfl⟩
abbrev main_call9_v9 : Ref sig .tc := ⟨.hbm, 351, rfl⟩
abbrev main_call9_v10 : Ref sig .tc := ⟨.hbm, 352, rfl⟩
abbrev main_v166 : Ref sig .tc := ⟨.hbm, 353, rfl⟩
abbrev main_v167 : Ref sig .tc := ⟨.hbm, 354, rfl⟩
abbrev main_v168 : Ref sig .tc := ⟨.hbm, 355, rfl⟩
abbrev main_v169 : Ref sig .tc := ⟨.hbm, 356, rfl⟩
abbrev main_v170 : Ref sig .tc := ⟨.hbm, 357, rfl⟩
abbrev main_v171 : Ref sig .tc := ⟨.hbm, 358, rfl⟩
abbrev main_cst_20 : Ref sig .tc := ⟨.hbm, 359, rfl⟩
abbrev main_v172 : Ref sig .tc := ⟨.hbm, 360, rfl⟩
abbrev main_v173 : Ref sig .tc := ⟨.hbm, 361, rfl⟩
abbrev main_v174 : Ref sig .tc := ⟨.hbm, 362, rfl⟩
abbrev main_v175 : Ref sig .tc := ⟨.hbm, 363, rfl⟩
abbrev main_v176 : Ref sig .tc := ⟨.hbm, 364, rfl⟩
abbrev main_cst_21 : Ref sig .tc := ⟨.hbm, 365, rfl⟩
abbrev main_v177 : Ref sig .tc := ⟨.hbm, 366, rfl⟩
abbrev main_v178 : Ref sig .tc := ⟨.hbm, 367, rfl⟩
abbrev main_v179 : Ref sig .tc := ⟨.hbm, 368, rfl⟩
abbrev main_v180 : Ref sig .tc := ⟨.hbm, 369, rfl⟩
abbrev main_v181 : Ref sig .tc := ⟨.hbm, 370, rfl⟩
abbrev main_v182 : Ref sig .tc := ⟨.hbm, 371, rfl⟩
abbrev main_call10_cst : Ref sig .tc := ⟨.hbm, 372, rfl⟩
abbrev main_call10_v0 : Ref sig .tc := ⟨.hbm, 373, rfl⟩
abbrev main_call10_cst_0 : Ref sig .tc := ⟨.hbm, 374, rfl⟩
abbrev main_call10_v1 : Ref sig .tc := ⟨.hbm, 375, rfl⟩
abbrev main_call10_v2 : Ref sig .tc := ⟨.hbm, 376, rfl⟩
abbrev main_call10_v3 : Ref sig .tc := ⟨.hbm, 377, rfl⟩
abbrev main_call10_v4 : Ref sig .tc := ⟨.hbm, 378, rfl⟩
abbrev main_call10_v5 : Ref sig .tc := ⟨.hbm, 379, rfl⟩
abbrev main_call10_v6 : Ref sig .tc := ⟨.hbm, 380, rfl⟩
abbrev main_call10_cst_1 : Ref sig .tc := ⟨.hbm, 381, rfl⟩
abbrev main_call10_v7 : Ref sig .tc := ⟨.hbm, 382, rfl⟩
abbrev main_call10_v8 : Ref sig .tc := ⟨.hbm, 383, rfl⟩
abbrev main_call10_v9 : Ref sig .tc := ⟨.hbm, 384, rfl⟩
abbrev main_call10_v10 : Ref sig .tc := ⟨.hbm, 385, rfl⟩
abbrev main_v183 : Ref sig .tc := ⟨.hbm, 386, rfl⟩
abbrev main_v184 : Ref sig .tc := ⟨.hbm, 387, rfl⟩
abbrev main_v185 : Ref sig .tc := ⟨.hbm, 388, rfl⟩
abbrev main_v186 : Ref sig .tc := ⟨.hbm, 389, rfl⟩
abbrev main_v187 : Ref sig .tc := ⟨.hbm, 390, rfl⟩
abbrev main_v188 : Ref sig .tc := ⟨.hbm, 391, rfl⟩
abbrev main_cst_22 : Ref sig .tc := ⟨.hbm, 392, rfl⟩
abbrev main_v189 : Ref sig .tc := ⟨.hbm, 393, rfl⟩
abbrev main_v190 : Ref sig .tc := ⟨.hbm, 394, rfl⟩
abbrev main_v191 : Ref sig .tc := ⟨.hbm, 395, rfl⟩
abbrev main_v192 : Ref sig .tc := ⟨.hbm, 396, rfl⟩
abbrev main_v193 : Ref sig .tc := ⟨.hbm, 397, rfl⟩
abbrev main_cst_23 : Ref sig .tc := ⟨.hbm, 398, rfl⟩
abbrev main_v194 : Ref sig .tc := ⟨.hbm, 399, rfl⟩
abbrev main_v195 : Ref sig .tc := ⟨.hbm, 400, rfl⟩
abbrev main_v196 : Ref sig .tc := ⟨.hbm, 401, rfl⟩
abbrev main_v197 : Ref sig .tc := ⟨.hbm, 402, rfl⟩
abbrev main_v198 : Ref sig .tc := ⟨.hbm, 403, rfl⟩
abbrev main_v199 : Ref sig .tc := ⟨.hbm, 404, rfl⟩
abbrev main_call11_cst : Ref sig .tc := ⟨.hbm, 405, rfl⟩
abbrev main_call11_v0 : Ref sig .tc := ⟨.hbm, 406, rfl⟩
abbrev main_call11_cst_0 : Ref sig .tc := ⟨.hbm, 407, rfl⟩
abbrev main_call11_v1 : Ref sig .tc := ⟨.hbm, 408, rfl⟩
abbrev main_call11_v2 : Ref sig .tc := ⟨.hbm, 409, rfl⟩
abbrev main_call11_v3 : Ref sig .tc := ⟨.hbm, 410, rfl⟩
abbrev main_call11_v4 : Ref sig .tc := ⟨.hbm, 411, rfl⟩
abbrev main_call11_v5 : Ref sig .tc := ⟨.hbm, 412, rfl⟩
abbrev main_call11_v6 : Ref sig .tc := ⟨.hbm, 413, rfl⟩
abbrev main_call11_cst_1 : Ref sig .tc := ⟨.hbm, 414, rfl⟩
abbrev main_call11_v7 : Ref sig .tc := ⟨.hbm, 415, rfl⟩
abbrev main_call11_v8 : Ref sig .tc := ⟨.hbm, 416, rfl⟩
abbrev main_call11_v9 : Ref sig .tc := ⟨.hbm, 417, rfl⟩
abbrev main_call11_v10 : Ref sig .tc := ⟨.hbm, 418, rfl⟩
abbrev main_v200 : Ref sig .tc := ⟨.hbm, 419, rfl⟩
abbrev main_v201 : Ref sig .tc := ⟨.hbm, 420, rfl⟩
abbrev main_v202 : Ref sig .tc := ⟨.hbm, 421, rfl⟩
abbrev main_v203 : Ref sig .tc := ⟨.hbm, 422, rfl⟩
abbrev main_v204 : Ref sig .tc := ⟨.hbm, 423, rfl⟩
abbrev main_v205 : Ref sig .tc := ⟨.hbm, 424, rfl⟩
abbrev main_cst_24 : Ref sig .tc := ⟨.hbm, 425, rfl⟩
abbrev main_v206 : Ref sig .tc := ⟨.hbm, 426, rfl⟩
abbrev main_v207 : Ref sig .tc := ⟨.hbm, 427, rfl⟩
abbrev main_v208 : Ref sig .tc := ⟨.hbm, 428, rfl⟩
abbrev main_v209 : Ref sig .tc := ⟨.hbm, 429, rfl⟩
abbrev main_v210 : Ref sig .tc := ⟨.hbm, 430, rfl⟩
abbrev main_cst_25 : Ref sig .tc := ⟨.hbm, 431, rfl⟩
abbrev main_v211 : Ref sig .tc := ⟨.hbm, 432, rfl⟩
abbrev main_v212 : Ref sig .tc := ⟨.hbm, 433, rfl⟩
abbrev main_v213 : Ref sig .tc := ⟨.hbm, 434, rfl⟩
abbrev main_v214 : Ref sig .tc := ⟨.hbm, 435, rfl⟩
abbrev main_v215 : Ref sig .tc := ⟨.hbm, 436, rfl⟩
abbrev main_v216 : Ref sig .tc := ⟨.hbm, 437, rfl⟩
abbrev main_call12_cst : Ref sig .tc := ⟨.hbm, 438, rfl⟩
abbrev main_call12_v0 : Ref sig .tc := ⟨.hbm, 439, rfl⟩
abbrev main_call12_cst_0 : Ref sig .tc := ⟨.hbm, 440, rfl⟩
abbrev main_call12_v1 : Ref sig .tc := ⟨.hbm, 441, rfl⟩
abbrev main_call12_v2 : Ref sig .tc := ⟨.hbm, 442, rfl⟩
abbrev main_call12_v3 : Ref sig .tc := ⟨.hbm, 443, rfl⟩
abbrev main_call12_v4 : Ref sig .tc := ⟨.hbm, 444, rfl⟩
abbrev main_call12_v5 : Ref sig .tc := ⟨.hbm, 445, rfl⟩
abbrev main_call12_v6 : Ref sig .tc := ⟨.hbm, 446, rfl⟩
abbrev main_call12_cst_1 : Ref sig .tc := ⟨.hbm, 447, rfl⟩
abbrev main_call12_v7 : Ref sig .tc := ⟨.hbm, 448, rfl⟩
abbrev main_call12_v8 : Ref sig .tc := ⟨.hbm, 449, rfl⟩
abbrev main_call12_v9 : Ref sig .tc := ⟨.hbm, 450, rfl⟩
abbrev main_call12_v10 : Ref sig .tc := ⟨.hbm, 451, rfl⟩
abbrev main_v217 : Ref sig .tc := ⟨.hbm, 452, rfl⟩
abbrev main_v218 : Ref sig .tc := ⟨.hbm, 453, rfl⟩
abbrev main_v219 : Ref sig .tc := ⟨.hbm, 454, rfl⟩
abbrev main_v220 : Ref sig .tc := ⟨.hbm, 455, rfl⟩
abbrev main_v221 : Ref sig .tc := ⟨.hbm, 456, rfl⟩
abbrev main_v222 : Ref sig .tc := ⟨.hbm, 457, rfl⟩
abbrev main_cst_26 : Ref sig .tc := ⟨.hbm, 458, rfl⟩
abbrev main_v223 : Ref sig .tc := ⟨.hbm, 459, rfl⟩
abbrev main_v224 : Ref sig .tc := ⟨.hbm, 460, rfl⟩
abbrev main_v225 : Ref sig .tc := ⟨.hbm, 461, rfl⟩
abbrev main_v226 : Ref sig .tc := ⟨.hbm, 462, rfl⟩
abbrev main_v227 : Ref sig .tc := ⟨.hbm, 463, rfl⟩
abbrev main_cst_27 : Ref sig .tc := ⟨.hbm, 464, rfl⟩
abbrev main_v228 : Ref sig .tc := ⟨.hbm, 465, rfl⟩
abbrev main_v229 : Ref sig .tc := ⟨.hbm, 466, rfl⟩
abbrev main_v230 : Ref sig .tc := ⟨.hbm, 467, rfl⟩
abbrev main_v231 : Ref sig .tc := ⟨.hbm, 468, rfl⟩
abbrev main_call13_cst : Ref sig .tc := ⟨.hbm, 469, rfl⟩
abbrev main_call13_v0 : Ref sig .tc := ⟨.hbm, 470, rfl⟩
abbrev main_call13_cst_0 : Ref sig .tc := ⟨.hbm, 471, rfl⟩
abbrev main_call13_v1 : Ref sig .tc := ⟨.hbm, 472, rfl⟩
abbrev main_call13_v2 : Ref sig .tc := ⟨.hbm, 473, rfl⟩
abbrev main_call13_v3 : Ref sig .tc := ⟨.hbm, 474, rfl⟩
abbrev main_call13_v4 : Ref sig .tc := ⟨.hbm, 475, rfl⟩
abbrev main_call13_v5 : Ref sig .tc := ⟨.hbm, 476, rfl⟩
abbrev main_call13_cst_1 : Ref sig .tc := ⟨.hbm, 477, rfl⟩
abbrev main_call13_v6 : Ref sig .tc := ⟨.hbm, 478, rfl⟩
abbrev main_call13_v7 : Ref sig .tc := ⟨.hbm, 479, rfl⟩
abbrev main_call13_v8 : Ref sig .tc := ⟨.hbm, 480, rfl⟩
abbrev main_call13_v9 : Ref sig .tc := ⟨.hbm, 481, rfl⟩
abbrev main_v232 : Ref sig .tc := ⟨.hbm, 482, rfl⟩
abbrev main_v233 : Ref sig .tc := ⟨.hbm, 483, rfl⟩
abbrev main_v234 : Ref sig .tc := ⟨.hbm, 484, rfl⟩
abbrev main_v235 : Ref sig .tc := ⟨.hbm, 485, rfl⟩
abbrev main_cst_28 : Ref sig .tc := ⟨.hbm, 486, rfl⟩
abbrev main_v236 : Ref sig .tc := ⟨.hbm, 487, rfl⟩
abbrev main_v237 : Ref sig .tc := ⟨.hbm, 488, rfl⟩
abbrev main_v238 : Ref sig .tc := ⟨.hbm, 489, rfl⟩
abbrev main_v239 : Ref sig .tc := ⟨.hbm, 490, rfl⟩
abbrev main_v240 : Ref sig .tc := ⟨.hbm, 491, rfl⟩
abbrev main_cst_29 : Ref sig .tc := ⟨.hbm, 492, rfl⟩
abbrev main_v241 : Ref sig .tc := ⟨.hbm, 493, rfl⟩
abbrev main_v242 : Ref sig .tc := ⟨.hbm, 494, rfl⟩
abbrev main_v243 : Ref sig .tc := ⟨.hbm, 495, rfl⟩
abbrev main_v244 : Ref sig .tc := ⟨.hbm, 496, rfl⟩

abbrev nD : Nat := 1
abbrev τ : Topo := Topo.v7x

variable {F : FTy → Type} [FloatOps F]
-- ==== Proof.Einet.Tree.lean ====
/- The kernel's program written with loops.

   The printed body is one straight line of loads, arithmetic and stores. Here the same line is
   written the way the kernel's source reads: loops over tiles, over the rank index `r` and over the
   output channel `co`, each step built from a few named expressions. Nothing here is specific to one
   printed program: the number format's values `F`, the signature and the labels are variables. -/
module

public import Idealize.ShloMosaic.Lib.Pipeline
public import Idealize.ShloMosaic.Lib.Scf
public import Idealize.ShloMosaic.Lib.Sig
public import Idealize.ShloMosaic.PureOps

@[expose] public section

noncomputable section

namespace Einet

open Idealize.ShloMosaic Idealize.SL.Sem

/-- Shapes of rank two and three by their sizes. -/
abbrev sh2 (a b : Nat) : Shape := ⟨2, ![a, b]⟩
abbrev sh3 (a b c : Nat) : Shape := ⟨3, ![a, b, c]⟩

/-! ### Side conditions of the shape operations -/

theorem inb2 {R C r c a b : Nat} (hr : r + a ≤ R) (hc : c + b ≤ C) :
    ∀ d, (![r, c] : Fin 2 → Nat) d + (![a, b] : Fin 2 → Nat) d ≤ (sh2 R C).size d := by
  intro d; match d with
  | ⟨0, _⟩ => exact hr
  | ⟨1, _⟩ => exact hc

theorem inb3 {P R C p r c q a b : Nat} (hp : p + q ≤ P) (hr : r + a ≤ R) (hc : c + b ≤ C) :
    ∀ d, (![p, r, c] : Fin 3 → Nat) d + (![q, a, b] : Fin 3 → Nat) d ≤ (sh3 P R C).size d := by
  intro d; match d with
  | ⟨0, _⟩ => exact hp
  | ⟨1, _⟩ => exact hr
  | ⟨2, _⟩ => exact hc

theorem pos2 {a b : Nat} (ha : 0 < a) (hb : 0 < b) : 0 < (sh2 a b).numel := by
  refine Shape.numel_pos fun d => ?_
  match d with
  | ⟨0, _⟩ => exact ha
  | ⟨1, _⟩ => exact hb

theorem pos3 {a b c : Nat} (ha : 0 < a) (hb : 0 < b) (hc : 0 < c) : 0 < (sh3 a b c).numel := by
  refine Shape.numel_pos fun d => ?_
  match d with
  | ⟨0, _⟩ => exact ha
  | ⟨1, _⟩ => exact hb
  | ⟨2, _⟩ => exact hc

theorem numel2 (a b : Nat) : (sh2 a b).numel = a * b := by
  simp [Shape.numel, Fin.prod_univ_two]

theorem numel3 (a b c : Nat) : (sh3 a b c).numel = a * b * c := by
  simp [Shape.numel, Fin.prod_univ_three]

theorem casts_self (s : Shape) : s.ShapeCasts s := rfl

theorem casts_drop (a b : Nat) : (sh3 1 a b).ShapeCasts (sh2 a b) := by
  show (sh2 a b).numel = (sh3 1 a b).numel
  rw [numel2, numel3, Nat.one_mul]

theorem casts_add (a b : Nat) : (sh2 a b).ShapeCasts (sh3 1 a b) := (casts_drop a b).symm

theorem bc_row (a b : Nat) : (sh2 1 b).Broadcasts (sh2 a b) :=
  ⟨Nat.le_refl _, fun d => match d with
    | ⟨0, _⟩ => .inl rfl
    | ⟨1, _⟩ => .inr fun _ => rfl⟩

theorem bc_col (a b : Nat) : (sh2 a 1).Broadcasts (sh2 a b) :=
  ⟨Nat.le_refl _, fun d => match d with
    | ⟨0, _⟩ => .inr fun _ => rfl
    | ⟨1, _⟩ => .inl rfl⟩

theorem slc {R C r c a b : Nat} (hr : r + a ≤ R) (hc : c + b ≤ C) : (sh2 R C).Slices ![r, c] (sh2 a b) :=
  ⟨rfl, fun d => match d with
    | ⟨0, _⟩ => hr
    | ⟨1, _⟩ => hc⟩

theorem at00 : ∀ d, (![0, 0] : Fin 2 → Nat) d < (sh2 1 1).size d := by decide
theorem at000 : ∀ d, (![0, 0, 0] : Fin 3 → Nat) d < (sh3 1 1 1).size d := by decide
theorem swaps : (sh2 128 128).Transposes [1, 0] (sh2 128 128) := by decide
theorem lt16 : FTy.bf16.bits < FTy.f32.bits := by decide
theorem reds : (sh3 1 1 16).Reduces [1, 2] ⟨1, ![1]⟩ := by decide
theorem casts_111 : (⟨1, ![1]⟩ : Shape).ShapeCasts (sh3 1 1 1) := by decide

theorem two_mul_lt {k r : Nat} (hk : k < 8) (hr : r < 2) : 2 * k + r < 16 := by omega
theorem lane_lt {c k r : Nat} (hc : c < 8) (hk : k < 8) (hr : r < 2) : c * 16 + r + 2 * k < 128 := by omega

/-! ### Pairwise trees of eight and sixteen -/

/-- The balanced pairwise tree of eight values. -/
def tree8 {α : Type} (op : α → α → α) (f : Fin 8 → α) : α :=
  op (op (op (f ⟨0, by omega⟩) (f ⟨1, by omega⟩)) (op (f ⟨2, by omega⟩) (f ⟨3, by omega⟩)))
    (op (op (f ⟨4, by omega⟩) (f ⟨5, by omega⟩)) (op (f ⟨6, by omega⟩) (f ⟨7, by omega⟩)))

/-- The balanced pairwise tree of sixteen values, given as eight pairs. -/
def tree16 {α : Type} (op : α → α → α) (f : Fin 8 → Fin 2 → α) : α :=
  tree8 op fun k => op (f k ⟨0, by omega⟩) (f k ⟨1, by omega⟩)

section Values

variable {F : FTy → Type} [FloatOps F]

/-- A Gaussian log density of each feature of a row of parameters, at a batch of inputs; `hlp` is half the log of two pi. -/
def leafE (hlp : F .f32) (lv mu : FVec F (sh2 1 128) .f32) (x : FVec F (sh2 128 128) .f32) : FVec F (sh2 128 128) .f32 :=
  addf
    (mulf (broadcastTo (sh2 128 128) (mulf (broadcast (sh2 1 128) (Scalar.ofBits .f32 0xBF000000#32))
        (exp (subf (broadcast (sh2 1 128) (Scalar.ofBits .f32 0x00000000#32)) (shapeCast (sh2 1 128) lv (casts_self _))))) (bc_row 128 128))
      (mulf (subf (shapeCast (sh2 128 128) x (casts_self _)) (broadcastTo (sh2 128 128) (shapeCast (sh2 1 128) mu (casts_self _)) (bc_row 128 128)))
        (subf (shapeCast (sh2 128 128) x (casts_self _)) (broadcastTo (sh2 128 128) (shapeCast (sh2 1 128) mu (casts_self _)) (bc_row 128 128)))))
    (broadcastTo (sh2 128 128) (subf (mulf (broadcast (sh2 1 128) (Scalar.ofBits .f32 0xBF000000#32)) (shapeCast (sh2 1 128) lv (casts_self _)))
      (broadcast (sh2 1 128) hlp)) (bc_row 128 128))

/-- The largest of the eight children's values. -/
def mx {s : Shape} (f : Fin 8 → FVec F s .f32) : FVec F s .f32 := tree8 maximumf f

/-- A weight row's exponential, rounded. -/
def wB (v : FVec F (sh2 1 128) .f32) : FVec F (sh2 1 128) .bf16 := truncf .bf16 (exp (shapeCast (sh2 1 128) v (casts_self _))) lt16

/-- The shifted exponentials, rounded. -/
def eB {s : Shape} (m : FVec F s .f32) (f : Fin 8 → FVec F s .f32) (k : Fin 8) : FVec F s .bf16 := truncf .bf16 (exp (subf (f k) m)) lt16

/-- One output channel of a level whose features lie along the lanes. -/
def planeB (m : FVec F (sh2 128 128) .f32) (e : Fin 8 → FVec F (sh2 128 128) .bf16) (w : Fin 8 → FVec F (sh2 1 128) .bf16) :
    FVec F (sh2 128 128) .f32 :=
  subf (addf m (log (extf .f32 (tree8 addf fun k => mulf (broadcastTo (sh2 128 128) (w k) (bc_row 128 128)) (e k)) lt16)))
    (broadcastTo (sh2 128 128) (log (extf .f32 (tree8 addf w) lt16)) (bc_row 128 128))

/-- The shifted exponentials. -/
def eF {s : Shape} (m : FVec F s .f32) (f : Fin 8 → FVec F s .f32) (k : Fin 8) : FVec F s .f32 := exp (subf (f k) m)

/-- One output channel of a level whose features lie along the sublanes. -/
def planeF {n : Nat} (m : FVec F (sh2 n 128) .f32) (e : Fin 8 → FVec F (sh2 n 128) .f32) (w : Fin 8 → FVec F (sh2 n 1) .f32) :
    FVec F (sh2 n 128) .f32 :=
  subf (addf m (log (tree8 addf fun k => mulf (broadcastTo (sh2 n 128) (w k) (bc_col n 128)) (e k))))
    (broadcastTo (sh2 n 128) (log (tree8 addf w)) (bc_col n 128))

/-- Output channel `co` at rank index `r` of a level along the sublanes whose weights' rows are `v`. -/
def outF {n : Nat} (v : FVec F (sh2 n 128) .f32) (r : Fin 2) (s : Fin 8 → FVec F (sh2 n 128) .f32) (co : Fin 8) : FVec F (sh2 n 128) .f32 :=
  planeF (mx s) (eF (mx s) s) fun ci => extractStridedSlice (sh2 n 1) ![0, co.val * 16 + r.val + 2 * ci.val]
    (exp (shapeCast (sh2 n 128) v (casts_self _))) (slc (Nat.le_of_eq (Nat.zero_add n)) (lane_lt co.isLt ci.isLt r.isLt))

/-- One output channel of a level with scalar weights. -/
def planeS (m : FVec F (sh2 1 128) .f32) (e : Fin 8 → FVec F (sh2 1 128) .f32) (w : Fin 8 → F .f32) : FVec F (sh2 1 128) .f32 :=
  subf (addf m (log (tree8 addf fun k => mulf (broadcast (sh2 1 128) (w k)) (e k))))
    (broadcast (sh2 1 128) (Scalar.log (tree8 Scalar.addf w)))

/-- One lane of one row, as a scalar. -/
def pick {R C : Nat} (v : FVec F (sh2 R C) .f32) (r c : Nat) (hr : r + 1 ≤ R) (hc : c + 1 ≤ C) : F .f32 :=
  extractAt ![0, 0] (extractStridedSlice (sh2 1 1) ![r, c] v (slc hr hc)) at00

/-- The log of the sum of exponentials of the root's weights, shifted by their largest. -/
def lseW (w : FVec F (sh2 1 16) .f32) : F .f32 :=
  let mw : F .f32 := extractAt ![0, 0, 0] (shapeCast (sh3 1 1 1) (multiReduction .maximumf [1, 2] ⟨1, ![1]⟩ (shapeCast (sh3 1 1 16) w (casts_add 1 16))
    0xFF800000#32 reds (.inl rfl) rfl) casts_111) at000
  Scalar.addf mw (Scalar.log (extractAt ![0, 0, 0] (shapeCast (sh3 1 1 1) (multiReduction .add [1, 2] ⟨1, ![1]⟩
    (shapeCast (sh3 1 1 16) (exp (subf w (broadcast (sh2 1 16) mw))) (casts_add 1 16)) 0x00000000#32 reds (.inl rfl) rfl) casts_111) at000))

/-- The mixture over the root's sixteen children. -/
def rootE (f : Fin 8 → Fin 2 → FVec F (sh2 1 128) .f32) (w : FVec F (sh2 1 16) .f32) : FVec F (sh2 1 128) .f32 :=
  let m := tree16 maximumf f
  addf m (log (tree16 addf fun c r => mulf (exp (subf (f c r) m))
    (broadcast (sh2 1 128) (Scalar.exp (Scalar.subf (pick w 0 (2 * c.val + r.val) (Nat.le_refl _) (two_mul_lt c.isLt r.isLt)) (lseW w))))))

end Values

section Programs

variable {nD : Nat} {τ : Topo} {sig : RefSig} {Λ : Labels} {F : FTy → Type} [FloatOps F]

/-- Programs of a TensorCore. -/
abbrev Pg (nD : Nat) (τ : Topo) (sig : RefSig) (F : FTy → Type) (Λ : Labels) (α : Type) : Type 1 := Prog (TpuEff nD τ sig (Elt F) Λ .tc) α

/-- A read of an `a` by `b` block of a matrix at row `r`, column `c`. -/
def rd2 {R C : Nat} (m : Memref sig .tc .vmem (sh2 R C) .f32) (r c a b : Nat) (hr : r + a ≤ R) (hc : c + b ≤ C) (ha : 0 < a) (hb : 0 < b) :
    Pg nD τ sig F Λ (Vec F (sh2 a b) .f32) :=
  Prog.lift (.load m (Rect.unit (s := sh2 R C) ![r, c] ![a, b] (inb2 hr hc)).toLoadRect (View.loadsAt_vmem (pos2 ha hb)))

/-- A read of an `a` by `b` block of plane `p` of a stack of matrices. -/
def rd3 {P R C : Nat} (m : Memref sig .tc .vmem (sh3 P R C) .f32) (p r c a b : Nat) (hp : p + 1 ≤ P) (hr : r + a ≤ R) (hc : c + b ≤ C)
    (ha : 0 < a) (hb : 0 < b) : Pg nD τ sig F Λ (Vec F (sh3 1 a b) .f32) :=
  Prog.lift (.load m (Rect.unit (s := sh3 P R C) ![p, r, c] ![1, a, b] (inb3 hp hr hc)).toLoadRect (View.loadsAt_vmem (pos3 Nat.one_pos ha hb)))

/-- A write of such a block. The printed program reads the block before it writes it, and drops what it read. -/
def wr3 {P R C : Nat} (m : Memref sig .tc .vmem (sh3 P R C) .f32) (p r c a b : Nat) (hp : p + 1 ≤ P) (hr : r + a ≤ R) (hc : c + b ≤ C)
    (ha : 0 < a) (hb : 0 < b) (v : FVec F (sh2 a b) .f32) : Pg nD τ sig F Λ PUnit := do
  let _ ← (rd3 m p r c a b hp hr hc ha hb : Pg nD τ sig F Λ _)
  Prog.lift (.store m (Rect.unit (s := sh3 P R C) ![p, r, c] ![1, a, b] (inb3 hp hr hc)) (shapeCast (sh3 1 a b) v (casts_add a b))
    Finset.univ (View.stores_vmem_bits_univ (pos3 Nat.one_pos ha hb) rfl) (.inl rfl))

/-- A family with `a` put before it. -/
def fcons {α : Type} {n : Nat} (a : α) (g : Fin n → α) : Fin (n + 1) → α
  | ⟨0, _⟩ => a
  | ⟨k + 1, h⟩ => g ⟨k, Nat.lt_of_succ_lt_succ h⟩

/-- Run the members of a family in order and collect their results. -/
def collect {α : Type} : (n : Nat) → (Fin n → Pg nD τ sig F Λ α) → Pg nD τ sig F Λ (Fin n → α)
  | 0, _ => pure fun k => k.elim0
  | n + 1, f => do
    let a ← f ⟨0, Nat.succ_pos n⟩
    let g ← collect n fun k => f ⟨k.val + 1, Nat.succ_lt_succ k.isLt⟩
    pure (fcons a g)

/-- Run the members of a family in order. -/
def each : (n : Nat) → (Fin n → Pg nD τ sig F Λ PUnit) → Pg nD τ sig F Λ PUnit
  | 0, _ => pure ⟨⟩
  | n + 1, f => do
    f ⟨0, Nat.succ_pos n⟩
    each n fun k => f ⟨k.val + 1, Nat.succ_lt_succ k.isLt⟩

/-- The weights of a tile: for each output channel, input channel and rank index one row of 128 lanes. -/
def tileW {C : Nat} (wt : Memref sig .tc .vmem (sh2 128 C) .f32) (base : Nat) (hb : base + 128 ≤ C) :
    Pg nD τ sig F Λ (Fin 8 → Fin 8 → Fin 2 → FVec F (sh2 1 128) .bf16) :=
  collect 8 fun co => collect 8 fun ci => collect 2 fun r => do
    let v ← rd2 wt (co.val * 16 + ci.val * 2 + r.val) base 1 128 (by omega) hb (by omega) (by omega)
    pure (wB v)

/-- The eight stores of a tile at one rank index. -/
def tileOut (hl : Memref sig .tc .vmem (sh3 16 128 512) .f32) (base : Nat) (hb : base + 128 ≤ 512) (r : Fin 2)
    (w : Fin 8 → Fin 8 → Fin 2 → FVec F (sh2 1 128) .bf16) (s : Fin 8 → FVec F (sh2 128 128) .f32) : Pg nD τ sig F Λ PUnit :=
  each 8 fun co => wr3 hl (2 * co.val + r.val) 0 base 128 128 (two_mul_lt co.isLt r.isLt) (by omega) hb (by omega) (by omega)
    (planeB (mx s) (eB (mx s) s) (fun ci => w co ci r))

/-- A tile of the first level: the leaves' densities summed in pairs, then mixed. -/
def tile0 (hlp : F .f32) (x : Memref sig .tc .vmem (sh2 128 1024) .f32) (mu lv : Memref sig .tc .vmem (sh2 16 1024) .f32)
    (wt : Memref sig .tc .vmem (sh2 128 512) .f32) (hl : Memref sig .tc .vmem (sh3 16 128 512) .f32) (j : Fin 4) : Pg nD τ sig F Λ PUnit := do
  let w ← tileW wt (j.val * 128) (by omega)
  let xa ← rd2 x 0 (j.val * 128) 128 128 (by omega) (by omega) (by omega) (by omega)
  let xb ← rd2 x 0 (512 + j.val * 128) 128 128 (by omega) (by omega) (by omega) (by omega)
  each 2 fun r => do
    let s ← collect 8 fun ci => do
      let lva ← rd2 lv (2 * ci.val + r.val) (j.val * 128) 1 128 (two_mul_lt ci.isLt r.isLt) (by omega) (by omega) (by omega)
      let mua ← rd2 mu (2 * ci.val + r.val) (j.val * 128) 1 128 (two_mul_lt ci.isLt r.isLt) (by omega) (by omega) (by omega)
      let lvb ← rd2 lv (2 * ci.val + r.val) (512 + j.val * 128) 1 128 (two_mul_lt ci.isLt r.isLt) (by omega) (by omega) (by omega)
      let mub ← rd2 mu (2 * ci.val + r.val) (512 + j.val * 128) 1 128 (two_mul_lt ci.isLt r.isLt) (by omega) (by omega) (by omega)
      pure (addf (leafE hlp lva mua xa) (leafE hlp lvb mub xb))
    tileOut hl (j.val * 128) (by omega) r w s

/-- A tile of a later level with its features along the lanes: planes `base` and `half + base` of the stack summed, then mixed. -/
def tileL {C : Nat} (wt : Memref sig .tc .vmem (sh2 128 C) .f32) (hl : Memref sig .tc .vmem (sh3 16 128 512) .f32) (half base : Nat)
    (hC : base + 128 ≤ C) (hh : half + base + 128 ≤ 512) : Pg nD τ sig F Λ PUnit := do
  let w ← tileW wt base hC
  each 2 fun r => do
    let s ← collect 8 fun ci => do
      let a ← rd3 hl (2 * ci.val + r.val) 0 base 128 128 (two_mul_lt ci.isLt r.isLt) (by omega) (by omega) (by omega) (by omega)
      let b ← rd3 hl (2 * ci.val + r.val) 0 (half + base) 128 128 (two_mul_lt ci.isLt r.isLt) (by omega) (by omega) (by omega) (by omega)
      pure (addf (shapeCast (sh2 128 128) a (casts_drop 128 128)) (shapeCast (sh2 128 128) b (casts_drop 128 128)))
    tileOut hl base (by omega) r w s

/-- The first 128 lanes of each plane, transposed into the second stack. -/
def swap (hl : Memref sig .tc .vmem (sh3 16 128 512) .f32) (hf : Memref sig .tc .vmem (sh3 16 128 128) .f32) : Pg nD τ sig F Λ PUnit :=
  each 16 fun cr => do
    let a ← rd3 hl cr.val 0 0 128 128 cr.isLt (by omega) (by omega) (by omega) (by omega)
    wr3 hf cr.val 0 0 128 128 cr.isLt (by omega) (by omega) (by omega) (by omega)
      (transpose (sh2 128 128) [1, 0] (shapeCast (sh2 128 128) a (casts_drop 128 128)) swaps)

/-- A level of `n` features along the sublanes, its weights `n` rows from row `o`. -/
def levelF (wg : Memref sig .tc .vmem (sh2 4092 128) .f32) (hf : Memref sig .tc .vmem (sh3 16 128 128) .f32) (n o : Nat)
    (hn : 0 < n) (h2 : n + n ≤ 128) (ho : o + n ≤ 4092) : Pg nD τ sig F Λ PUnit := do
  let v ← rd2 wg o 0 n 128 ho (by omega) hn (by omega)
  each 2 fun r => do
    let s ← collect 8 fun ci => do
      let a ← rd3 hf (2 * ci.val + r.val) 0 0 n 128 (two_mul_lt ci.isLt r.isLt) (by omega) (by omega) hn (by omega)
      let b ← rd3 hf (2 * ci.val + r.val) n 0 n 128 (two_mul_lt ci.isLt r.isLt) h2 (by omega) hn (by omega)
      pure (addf (shapeCast (sh2 n 128) a (casts_drop n 128)) (shapeCast (sh2 n 128) b (casts_drop n 128)))
    each 8 fun co => wr3 hf (2 * co.val + r.val) 0 0 n 128 (two_mul_lt co.isLt r.isLt) (by omega) (by omega) hn (by omega)
      (outF v r s co)

/-- The first row of each plane, kept as row `i` of the third stack. -/
def keep (hf : Memref sig .tc .vmem (sh3 16 128 128) .f32) (sf : Memref sig .tc .vmem (sh3 16 8 128) .f32) (i : Nat) (hi : i + 1 ≤ 8) :
    Pg nD τ sig F Λ PUnit :=
  each 16 fun cr => do
    let a ← rd3 hf cr.val 0 0 1 128 cr.isLt (by omega) (by omega) (by omega) (by omega)
    wr3 sf cr.val i 0 1 128 cr.isLt hi (by omega) (by omega) (by omega) (shapeCast (sh2 1 128) a (casts_drop 1 128))

/-- The third stack set to zero. -/
def zero (sf : Memref sig .tc .vmem (sh3 16 8 128) .f32) : Pg nD τ sig F Λ PUnit := do
  let _ ← (Prog.lift (.load sf (Rect.unit (s := sh3 16 8 128) ![0, 0, 0] ![16, 8, 128] (inb3 (by omega) (by omega) (by omega))).toLoadRect
    (View.loadsAt_vmem (pos3 (by omega) (by omega) (by omega)))) : Pg nD τ sig F Λ (Vec F (sh3 16 8 128) .f32))
  Prog.lift (.store sf (Rect.unit (s := sh3 16 8 128) ![0, 0, 0] ![16, 8, 128] (inb3 (by omega) (by omega) (by omega)))
    (shapeCast (sh3 16 8 128) (broadcast (sh3 16 8 128) (Scalar.ofBits .f32 0x00000000#32)) (casts_self _))
    Finset.univ (View.stores_vmem_bits_univ (pos3 (by omega) (by omega) (by omega)) rfl) (.inl rfl))

/-- The last two levels and the root, from the rows kept of the four subtrees. -/
def root (w10 : Memref sig .tc .vmem (sh2 2 128) .f32) (w11 : Memref sig .tc .vmem (sh2 1 128) .f32) (wr : Memref sig .tc .vmem (sh2 1 16) .f32)
    (out : Memref sig .tc .vmem (sh2 1 128) .f32) (sf : Memref sig .tc .vmem (sh3 16 8 128) .f32) : Pg nD τ sig F Λ PUnit := do
  let v10 ← rd2 w10 0 0 2 128 (by omega) (by omega) (by omega) (by omega)
  let v11 ← rd2 w11 0 0 1 128 (by omega) (by omega) (by omega) (by omega)
  let h10 ← collect 2 fun r => collect 2 fun f => do
    let s ← collect 8 fun ci => do
      let a ← rd3 sf (2 * ci.val + r.val) (2 * f.val) 0 1 128 (two_mul_lt ci.isLt r.isLt) (by omega) (by omega) (by omega) (by omega)
      let b ← rd3 sf (2 * ci.val + r.val) (2 * f.val + 1) 0 1 128 (two_mul_lt ci.isLt r.isLt) (by omega) (by omega) (by omega) (by omega)
      pure (addf (shapeCast (sh2 1 128) a (casts_drop 1 128)) (shapeCast (sh2 1 128) b (casts_drop 1 128)))
    pure fun co : Fin 8 => planeS (mx s) (eF (mx s) s) fun ci =>
      pick (exp (shapeCast (sh2 2 128) v10 (casts_self _))) f.val (co.val * 16 + r.val + 2 * ci.val) f.isLt (lane_lt co.isLt ci.isLt r.isLt)
  let h11 : Fin 8 → Fin 2 → FVec F (sh2 1 128) .f32 := fun co r =>
    planeS (mx fun ci => addf (h10 r ⟨0, by omega⟩ ci) (h10 r ⟨1, by omega⟩ ci))
      (eF (mx fun ci => addf (h10 r ⟨0, by omega⟩ ci) (h10 r ⟨1, by omega⟩ ci)) fun ci => addf (h10 r ⟨0, by omega⟩ ci) (h10 r ⟨1, by omega⟩ ci)) fun ci =>
      pick (exp (shapeCast (sh2 1 128) v11 (casts_self _))) 0 (co.val * 16 + r.val + 2 * ci.val) (by omega) (lane_lt co.isLt ci.isLt r.isLt)
  let vr ← rd2 wr 0 0 1 16 (by omega) (by omega) (by omega) (by omega)
  let _ ← (rd2 out 0 0 1 128 (by omega) (by omega) (by omega) (by omega) : Pg nD τ sig F Λ _)
  Prog.lift (.store out (Rect.unit (s := sh2 1 128) ![0, 0] ![1, 128] (inb2 (by omega) (by omega)))
    (rootE h11 (shapeCast (sh2 1 16) vr (casts_self _)))
    Finset.univ (View.stores_vmem_bits_univ (pos2 (by omega) (by omega)) rfl) (.inl rfl))

/-- The whole body at grid point `i`. -/
def body (hlp : F .f32) (i : Fin 3) (x : Memref sig .tc .vmem (sh2 128 1024) .f32) (mu lv : Memref sig .tc .vmem (sh2 16 1024) .f32)
    (wt0 : Memref sig .tc .vmem (sh2 128 512) .f32) (wt1 : Memref sig .tc .vmem (sh2 128 256) .f32) (wt2 : Memref sig .tc .vmem (sh2 128 128) .f32)
    (wg : Memref sig .tc .vmem (sh2 4092 128) .f32) (w10 : Memref sig .tc .vmem (sh2 2 128) .f32) (w11 : Memref sig .tc .vmem (sh2 1 128) .f32)
    (wr : Memref sig .tc .vmem (sh2 1 16) .f32) (out : Memref sig .tc .vmem (sh2 1 128) .f32)
    (hl : Memref sig .tc .vmem (sh3 16 128 512) .f32) (hf : Memref sig .tc .vmem (sh3 16 128 128) .f32) (sf : Memref sig .tc .vmem (sh3 16 8 128) .f32) :
    Pg nD τ sig F Λ PUnit := do
  (match i with | ⟨0, _⟩ => zero sf | ⟨_ + 1, _⟩ => pure ⟨⟩)
  each 4 (tile0 hlp x mu lv wt0 hl)
  each 2 fun j => tileL wt1 hl 256 (j.val * 128) (by omega) (by omega)
  tileL wt2 hl 128 0 (by omega) (by omega)
  swap hl hf
  levelF wg hf 64 (3584 + i.val * 64) (by omega) (by omega) (by omega)
  levelF wg hf 32 (3840 + i.val * 32) (by omega) (by omega) (by omega)
  levelF wg hf 16 (3968 + i.val * 16) (by omega) (by omega) (by omega)
  levelF wg hf 8 (4032 + i.val * 8) (by omega) (by omega) (by omega)
  levelF wg hf 4 (4064 + i.val * 4) (by omega) (by omega) (by omega)
  levelF wg hf 2 (4080 + i.val * 2) (by omega) (by omega) (by omega)
  levelF wg hf 1 (4088 + i.val * 1) (by omega) (by omega) (by omega)
  keep hf sf i.val (by omega)
  (match i with | ⟨2, _⟩ => root w10 w11 wr out sf | _ => pure ⟨⟩)

end Programs

end Einet
-- ==== Proof.Einet.Runs.lean ====
/- What the looped program does to the buffers it owns: rules for reads, writes and loops. -/
module

public import proofs.«01_k».proof.Proof.Einet.Tree
public import Idealize.ShloMosaic.Lib.Memref
public import Idealize.ShloMosaic.Lib.ValueLayout
public import Idealize.ShloMosaic.Rules.Step
public import Idealize.ShloMosaic.Lib.Tactic

@[expose] public section

noncomputable section

namespace Einet

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ### Blocks of arrays -/

section Blocks

variable {α : Type}

/-- Matrices agree if they agree at every row and column. -/
theorem funext2 {a b : Nat} {f g : (sh2 a b).Idx → α} (h : ∀ i j, f (ix2 i j) = g (ix2 i j)) : f = g :=
  funext fun x => by have := h (x 0) (x 1); exact (congrArg f (eq_ix2 x)).trans (this.trans (congrArg g (eq_ix2 x)).symm)

/-- Stacks of matrices agree if they agree at every plane, row and column. -/
theorem funext3 {a b c : Nat} {f g : (sh3 a b c).Idx → α} (h : ∀ i j k, f (ix3 i j k) = g (ix3 i j k)) : f = g :=
  funext fun x => by have := h (x 0) (x 1) (x 2); exact (congrArg f (eq_ix3 x)).trans (this.trans (congrArg g (eq_ix3 x)).symm)

/-- The `a` by `b` block of a matrix at row `r`, column `c`. -/
def get2 {R C : Nat} (X : (sh2 R C).Idx → α) (r c a b : Nat) (hr : r + a ≤ R) (hc : c + b ≤ C) : (sh2 a b).Idx → α :=
  fun i => X (ix2 ⟨r + (i 0).val, Nat.lt_of_lt_of_le (Nat.add_lt_add_left (idx2_lt0 i) r) hr⟩
    ⟨c + (i 1).val, Nat.lt_of_lt_of_le (Nat.add_lt_add_left (idx2_lt1 i) c) hc⟩)

/-- The `a` by `b` block of plane `p` of a stack of matrices. -/
def get3 {P R C : Nat} (X : (sh3 P R C).Idx → α) (p r c a b : Nat) (hp : p + 1 ≤ P) (hr : r + a ≤ R) (hc : c + b ≤ C) : (sh2 a b).Idx → α :=
  fun i => X (ix3 ⟨p, hp⟩ ⟨r + (i 0).val, Nat.lt_of_lt_of_le (Nat.add_lt_add_left (idx2_lt0 i) r) hr⟩
    ⟨c + (i 1).val, Nat.lt_of_lt_of_le (Nat.add_lt_add_left (idx2_lt1 i) c) hc⟩)

open Classical in
/-- A stack of matrices with the `a` by `b` block at row `r`, column `c` of each plane of `D` replaced. -/
def lay {P R C : Nat} (r c a b : Nat) (D : Fin P → Prop) (V : Fin P → (sh2 a b).Idx → α) (X : (sh3 P R C).Idx → α) : (sh3 P R C).Idx → α :=
  fun j => if h : (r ≤ (j 1).val ∧ (j 1).val < r + a ∧ c ≤ (j 2).val ∧ (j 2).val < c + b) ∧ D (j 0) then
    V (j 0) (ix2 ⟨(j 1).val - r, by omega⟩ ⟨(j 2).val - c, by omega⟩) else X j

theorem lay_none {P R C r c a b : Nat} {D : Fin P → Prop} (hD : ∀ p, ¬ D p) (V : Fin P → (sh2 a b).Idx → α) (X : (sh3 P R C).Idx → α) :
    lay r c a b D V X = X := by
  funext j; exact dif_neg fun h => hD _ h.2

theorem lay_congr {P R C r c a b : Nat} {D D' : Fin P → Prop} (hD : ∀ p, D p ↔ D' p) (V : Fin P → (sh2 a b).Idx → α) (X : (sh3 P R C).Idx → α) :
    lay r c a b D V X = lay r c a b D' V X := by
  rw [show D = D' from funext fun p => propext (hD p)]

/-- Laying one more plane. -/
theorem lay_lay {P R C r c a b : Nat} (D D' : Fin P → Prop) (V : Fin P → (sh2 a b).Idx → α) (X : (sh3 P R C).Idx → α) :
    lay r c a b D' V (lay r c a b D V X) = lay r c a b (fun p => D p ∨ D' p) V X := by
  funext j
  by_cases hr : r ≤ (j 1).val ∧ (j 1).val < r + a ∧ c ≤ (j 2).val ∧ (j 2).val < c + b
  · by_cases h' : D' (j 0) <;> by_cases h : D (j 0) <;> simp [lay, hr, h, h']
  · simp [lay, hr]

/-- A plane not laid reads as before. -/
theorem get3_lay {P R C r c a b : Nat} (D : Fin P → Prop) (V : Fin P → (sh2 a b).Idx → α) (X : (sh3 P R C).Idx → α)
    (p r' c' a' b' : Nat) (hp : p + 1 ≤ P) (hr : r' + a' ≤ R) (hc : c' + b' ≤ C) (hD : ¬ D ⟨p, hp⟩) :
    get3 (lay r c a b D V X) p r' c' a' b' hp hr hc = get3 X p r' c' a' b' hp hr hc := by
  funext i; exact dif_neg fun h => hD h.2

theorem lay_of_mem {P R C r c a b : Nat} {D : Fin P → Prop} (V : Fin P → (sh2 a b).Idx → α) (X : (sh3 P R C).Idx → α)
    (p : Fin P) (y : Fin R) (z : Fin C) (hp : D p) (h1 : r ≤ y.val) (h2 : y.val < r + a) (h3 : c ≤ z.val) (h4 : z.val < c + b) :
    lay r c a b D V X (ix3 p y z) = V p (ix2 ⟨y.val - r, by omega⟩ ⟨z.val - c, by omega⟩) :=
  dif_pos ⟨⟨h1, h2, h3, h4⟩, hp⟩

theorem lay_neg {P R C r c a b : Nat} {D : Fin P → Prop} (V : Fin P → (sh2 a b).Idx → α) (X : (sh3 P R C).Idx → α)
    (p : Fin P) (y : Fin R) (z : Fin C) (h : ¬ ((r ≤ y.val ∧ y.val < r + a ∧ c ≤ z.val ∧ z.val < c + b) ∧ D p)) :
    lay r c a b D V X (ix3 p y z) = X (ix3 p y z) :=
  dif_neg h

theorem lay_of_not {P R C r c a b : Nat} {D : Fin P → Prop} (V : Fin P → (sh2 a b).Idx → α) (X : (sh3 P R C).Idx → α)
    (p : Fin P) (y : Fin R) (z : Fin C) (h : ¬ (r ≤ y.val ∧ y.val < r + a ∧ c ≤ z.val ∧ z.val < c + b)) :
    lay r c a b D V X (ix3 p y z) = X (ix3 p y z) :=
  dif_neg fun h' => h h'.1

end Blocks

section Rules

variable {nD : Nat} {τ : Topo} {sig : RefSig} {Λ : Labels} {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ) (c : Dev nD) (E : Set Name)

/-- From `P` the program returns `a` and leaves `P'`. -/
def Runs {α : Type} (p : Pg nD τ sig F Λ α) (P : sProp 𝕄) (a : α) (P' : sProp 𝕄) : Prop :=
  ∀ Q : α → sProp 𝕄, iprop(P ∗ (P' -∗ Q a)) ⊢ wp frame (wpE defs Variants.none (c : Thread nD τ) none) E p Q

/-- `P` holds the memref at contents `X`, and is `P' Y` once these are `Y`. -/
def Foc {sp : Space} {s : Shape} {e : EltTy} (P : sProp 𝕄) (m : Memref sig .tc sp s e) (X : s.Idx → Elt F e) (P' : (s.Idx → Elt F e) → sProp 𝕄) : Prop :=
  P ⊢ iprop(owns (c : Thread nD τ) m fullShare X ∗ (∀ Y, owns (c : Thread nD τ) m fullShare Y -∗ P' Y))

theorem Foc.self {sp : Space} {s : Shape} {e : EltTy} (m : Memref sig .tc sp s e) (X : s.Idx → Elt F e) :
    Foc c (owns (c : Thread nD τ) m fullShare X : sProp 𝕄) m X fun Y => owns (c : Thread nD τ) m fullShare Y := by
  unfold Foc
  iintro H; isplitl [H]; · iexact H
  iintro %Y H; iexact H

theorem Foc.left {sp : Space} {s : Shape} {e : EltTy} {P : sProp 𝕄} {m : Memref sig .tc sp s e} {X : s.Idx → Elt F e} {P' : (s.Idx → Elt F e) → sProp 𝕄}
    (h : Foc c P m X P') (B : sProp 𝕄) : Foc c iprop(P ∗ B) m X fun Y => iprop(P' Y ∗ B) := by
  unfold Foc at *
  iintro ⟨H, HB⟩
  ihave H' := h $$ H
  icases H' with ⟨H, HY⟩
  isplitl [H]; · iexact H
  iintro %Y H
  isplitl [H HY]; · iapply HY; iexact H
  iexact HB

theorem Foc.right {sp : Space} {s : Shape} {e : EltTy} {P : sProp 𝕄} {m : Memref sig .tc sp s e} {X : s.Idx → Elt F e} {P' : (s.Idx → Elt F e) → sProp 𝕄}
    (h : Foc c P m X P') (B : sProp 𝕄) : Foc c iprop(B ∗ P) m X fun Y => iprop(B ∗ P' Y) := by
  unfold Foc at *
  iintro ⟨HB, H⟩
  ihave H' := h $$ H
  icases H' with ⟨H, HY⟩
  isplitl [H]; · iexact H
  iintro %Y H
  isplitl [HB]; · iexact HB
  iapply HY; iexact H

variable {defs c E}

theorem Runs.ret {α : Type} (a : α) (P : sProp 𝕄) : Runs defs c E (pure a) P a P := by
  intro Q
  show _ ⊢ wp frame _ E (Prog.ret a) Q
  rw [wp_ret]
  iintro ⟨HP, HQ⟩
  imodintro
  iapply HQ; iexact HP

theorem Runs.bind {α β : Type} {p : Pg nD τ sig F Λ α} {k : α → Pg nD τ sig F Λ β} {P P' P'' : sProp 𝕄} {a : α} {b : β}
    (h : Runs defs c E p P a P') (h' : Runs defs c E (k a) P' b P'') : Runs defs c E (p >>= k) P b P'' := by
  intro Q
  rw [wp_bind]
  refine .trans ?_ (h _)
  iintro ⟨HP, HQ⟩
  isplitl [HP]; · iexact HP
  iintro HP
  iapply (h' Q)
  isplitl [HP]; · iexact HP
  iexact HQ

theorem Runs.load {s : Shape} {e : EltTy} {m : Memref sig .tc .vmem s e} {r : Rect s} {hl : m.view.LoadsAt r.toLoadRect} {P : sProp 𝕄} {X : s.Idx → Elt F e}
    {P' : (s.Idx → Elt F e) → sProp 𝕄} (h : Foc c P m X P') :
    Runs defs c E (Prog.lift (.load m r.toLoadRect hl) : Pg nD τ sig F Λ _) P (fun i => X (r.emb i)) (P' X) := by
  intro Q
  show _ ⊢ wp frame _ E (Prog.op _ Prog.ret) Q
  refine (sep_mono_left h).trans ?_
  unfold owns
  iintro ⟨⟨⟨%f, %hf, H⟩, HY⟩, HQ⟩
  iapply (wp_load_rect Variants.none (c : Thread nD τ) none E (m.view.set_slice_subset r)) $$ H
  iintro H
  rw [wp_ret]
  imodintro
  subst hf
  rw [show (m.access r).read (Elt F) f = fun i => m.view.read (Elt F) f (r.emb i) from rfl]
  iapply HQ
  iapply HY
  iexists f; isplitr; · ipureintro; rfl
  iexact H

theorem Runs.store {s : Shape} {e : EltTy} {m : Memref sig .tc .vmem s e} {r : Rect s} {w : r.shape.Idx → Elt F e}
    {hx : (m.access r).Stores Finset.univ} {hm : Finset.univ = (Finset.univ : Finset r.shape.Idx) ∨ ∀ a, r.stride a = 1} {P : sProp 𝕄} {X : s.Idx → Elt F e}
    {P' : (s.Idx → Elt F e) → sProp 𝕄} (h : Foc c P m X P') :
    Runs defs c E (Prog.lift (.store m r w Finset.univ hx hm) : Pg nD τ sig F Λ _) P ⟨⟩ (P' (r.overlay X w)) := by
  intro Q
  show _ ⊢ wp frame _ E (Prog.op _ Prog.ret) Q
  refine (sep_mono_left h).trans ?_
  unfold owns
  iintro ⟨⟨⟨%f, %hf, H⟩, HY⟩, HQ⟩
  iapply (wp_store Variants.none (c : Thread nD τ) none E (m.view.set_slice_subset r)) $$ H
  iintro H
  rw [wp_ret]
  imodintro
  subst hf
  iapply HQ
  iapply HY
  iexists _; isplitr
  rotate_left
  · iexact H
  ipureintro
  funext j
  by_cases hj : j ∈ r.set
  · obtain ⟨i, rfl⟩ := r.exists_idx_of_mem hj
    exact (View.read_slice_write_emb (v := m.view) r f w (Finset.mem_univ i)).trans (Rect.overlay_emb r _ w i).symm
  · rw [Rect.overlay_of_not_mem _ _ _ hj, View.read_slice_write_of_not_mem]
    rw [Rect.map_emb_univ]; exact hj

theorem Runs.mono {α : Type} {p : Pg nD τ sig F Λ α} {P P' P₂ P₂' : sProp 𝕄} {a a' : α} (h : Runs defs c E p P a P')
    (h₁ : P₂ = P) (h₂ : P' = P₂') (ha : a = a') : Runs defs c E p P₂ a' P₂' := by
  subst h₁ h₂ ha; exact h

theorem Runs.rd2 {R C : Nat} {m : Memref sig .tc .vmem (sh2 R C) .f32} {r c₀ a b : Nat} {hr : r + a ≤ R} {hc : c₀ + b ≤ C} {ha : 0 < a} {hb : 0 < b}
    {P : sProp 𝕄} {X : FVec F (sh2 R C) .f32} {P' : FVec F (sh2 R C) .f32 → sProp 𝕄} (h : Foc c P m (e := .f32) X P') :
    Runs defs c E (rd2 m r c₀ a b hr hc ha hb : Pg nD τ sig F Λ _) P (get2 X r c₀ a b hr hc) (P' X) := by
  refine (Runs.load h).mono rfl rfl (funext fun i => congrArg X (funext fun d => Fin.ext ?_))
  match d with
  | ⟨0, _⟩ => exact congrArg (r + ·) (Nat.one_mul _)
  | ⟨1, _⟩ => exact congrArg (c₀ + ·) (Nat.one_mul _)

/-- A plane's block as the read returns it. -/
def got {P R C : Nat} {α : Type} (X : (sh3 P R C).Idx → α) (p r c a b : Nat) (hp : p + 1 ≤ P) (hr : r + a ≤ R) (hc : c + b ≤ C) : (sh3 1 a b).Idx → α :=
  fun i => get3 X p r c a b hp hr hc (ix2 (i 1) (i 2))

theorem shapeCast_got {P R C : Nat} {α : Type} (X : (sh3 P R C).Idx → α) (p r c a b : Nat) (hp : p + 1 ≤ P) (hr : r + a ≤ R) (hc : c + b ≤ C)
    (h : (sh3 1 a b).ShapeCasts (sh2 a b)) : shapeCast (sh2 a b) (got X p r c a b hp hr hc) h = get3 X p r c a b hp hr hc := by
  refine funext2 fun i j => ?_
  rw [shapeCast_1ab_ab_apply]
  rfl

theorem Runs.rd3 {P R C : Nat} {m : Memref sig .tc .vmem (sh3 P R C) .f32} {p r c₀ a b : Nat} {hp : p + 1 ≤ P} {hr : r + a ≤ R} {hc : c₀ + b ≤ C}
    {ha : 0 < a} {hb : 0 < b} {O : sProp 𝕄} {X : FVec F (sh3 P R C) .f32} {O' : FVec F (sh3 P R C) .f32 → sProp 𝕄} (h : Foc c O m (e := .f32) X O') :
    Runs defs c E (rd3 m p r c₀ a b hp hr hc ha hb : Pg nD τ sig F Λ _) O (got X p r c₀ a b hp hr hc) (O' X) := by
  refine (Runs.load h).mono rfl rfl (funext fun i => congrArg X (funext fun d => Fin.ext ?_))
  match d with
  | ⟨0, _⟩ =>
    have h0 : (i 0).val = 0 := Nat.lt_one_iff.mp (i 0).isLt
    show p + 1 * (i 0).val = p
    rw [h0]; rfl
  | ⟨1, _⟩ => exact congrArg (r + ·) (Nat.one_mul _)
  | ⟨2, _⟩ => exact congrArg (c₀ + ·) (Nat.one_mul _)

theorem overlay_unit3 {P R C p r c₀ a b : Nat} (hp : p + 1 ≤ P) (hr : r + a ≤ R) (hc : c₀ + b ≤ C) (X : FVec F (sh3 P R C) .f32) (V : Fin P → FVec F (sh2 a b) .f32)
    (h : (sh2 a b).ShapeCasts (sh3 1 a b)) :
    (Rect.unit (s := sh3 P R C) ![p, r, c₀] ![1, a, b] (inb3 hp hr hc)).overlay X (shapeCast (sh3 1 a b) (V ⟨p, hp⟩) h)
      = lay r c₀ a b (fun q => q.val = p) V X := by
  refine funext3 fun q y z => ?_
  by_cases hj : (r ≤ y.val ∧ y.val < r + a ∧ c₀ ≤ z.val ∧ z.val < c₀ + b) ∧ q.val = p
  · obtain ⟨⟨h1, h2, h3, h4⟩, h0⟩ := hj
    obtain rfl : q = ⟨p, hp⟩ := Fin.ext h0
    have e : ix3 (⟨p, hp⟩ : Fin P) y z = (Rect.unit (s := sh3 P R C) ![p, r, c₀] ![1, a, b] (inb3 hp hr hc)).emb
        (ix3 (0 : Fin 1) (⟨y.val - r, by omega⟩ : Fin a) (⟨z.val - c₀, by omega⟩ : Fin b)) := by
      funext d; apply Fin.ext
      match d with
      | ⟨0, _⟩ => rfl
      | ⟨1, _⟩ => show y.val = r + 1 * (y.val - r); omega
      | ⟨2, _⟩ => show z.val = c₀ + 1 * (z.val - c₀); omega
    rw [lay_of_mem (D := fun q : Fin P => q.val = p) V X ⟨p, hp⟩ y z rfl h1 h2 h3 h4]
    refine (congrArg _ e).trans ((Rect.overlay_emb _ _ _ _).trans ?_)
    rw [shapeCast_ab_1ab_apply]
  · refine Eq.trans (Rect.overlay_of_not_mem _ _ _ fun hm => hj ?_) (lay_neg V X q y z hj).symm
    obtain ⟨i, hi⟩ := (Rect.unit (s := sh3 P R C) ![p, r, c₀] ![1, a, b] (inb3 hp hr hc)).exists_idx_of_mem hm
    have hi0 : (i 0).val = 0 := Nat.lt_one_iff.mp (i 0).isLt
    have i1 : (i 1).val < a := (i 1).isLt
    have i2 : (i 2).val < b := (i 2).isLt
    have j0 : q.val = p + 1 * (i 0).val := congrArg (fun z => (z 0).val) hi.symm
    have j1 : y.val = r + 1 * (i 1).val := congrArg (fun z => (z 1).val) hi.symm
    have j2 : z.val = c₀ + 1 * (i 2).val := congrArg (fun z => (z 2).val) hi.symm
    omega

theorem Runs.wr3 {P R C : Nat} {m : Memref sig .tc .vmem (sh3 P R C) .f32} {p r c₀ a b : Nat} {hp : p + 1 ≤ P} {hr : r + a ≤ R} {hc : c₀ + b ≤ C}
    {ha : 0 < a} {hb : 0 < b} {X : FVec F (sh3 P R C) .f32} {O : FVec F (sh3 P R C) .f32 → sProp 𝕄}
    (h : Foc c (O X) m (e := .f32) X O) (V : Fin P → FVec F (sh2 a b) .f32) {v : FVec F (sh2 a b) .f32} (hv : v = V ⟨p, hp⟩) :
    Runs defs c E (wr3 m p r c₀ a b hp hr hc ha hb v : Pg nD τ sig F Λ _) (O X) ⟨⟩ (O (lay r c₀ a b (fun q => q.val = p) V X)) := by
  subst hv
  refine Runs.bind (Runs.rd3 h) ((Runs.store h).mono rfl ?_ rfl)
  exact congrArg O (overlay_unit3 hp hr hc X V _)

theorem fcons_eq {α : Type} {n : Nat} (a : Fin (n + 1) → α) : fcons (a ⟨0, Nat.succ_pos n⟩) (fun k : Fin n => a ⟨k.val + 1, Nat.succ_lt_succ k.isLt⟩) = a := by
  funext k
  match k with
  | ⟨0, _⟩ => rfl
  | ⟨_ + 1, _⟩ => rfl

theorem Runs.collect {α : Type} {n : Nat} {f : Fin n → Pg nD τ sig F Λ α} {P : sProp 𝕄} {a : Fin n → α} (h : ∀ k, Runs defs c E (f k) P (a k) P) :
    Runs defs c E (collect n f) P a P := by
  induction n with
  | zero => exact (Runs.ret _ P).mono rfl rfl (funext fun k => k.elim0)
  | succ n ih =>
    refine Runs.bind (h ⟨0, Nat.succ_pos n⟩) (Runs.bind (ih fun k => h ⟨k.val + 1, Nat.succ_lt_succ k.isLt⟩) ((Runs.ret _ P).mono rfl rfl ?_))
    exact fcons_eq a

theorem Runs.each {n : Nat} {f : Fin n → Pg nD τ sig F Λ PUnit} (S : Nat → sProp 𝕄) (h : ∀ k : Fin n, Runs defs c E (f k) (S k.val) ⟨⟩ (S (k.val + 1))) :
    Runs defs c E (each n f) (S 0) ⟨⟩ (S n) := by
  induction n generalizing S with
  | zero => exact Runs.ret _ _
  | succ n ih =>
    exact Runs.bind (h ⟨0, Nat.succ_pos n⟩) (ih (fun k => S (k + 1)) fun k => h ⟨k.val + 1, Nat.succ_lt_succ k.isLt⟩)

/-- The stores of a level: at each rank index, values computed from planes not yet written, then one store for each output channel. -/
theorem Runs.mix {β : Type} {R C : Nat} {m : Memref sig .tc .vmem (sh3 16 R C) .f32} {r c₀ a b : Nat} (hr : r + a ≤ R) (hc : c₀ + b ≤ C)
    (ha : 0 < a) (hb : 0 < b) {O : FVec F (sh3 16 R C) .f32 → sProp 𝕄} (hf : ∀ X, Foc c (O X) m (e := .f32) X O) (X : FVec F (sh3 16 R C) .f32)
    (V : Fin 16 → FVec F (sh2 a b) .f32) (ld : Fin 2 → Pg nD τ sig F Λ β) (val : Fin 2 → β → Fin 8 → FVec F (sh2 a b) .f32) (s : Fin 2 → β)
    (hs : ∀ (k : Fin 2) (D : Fin 16 → Prop), (∀ q, q.val % 2 = k.val → ¬ D q) →
      Runs defs c E (ld k) (O (lay r c₀ a b D V X)) (s k) (O (lay r c₀ a b D V X)))
    (hV : ∀ (k : Fin 2) (co : Fin 8), val k (s k) co = V ⟨2 * co.val + k.val, two_mul_lt co.isLt k.isLt⟩) :
    Runs defs c E (Einet.each 2 fun k => ld k >>= fun x => Einet.each 8 fun co =>
      Einet.wr3 m (2 * co.val + k.val) r c₀ a b (two_mul_lt co.isLt k.isLt) hr hc ha hb (val k x co)) (O X) ⟨⟩ (O (lay r c₀ a b (fun _ => True) V X)) := by
  refine (Runs.each (fun n => O (lay r c₀ a b (fun q => q.val % 2 < n) V X)) fun k => ?_).mono
    (congrArg O (lay_none (fun p h => absurd h (Nat.not_lt_zero _)) V X).symm)
    (congrArg O (lay_congr (fun p => ⟨fun _ => trivial, fun _ => Nat.mod_lt _ (by decide)⟩) V X)) rfl
  refine Runs.bind (hs k _ fun q h => by omega) ?_
  refine (Runs.each (fun n => O (lay r c₀ a b (fun q => q.val % 2 < k.val ∨ (q.val % 2 = k.val ∧ q.val / 2 < n)) V X)) fun co => ?_).mono
    (congrArg O (lay_congr (fun p => by omega) V X)) (congrArg O (lay_congr (fun p => by omega) V X)) rfl
  refine (Runs.wr3 (hf _) V (hV k co)).mono rfl (congrArg O ?_) rfl
  rw [lay_lay]
  exact lay_congr (fun p => by have := k.isLt; omega) V X

end Rules

end Einet
-- ==== Proof.Einet.Step.lean ====
/- What one grid point of the looped program computes: the contents of its buffers as functions of its inputs' blocks. -/
module

public import proofs.«01_k».proof.Proof.Einet.Runs

@[expose] public section

noncomputable section

namespace Einet

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

/-- The blocks of the ten inputs at one grid point. -/
structure Ins (F : FTy → Type) where
  x : FVec F (sh2 128 1024) .f32
  mu : FVec F (sh2 16 1024) .f32
  lv : FVec F (sh2 16 1024) .f32
  w0 : FVec F (sh2 128 512) .f32
  w1 : FVec F (sh2 128 256) .f32
  w2 : FVec F (sh2 128 128) .f32
  wg : FVec F (sh2 4092 128) .f32
  w10 : FVec F (sh2 2 128) .f32
  w11 : FVec F (sh2 1 128) .f32
  wr : FVec F (sh2 1 16) .f32

theorem half_lt (p : Fin 16) : p.val / 2 < 8 := by omega
theorem par_lt (p : Fin 16) : p.val % 2 < 2 := by omega

/-- The first `k` columns of a stack of matrices replaced. -/
def below {α : Type} {P R C : Nat} (k : Nat) (H X : (sh3 P R C).Idx → α) : (sh3 P R C).Idx → α := fun i => if (i 2).val < k then H i else X i

theorem below_lt {α : Type} {P R C : Nat} {k : Nat} (H X : (sh3 P R C).Idx → α) (p : Fin P) (y : Fin R) (z : Fin C) (h : z.val < k) :
    below k H X (ix3 p y z) = H (ix3 p y z) := if_pos h

theorem below_ge {α : Type} {P R C : Nat} {k : Nat} (H X : (sh3 P R C).Idx → α) (p : Fin P) (y : Fin R) (z : Fin C) (h : k ≤ z.val) :
    below k H X (ix3 p y z) = X (ix3 p y z) := if_neg (Nat.not_lt.mpr h)

theorem below_zero {α : Type} {P R C : Nat} (H X : (sh3 P R C).Idx → α) : below 0 H X = X := funext fun _ => if_neg (Nat.not_lt_zero _)

theorem below_all {α : Type} {P R C : Nat} {k : Nat} (hk : C ≤ k) (H X : (sh3 P R C).Idx → α) : below k H X = H :=
  funext3 fun p y z => below_lt H X p y z (Nat.lt_of_lt_of_le z.isLt hk)

/-- The next columns: a block of `b` columns laid from column `k`, in every plane and row. -/
theorem lay_below {α : Type} {P R C b : Nat} (k : Nat) (V : Fin P → (sh2 R b).Idx → α) (H X : (sh3 P R C).Idx → α)
    (hV : ∀ p y (z : Fin C) (h : k ≤ z.val) (h' : z.val < k + b), V p (ix2 y ⟨z.val - k, by omega⟩) = H (ix3 p y z)) :
    lay 0 k R b (fun _ => True) V (below k H X) = below (k + b) H X := by
  refine funext3 fun p y z => ?_
  by_cases h : k ≤ z.val ∧ z.val < k + b
  · rw [lay_of_mem (D := fun _ => True) V _ p y z trivial (Nat.zero_le _) (by omega) h.1 h.2, below_lt _ _ _ _ _ h.2]
    exact hV p y z h.1 h.2
  · rw [lay_of_not V _ p y z (by omega)]
    by_cases hz : z.val < k
    · rw [below_lt _ _ _ _ _ hz, below_lt _ _ _ _ _ (by omega)]
    · rw [below_ge _ _ _ _ _ (by omega), below_ge _ _ _ _ _ (by omega)]

theorem get3_below {α : Type} {P R C : Nat} (k : Nat) (H X : (sh3 P R C).Idx → α) (p r c a b : Nat) (hp : p + 1 ≤ P) (hr : r + a ≤ R) (hc : c + b ≤ C)
    (h : k ≤ c) : get3 (below k H X) p r c a b hp hr hc = get3 X p r c a b hp hr hc :=
  funext fun _ => if_neg (Nat.not_lt.mpr (Nat.le_trans h (Nat.le_add_right _ _)))

theorem get3_below_lt {α : Type} {P R C : Nat} (k : Nat) (H X : (sh3 P R C).Idx → α) (p r c a b : Nat) (hp : p + 1 ≤ P) (hr : r + a ≤ R) (hc : c + b ≤ C)
    (h : c + b ≤ k) : get3 (below k H X) p r c a b hp hr hc = get3 H p r c a b hp hr hc :=
  funext fun i => if_pos (Nat.lt_of_lt_of_le (Nat.add_lt_add_left (idx2_lt1 i) c) h)

section Values

variable {F : FTy → Type} [FloatOps F]

/-- A tile's weights. -/
def wS {C : Nat} (W : FVec F (sh2 128 C) .f32) (base : Nat) (hb : base + 128 ≤ C) (co ci : Fin 8) (r : Fin 2) : FVec F (sh2 1 128) .bf16 :=
  wB (get2 W (co.val * 16 + ci.val * 2 + r.val) base 1 128 (by omega) hb)

/-- The planes of a tile: output channel `p / 2`, rank index `p % 2`. -/
def mixB (s : Fin 2 → Fin 8 → FVec F (sh2 128 128) .f32) (w : Fin 8 → Fin 8 → Fin 2 → FVec F (sh2 1 128) .bf16) (p : Fin 16) : FVec F (sh2 128 128) .f32 :=
  planeB (mx (s ⟨p.val % 2, par_lt p⟩)) (eB (mx (s ⟨p.val % 2, par_lt p⟩)) (s ⟨p.val % 2, par_lt p⟩)) fun ci => w ⟨p.val / 2, half_lt p⟩ ci ⟨p.val % 2, par_lt p⟩

/-- The sums of pairs of leaves in a tile. -/
def leafS (hlp : F .f32) (I : Ins F) (j : Fin 4) (r : Fin 2) (ci : Fin 8) : FVec F (sh2 128 128) .f32 :=
  addf (leafE hlp (get2 I.lv (2 * ci.val + r.val) (j.val * 128) 1 128 (two_mul_lt ci.isLt r.isLt) (by omega))
      (get2 I.mu (2 * ci.val + r.val) (j.val * 128) 1 128 (two_mul_lt ci.isLt r.isLt) (by omega)) (get2 I.x 0 (j.val * 128) 128 128 (by omega) (by omega)))
    (leafE hlp (get2 I.lv (2 * ci.val + r.val) (512 + j.val * 128) 1 128 (two_mul_lt ci.isLt r.isLt) (by omega))
      (get2 I.mu (2 * ci.val + r.val) (512 + j.val * 128) 1 128 (two_mul_lt ci.isLt r.isLt) (by omega)) (get2 I.x 0 (512 + j.val * 128) 128 128 (by omega) (by omega)))

/-- The sums of pairs of planes' blocks. -/
def sumS {R C : Nat} (X : FVec F (sh3 16 R C) .f32) (r₁ c₁ r₂ c₂ a b : Nat) (hr₁ : r₁ + a ≤ R) (hc₁ : c₁ + b ≤ C) (hr₂ : r₂ + a ≤ R) (hc₂ : c₂ + b ≤ C)
    (r : Fin 2) (ci : Fin 8) : FVec F (sh2 a b) .f32 :=
  addf (get3 X (2 * ci.val + r.val) r₁ c₁ a b (two_mul_lt ci.isLt r.isLt) hr₁ hc₁) (get3 X (2 * ci.val + r.val) r₂ c₂ a b (two_mul_lt ci.isLt r.isLt) hr₂ hc₂)

/-- The stack after the first level. -/
def H0 (hlp : F .f32) (I : Ins F) : FVec F (sh3 16 128 512) .f32 := fun i =>
  have h : (i 2).val < 512 := (i 2).isLt
  mixB (leafS hlp I ⟨(i 2).val / 128, by omega⟩) (wS I.w0 ((i 2).val / 128 * 128) (by omega)) (i 0) (ix2 (i 1) ⟨(i 2).val % 128, by omega⟩)

/-- The second level's values, in the first 256 columns. -/
def H1 (I : Ins F) (X : FVec F (sh3 16 128 512) .f32) : FVec F (sh3 16 128 512) .f32 := fun i =>
  have h : (i 2).val < 512 := (i 2).isLt
  mixB (sumS X 0 ((i 2).val / 128 % 2 * 128) 0 (256 + (i 2).val / 128 % 2 * 128) 128 128 (by omega) (by omega) (by omega) (by omega))
    (wS I.w1 ((i 2).val / 128 % 2 * 128) (by omega)) (i 0) (ix2 (i 1) ⟨(i 2).val % 128, by omega⟩)

/-- The third level's values, in the first 128 columns. -/
def H2 (I : Ins F) (X : FVec F (sh3 16 128 512) .f32) (p : Fin 16) : FVec F (sh2 128 128) .f32 :=
  mixB (sumS X 0 0 0 (128 + 0) 128 128 (by omega) (by omega) (by omega) (by omega)) (wS I.w2 0 (by omega)) p

/-- The planes of a level of `n` features along the sublanes. -/
def VF (wg : FVec F (sh2 4092 128) .f32) (n o : Nat) (h2 : n + n ≤ 128) (ho : o + n ≤ 4092) (X : FVec F (sh3 16 128 128) .f32) (p : Fin 16) : FVec F (sh2 n 128) .f32 :=
  outF (get2 wg o 0 n 128 ho (by omega)) ⟨p.val % 2, par_lt p⟩ (sumS X 0 0 n 0 n 128 (by omega) (by omega) h2 (by omega) ⟨p.val % 2, par_lt p⟩) ⟨p.val / 2, half_lt p⟩

/-- One such level. -/
def FS (wg : FVec F (sh2 4092 128) .f32) (n o : Nat) (h2 : n + n ≤ 128) (ho : o + n ≤ 4092) (X : FVec F (sh3 16 128 128) .f32) : FVec F (sh3 16 128 128) .f32 :=
  lay 0 0 n 128 (fun _ => True) (VF wg n o h2 ho X) X

/-- The second stack as the transposition leaves it. -/
def T0 (I : Ins F) (X : FVec F (sh3 16 128 512) .f32) : FVec F (sh3 16 128 128) .f32 := fun i =>
  transpose (sh2 128 128) [1, 0] (H2 I X (i 0)) swaps (ix2 (i 1) (i 2))

/-- The second stack at the end of grid point `i`. -/
def TF (hlp : F .f32) (I : Ins F) (i : Fin 3) : FVec F (sh3 16 128 128) .f32 :=
  FS I.wg 1 (4088 + i.val * 1) (by omega) (by omega) (FS I.wg 2 (4080 + i.val * 2) (by omega) (by omega) (FS I.wg 4 (4064 + i.val * 4) (by omega) (by omega)
    (FS I.wg 8 (4032 + i.val * 8) (by omega) (by omega) (FS I.wg 16 (3968 + i.val * 16) (by omega) (by omega) (FS I.wg 32 (3840 + i.val * 32) (by omega) (by omega)
      (FS I.wg 64 (3584 + i.val * 64) (by omega) (by omega) (T0 I (below 256 (H1 I (H0 hlp I)) (H0 hlp I)))))))))

/-- Zero everywhere. -/
def Z : FVec F (sh3 16 8 128) .f32 := broadcast (sh3 16 8 128) (Scalar.ofBits .f32 0x00000000#32)

/-- The third stack at the end of grid point `i`, when it began with `X`. -/
def SF (hlp : F .f32) (I : Ins F) (i : Fin 3) (X : FVec F (sh3 16 8 128) .f32) : FVec F (sh3 16 8 128) .f32 :=
  lay i.val 0 1 128 (fun _ => True) (fun p => get3 (TF hlp I i) p.val 0 0 1 128 p.isLt (by omega) (by omega)) X

/-- The eleventh level. -/
def R10 (w : FVec F (sh2 2 128) .f32) (X : FVec F (sh3 16 8 128) .f32) (r f : Fin 2) (co : Fin 8) : FVec F (sh2 1 128) .f32 :=
  planeS (mx (sumS X (2 * f.val) 0 (2 * f.val + 1) 0 1 128 (by omega) (by omega) (by omega) (by omega) r))
    (eF (mx (sumS X (2 * f.val) 0 (2 * f.val + 1) 0 1 128 (by omega) (by omega) (by omega) (by omega) r)) (sumS X (2 * f.val) 0 (2 * f.val + 1) 0 1 128 (by omega) (by omega) (by omega) (by omega) r))
    fun ci => pick (exp (shapeCast (sh2 2 128) (get2 w 0 0 2 128 (by omega) (by omega)) (casts_self _))) f.val (co.val * 16 + r.val + 2 * ci.val) f.isLt (lane_lt co.isLt ci.isLt r.isLt)

/-- The twelfth level. -/
def R11 (w : FVec F (sh2 1 128) .f32) (h : Fin 2 → Fin 2 → Fin 8 → FVec F (sh2 1 128) .f32) (co : Fin 8) (r : Fin 2) : FVec F (sh2 1 128) .f32 :=
  planeS (mx fun ci => addf (h r ⟨0, by omega⟩ ci) (h r ⟨1, by omega⟩ ci))
    (eF (mx fun ci => addf (h r ⟨0, by omega⟩ ci) (h r ⟨1, by omega⟩ ci)) fun ci => addf (h r ⟨0, by omega⟩ ci) (h r ⟨1, by omega⟩ ci)) fun ci =>
    pick (exp (shapeCast (sh2 1 128) (get2 w 0 0 1 128 (by omega) (by omega)) (casts_self _))) 0 (co.val * 16 + r.val + 2 * ci.val) (by omega) (lane_lt co.isLt ci.isLt r.isLt)

/-- The root's value. -/
def RT (I : Ins F) (X : FVec F (sh3 16 8 128) .f32) : FVec F (sh2 1 128) .f32 :=
  rootE (R11 I.w11 (R10 I.w10 X)) (shapeCast (sh2 1 16) (get2 I.wr 0 0 1 16 (by omega) (by omega)) (casts_self _))

end Values

section Program

variable {nD : Nat} {τ : Topo} {sig : RefSig} {Λ : Labels} {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} {c : Dev nD} {E : Set Name}

theorem Runs.tileW {C : Nat} {m : Memref sig .tc .vmem (sh2 128 C) .f32} {base : Nat} {hb : base + 128 ≤ C} {P : sProp 𝕄} {W : FVec F (sh2 128 C) .f32}
    {P' : FVec F (sh2 128 C) .f32 → sProp 𝕄} (h : Foc c P m (e := .f32) W P') (hP : P' W = P) :
    Runs defs c E (Einet.tileW m base hb : Pg nD τ sig F Λ _) P (wS W base hb) P :=
  Runs.collect fun co => Runs.collect fun ci => Runs.collect fun r =>
    Runs.bind ((Runs.rd2 h).mono rfl hP rfl) (Runs.ret _ _)

/-- Reading eight pairs of blocks of planes not laid over and summing each pair. -/
theorem Runs.sums {R C : Nat} {m : Memref sig .tc .vmem (sh3 16 R C) .f32} {r₁ c₁ r₂ c₂ a b : Nat} {hr₁ : r₁ + a ≤ R} {hc₁ : c₁ + b ≤ C} {hr₂ : r₂ + a ≤ R} {hc₂ : c₂ + b ≤ C}
    {ha : 0 < a} {hb : 0 < b} {r : Fin 2} {O : FVec F (sh3 16 R C) .f32 → sProp 𝕄} (hf : ∀ X, Foc c (O X) m (e := .f32) X O) (X Y : FVec F (sh3 16 R C) .f32)
    (hX : ∀ (ci : Fin 8), get3 Y (2 * ci.val + r.val) r₁ c₁ a b (two_mul_lt ci.isLt r.isLt) hr₁ hc₁ = get3 X (2 * ci.val + r.val) r₁ c₁ a b (two_mul_lt ci.isLt r.isLt) hr₁ hc₁
      ∧ get3 Y (2 * ci.val + r.val) r₂ c₂ a b (two_mul_lt ci.isLt r.isLt) hr₂ hc₂ = get3 X (2 * ci.val + r.val) r₂ c₂ a b (two_mul_lt ci.isLt r.isLt) hr₂ hc₂) :
    Runs defs c E (Einet.collect 8 fun ci => do
      let u ← Einet.rd3 m (2 * ci.val + r.val) r₁ c₁ a b (two_mul_lt ci.isLt r.isLt) hr₁ hc₁ ha hb
      let v ← Einet.rd3 m (2 * ci.val + r.val) r₂ c₂ a b (two_mul_lt ci.isLt r.isLt) hr₂ hc₂ ha hb
      pure (addf (shapeCast (sh2 a b) u (casts_drop a b)) (shapeCast (sh2 a b) v (casts_drop a b))) : Pg nD τ sig F Λ _)
      (O Y) (sumS X r₁ c₁ r₂ c₂ a b hr₁ hc₁ hr₂ hc₂ r) (O Y) := by
  refine Runs.collect fun ci => Runs.bind (Runs.rd3 (hf Y)) (Runs.bind (Runs.rd3 (hf Y)) ((Runs.ret _ _).mono rfl rfl ?_))
  rw [shapeCast_got, shapeCast_got, (hX ci).1, (hX ci).2]
  rfl

theorem fin_half (co : Fin 8) (k : Fin 2) (h : (2 * co.val + k.val) / 2 < 8) : (⟨(2 * co.val + k.val) / 2, h⟩ : Fin 8) = co := Fin.ext (by show _ / 2 = _; omega)
theorem fin_par (co : Fin 8) (k : Fin 2) (h : (2 * co.val + k.val) % 2 < 2) : (⟨(2 * co.val + k.val) % 2, h⟩ : Fin 2) = k := Fin.ext (by show _ % 2 = _; omega)

theorem mixB_at (s : Fin 2 → Fin 8 → FVec F (sh2 128 128) .f32) (w : Fin 8 → Fin 8 → Fin 2 → FVec F (sh2 1 128) .bf16) (k : Fin 2) (co : Fin 8) :
    planeB (mx (s k)) (eB (mx (s k)) (s k)) (fun ci => w co ci k) = mixB s w ⟨2 * co.val + k.val, two_mul_lt co.isLt k.isLt⟩ := by
  unfold mixB; simp only [fin_half, fin_par]

/-- A tile of a level along the lanes. -/
theorem Runs.tileL {C : Nat} {wt : Memref sig .tc .vmem (sh2 128 C) .f32} {hl : Memref sig .tc .vmem (sh3 16 128 512) .f32} {half base : Nat}
    {hC : base + 128 ≤ C} {hh : half + base + 128 ≤ 512} {W : FVec F (sh2 128 C) .f32} {O : FVec F (sh3 16 128 512) .f32 → sProp 𝕄}
    {P' : FVec F (sh3 16 128 512) .f32 → FVec F (sh2 128 C) .f32 → sProp 𝕄}
    (hw : ∀ X, Foc c (O X) wt (e := .f32) W (P' X)) (hP : ∀ X, P' X W = O X) (hf : ∀ X, Foc c (O X) hl (e := .f32) X O) (X : FVec F (sh3 16 128 512) .f32) :
    Runs defs c E (Einet.tileL wt hl half base hC hh : Pg nD τ sig F Λ _) (O X) ⟨⟩
      (O (lay 0 base 128 128 (fun _ => True) (mixB (sumS X 0 base 0 (half + base) 128 128 (by omega) (by omega) (by omega) (by omega)) (wS W base hC)) X)) := by
  refine Runs.bind (Runs.tileW (hw X) (hP X)) ?_
  refine Runs.mix (by omega) (by omega) (by omega) (by omega) hf X _ _ (fun k s co => planeB (mx s) (eB (mx s) s) (fun ci => wS W base hC co ci k))
    (fun k => sumS X 0 base 0 (half + base) 128 128 (by omega) (by omega) (by omega) (by omega) k) (fun k D hD => ?_) (fun k co => mixB_at _ _ k co)
  exact Runs.sums hf X _ fun ci => ⟨get3_lay _ _ _ _ _ _ _ _ _ _ _ (hD _ (by show (2 * ci.val + k.val) % 2 = k.val; omega)),
    get3_lay _ _ _ _ _ _ _ _ _ _ _ (hD _ (by show (2 * ci.val + k.val) % 2 = k.val; omega))⟩

/-- A level along the sublanes. -/
theorem Runs.levelF {wg : Memref sig .tc .vmem (sh2 4092 128) .f32} {hfm : Memref sig .tc .vmem (sh3 16 128 128) .f32} {n o : Nat}
    {hn : 0 < n} {h2 : n + n ≤ 128} {ho : o + n ≤ 4092} {W : FVec F (sh2 4092 128) .f32} {O : FVec F (sh3 16 128 128) .f32 → sProp 𝕄}
    {P' : FVec F (sh3 16 128 128) .f32 → FVec F (sh2 4092 128) .f32 → sProp 𝕄}
    (hw : ∀ X, Foc c (O X) wg (e := .f32) W (P' X)) (hP : ∀ X, P' X W = O X) (hf : ∀ X, Foc c (O X) hfm (e := .f32) X O) (X : FVec F (sh3 16 128 128) .f32) :
    Runs defs c E (Einet.levelF wg hfm n o hn h2 ho : Pg nD τ sig F Λ _) (O X) ⟨⟩ (O (FS W n o h2 ho X)) := by
  refine Runs.bind ((Runs.rd2 (hw X)).mono rfl (hP X) rfl) ?_
  refine Runs.mix (by omega) (by omega) hn (by omega) hf X (VF W n o h2 ho X) _ (fun k s co => outF (get2 W o 0 n 128 ho (by omega)) k s co)
    (fun k => sumS X 0 0 n 0 n 128 (by omega) (by omega) h2 (by omega) k) (fun k D hD => ?_) (fun k co => ?_)
  · exact Runs.sums hf X _ fun ci => ⟨get3_lay _ _ _ _ _ _ _ _ _ _ _ (hD _ (by show (2 * ci.val + k.val) % 2 = k.val; omega)),
      get3_lay _ _ _ _ _ _ _ _ _ _ _ (hD _ (by show (2 * ci.val + k.val) % 2 = k.val; omega))⟩
  · unfold VF; simp only [fin_half, fin_par]

end Program

end Einet
-- ==== Proof.Einet.Whole.lean ====
/- The whole body at a grid point, from the contents of its buffers to their contents. -/
module

public import proofs.«01_k».proof.Proof.Einet.Step

@[expose] public section

noncomputable section

namespace Einet

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

/-- The body's fourteen buffers. -/
structure Refs (sig : RefSig) where
  x : Memref sig .tc .vmem (sh2 128 1024) .f32
  mu : Memref sig .tc .vmem (sh2 16 1024) .f32
  lv : Memref sig .tc .vmem (sh2 16 1024) .f32
  w0 : Memref sig .tc .vmem (sh2 128 512) .f32
  w1 : Memref sig .tc .vmem (sh2 128 256) .f32
  w2 : Memref sig .tc .vmem (sh2 128 128) .f32
  wg : Memref sig .tc .vmem (sh2 4092 128) .f32
  w10 : Memref sig .tc .vmem (sh2 2 128) .f32
  w11 : Memref sig .tc .vmem (sh2 1 128) .f32
  wr : Memref sig .tc .vmem (sh2 1 16) .f32
  out : Memref sig .tc .vmem (sh2 1 128) .f32
  hl : Memref sig .tc .vmem (sh3 16 128 512) .f32
  hf : Memref sig .tc .vmem (sh3 16 128 128) .f32
  sf : Memref sig .tc .vmem (sh3 16 8 128) .f32

variable {nD : Nat} {τ : Topo} {sig : RefSig} {Λ : Labels} {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- A buffer owned at contents. -/
abbrev at_ (c : Dev nD) {s : Shape} (m : Memref sig .tc .vmem s .f32) (X : FVec F s .f32) : sProp 𝕄 :=
  owns (e := .f32) (Val := Elt F) (c : Thread nD τ) m fullShare X

/-- The inputs at their blocks, the output at `o` and the three scratch buffers at `u`, `v`, `w`. -/
def Own (c : Dev nD) (R : Refs sig) (I : Ins F) (o : FVec F (sh2 1 128) .f32) (u : FVec F (sh3 16 128 512) .f32) (v : FVec F (sh3 16 128 128) .f32)
    (w : FVec F (sh3 16 8 128) .f32) : sProp 𝕄 :=
  iprop(at_ c R.x I.x ∗ at_ c R.mu I.mu ∗ at_ c R.lv I.lv ∗ at_ c R.w0 I.w0 ∗ at_ c R.w1 I.w1 ∗ at_ c R.w2 I.w2 ∗ at_ c R.wg I.wg ∗ at_ c R.w10 I.w10
    ∗ at_ c R.w11 I.w11 ∗ at_ c R.wr I.wr ∗ at_ c R.out o ∗ at_ c R.hl u ∗ at_ c R.hf v ∗ at_ c R.sf w)

variable {defs : Defs nD τ sig (Elt F) Λ} {c : Dev nD} {E : Set Name} (R : Refs sig) (I : Ins F)
variable (o : FVec F (sh2 1 128) .f32) (u : FVec F (sh3 16 128 512) .f32) (v : FVec F (sh3 16 128 128) .f32) (w : FVec F (sh3 16 8 128) .f32)

/-! ### Each buffer in turn -/

theorem foc_x : Foc c (Own c R I o u v w : sProp 𝕄) R.x (e := .f32) I.x fun Y => Own c R { I with x := Y } o u v w := (Foc.self c R.x (e := .f32) I.x).left c _
theorem foc_mu : Foc c (Own c R I o u v w : sProp 𝕄) R.mu (e := .f32) I.mu fun Y => Own c R { I with mu := Y } o u v w := ((Foc.self c R.mu (e := .f32) I.mu).left c _).right c _
theorem foc_lv : Foc c (Own c R I o u v w : sProp 𝕄) R.lv (e := .f32) I.lv fun Y => Own c R { I with lv := Y } o u v w :=
  (((Foc.self c R.lv (e := .f32) I.lv).left c _).right c _).right c _
theorem foc_w0 : Foc c (Own c R I o u v w : sProp 𝕄) R.w0 (e := .f32) I.w0 fun Y => Own c R { I with w0 := Y } o u v w :=
  ((((Foc.self c R.w0 (e := .f32) I.w0).left c _).right c _).right c _).right c _
theorem foc_w1 : Foc c (Own c R I o u v w : sProp 𝕄) R.w1 (e := .f32) I.w1 fun Y => Own c R { I with w1 := Y } o u v w :=
  (((((Foc.self c R.w1 (e := .f32) I.w1).left c _).right c _).right c _).right c _).right c _
theorem foc_w2 : Foc c (Own c R I o u v w : sProp 𝕄) R.w2 (e := .f32) I.w2 fun Y => Own c R { I with w2 := Y } o u v w :=
  ((((((Foc.self c R.w2 (e := .f32) I.w2).left c _).right c _).right c _).right c _).right c _).right c _
theorem foc_wg : Foc c (Own c R I o u v w : sProp 𝕄) R.wg (e := .f32) I.wg fun Y => Own c R { I with wg := Y } o u v w :=
  (((((((Foc.self c R.wg (e := .f32) I.wg).left c _).right c _).right c _).right c _).right c _).right c _).right c _
theorem foc_w10 : Foc c (Own c R I o u v w : sProp 𝕄) R.w10 (e := .f32) I.w10 fun Y => Own c R { I with w10 := Y } o u v w :=
  ((((((((Foc.self c R.w10 (e := .f32) I.w10).left c _).right c _).right c _).right c _).right c _).right c _).right c _).right c _
theorem foc_w11 : Foc c (Own c R I o u v w : sProp 𝕄) R.w11 (e := .f32) I.w11 fun Y => Own c R { I with w11 := Y } o u v w :=
  (((((((((Foc.self c R.w11 (e := .f32) I.w11).left c _).right c _).right c _).right c _).right c _).right c _).right c _).right c _).right c _
theorem foc_wr : Foc c (Own c R I o u v w : sProp 𝕄) R.wr (e := .f32) I.wr fun Y => Own c R { I with wr := Y } o u v w :=
  ((((((((((Foc.self c R.wr (e := .f32) I.wr).left c _).right c _).right c _).right c _).right c _).right c _).right c _).right c _).right c _).right c _
theorem foc_out : Foc c (Own c R I o u v w : sProp 𝕄) R.out (e := .f32) o fun Y => Own c R I Y u v w :=
  (((((((((((Foc.self c R.out (e := .f32) o).left c _).right c _).right c _).right c _).right c _).right c _).right c _).right c _).right c _).right c _).right c _
theorem foc_hl : Foc c (Own c R I o u v w : sProp 𝕄) R.hl (e := .f32) u fun Y => Own c R I o Y v w :=
  ((((((((((((Foc.self c R.hl (e := .f32) u).left c _).right c _).right c _).right c _).right c _).right c _).right c _).right c _).right c _).right c _).right c _).right c _
theorem foc_hf : Foc c (Own c R I o u v w : sProp 𝕄) R.hf (e := .f32) v fun Y => Own c R I o u Y w :=
  (((((((((((((Foc.self c R.hf (e := .f32) v).left c _).right c _).right c _).right c _).right c _).right c _).right c _).right c _).right c _).right c _).right c _).right c _).right c _
theorem foc_sf : Foc c (Own c R I o u v w : sProp 𝕄) R.sf (e := .f32) w fun Y => Own c R I o u v Y :=
  (((((((((((((Foc.self c R.sf (e := .f32) w).right c _).right c _).right c _).right c _).right c _).right c _).right c _).right c _).right c _).right c _).right c _).right c _).right c _

/-! ### The parts of the body -/

variable (hlp : F .f32)

theorem runs_tile0 (j : Fin 4) : Runs defs c E (tile0 hlp R.x R.mu R.lv R.w0 R.hl j : Pg nD τ sig F Λ _) (Own c R I o u v w : sProp 𝕄) ⟨⟩
    (Own c R I o (lay 0 (j.val * 128) 128 128 (fun _ => True) (mixB (leafS hlp I j) (wS I.w0 (j.val * 128) (by omega))) u) v w) := by
  refine Runs.bind (Runs.tileW (foc_w0 R I o u v w) rfl) ?_
  refine Runs.bind ((Runs.rd2 (foc_x R I o u v w)).mono rfl rfl rfl) ?_
  refine Runs.bind ((Runs.rd2 (foc_x R I o u v w)).mono rfl rfl rfl) ?_
  refine Runs.mix (O := fun u => Own c R I o u v w) (by omega) (by omega) (by omega) (by omega) (fun u => foc_hl R I o u v w) u _ _
    (fun k s co => planeB (mx s) (eB (mx s) s) (fun ci => wS I.w0 (j.val * 128) (by omega) co ci k)) (leafS hlp I j) (fun k D hD => ?_) (fun k co => mixB_at _ _ k co)
  refine Runs.collect fun ci => ?_
  refine Runs.bind ((Runs.rd2 (foc_lv R I o _ v w)).mono rfl rfl rfl) ?_
  refine Runs.bind ((Runs.rd2 (foc_mu R I o _ v w)).mono rfl rfl rfl) ?_
  refine Runs.bind ((Runs.rd2 (foc_lv R I o _ v w)).mono rfl rfl rfl) ?_
  refine Runs.bind ((Runs.rd2 (foc_mu R I o _ v w)).mono rfl rfl rfl) ?_
  exact Runs.ret _ _

/-- Equal numbers are interchangeable under a side condition. -/
theorem at_eq {α : Type} {Q : Nat → Prop} (f : (n : Nat) → Q n → α) {a b : Nat} (h : a = b) (ha : Q a) (hb : Q b) : f a ha = f b hb := by
  subst h; rfl

/-- A column's tile and its place in the tile. -/
theorem H0_at (I : Ins F) (p : Fin 16) (y : Fin 128) (z : Fin 512) (j : Fin 4) (l : Fin 128) (h : z.val = j.val * 128 + l.val) :
    H0 hlp I (ix3 p y z) = mixB (leafS hlp I j) (wS I.w0 (j.val * 128) (by omega)) p (ix2 y l) := by
  have h1 : z.val / 128 = j.val := by omega
  have h2 : z.val % 128 = l.val := by omega
  have hj : (⟨z.val / 128, by omega⟩ : Fin 4) = j := Fin.ext h1
  have hl : (⟨z.val % 128, by omega⟩ : Fin 128) = l := Fin.ext h2
  show mixB (leafS hlp I ⟨z.val / 128, _⟩) (wS I.w0 (z.val / 128 * 128) _) p (ix2 y ⟨z.val % 128, _⟩) = _
  simp only [hj, hl]
  exact at_eq (Q := fun n => n + 128 ≤ 512) (fun n h => mixB (leafS hlp I j) (wS I.w0 n h) p (ix2 y l)) (congrArg (· * 128) h1) _ _

theorem H1_at (I : Ins F) (X : FVec F (sh3 16 128 512) .f32) (p : Fin 16) (y : Fin 128) (z : Fin 512) (j : Fin 2) (l : Fin 128) (h : z.val = j.val * 128 + l.val) :
    H1 I X (ix3 p y z) = mixB (sumS X 0 (j.val * 128) 0 (256 + j.val * 128) 128 128 (by omega) (by omega) (by omega) (by omega))
      (wS I.w1 (j.val * 128) (by omega)) p (ix2 y l) := by
  have h1 : z.val / 128 % 2 = j.val := by omega
  have h2 : z.val % 128 = l.val := by omega
  have hl : (⟨z.val % 128, by omega⟩ : Fin 128) = l := Fin.ext h2
  show mixB (sumS X 0 (z.val / 128 % 2 * 128) 0 (256 + z.val / 128 % 2 * 128) 128 128 _ _ _ _) (wS I.w1 (z.val / 128 % 2 * 128) _) p (ix2 y ⟨z.val % 128, _⟩) = _
  simp only [hl]
  exact at_eq (Q := fun n => n + 128 ≤ 256) (fun n h => mixB (sumS X 0 n 0 (256 + n) 128 128 (by omega) (by omega) (by omega) (by omega)) (wS I.w1 n h) p (ix2 y l))
    (congrArg (· * 128) h1) _ _

theorem runs_level0 : Runs defs c E (each 4 (tile0 hlp R.x R.mu R.lv R.w0 R.hl) : Pg nD τ sig F Λ _) (Own c R I o u v w : sProp 𝕄) ⟨⟩
    (Own c R I o (H0 hlp I) v w) := by
  refine (Runs.each (fun k => Own c R I o (below (k * 128) (H0 hlp I) u) v w) fun j => ?_).mono ?_ ?_ rfl
  · refine (runs_tile0 R I o _ v w hlp j).mono rfl ?_ rfl
    rw [lay_below (j.val * 128) _ (H0 hlp I)]
    · rw [show (j.val + 1) * 128 = j.val * 128 + 128 by omega]
    · intro p y z h h'
      exact (H0_at hlp I p y z j _ (by show z.val = j.val * 128 + (z.val - j.val * 128); omega)).symm
  · rw [Nat.zero_mul, below_zero]
  · rw [below_all (by omega)]

theorem sumS_below (k : Nat) (H X : FVec F (sh3 16 128 512) .f32) (c₁ c₂ : Nat) (h1 : c₁ + 128 ≤ 512) (h2 : c₂ + 128 ≤ 512) (hr : 0 + 128 ≤ 128) (hk₁ : k ≤ c₁) (hk₂ : k ≤ c₂) :
    sumS (below k H X) 0 c₁ 0 c₂ 128 128 hr h1 hr h2 = sumS X 0 c₁ 0 c₂ 128 128 hr h1 hr h2 := by
  funext r ci; unfold sumS; rw [get3_below _ _ _ _ _ _ _ _ _ _ _ hk₁, get3_below _ _ _ _ _ _ _ _ _ _ _ hk₂]

theorem runs_level1 : Runs defs c E (each 2 fun j => tileL R.w1 R.hl 256 (j.val * 128) (by omega) (by omega) : Pg nD τ sig F Λ _) (Own c R I o u v w : sProp 𝕄) ⟨⟩
    (Own c R I o (below 256 (H1 I u) u) v w) := by
  refine (Runs.each (fun k => Own c R I o (below (k * 128) (H1 I u) u) v w) fun j => ?_).mono ?_ rfl rfl
  · refine (Runs.tileL (O := fun u => Own c R I o u v w) (fun u => foc_w1 R I o u v w) (fun _ => rfl) (fun u => foc_hl R I o u v w) _).mono rfl ?_ rfl
    rw [sumS_below _ _ _ _ _ _ _ _ (Nat.le_refl _) (by omega), lay_below (j.val * 128) _ (H1 I u)]
    · rw [show (j.val + 1) * 128 = j.val * 128 + 128 by omega]
    · intro p y z h h'
      exact (H1_at I u p y z j _ (by show z.val = j.val * 128 + (z.val - j.val * 128); omega)).symm
  · rw [Nat.zero_mul, below_zero]

/-- The third level, and the transposition that follows it. -/
theorem runs_level2 : Runs defs c E (tileL R.w2 R.hl 128 0 (by omega) (by omega) : Pg nD τ sig F Λ _) (Own c R I o u v w : sProp 𝕄) ⟨⟩
    (Own c R I o (lay 0 0 128 128 (fun _ => True) (H2 I u) u) v w) :=
  Runs.tileL (O := fun u => Own c R I o u v w) (fun u => foc_w2 R I o u v w) (fun _ => rfl) (fun u => foc_hl R I o u v w) u

theorem get3_lay_self (V : Fin 16 → FVec F (sh2 128 128) .f32) (X : FVec F (sh3 16 128 512) .f32) (p : Fin 16) :
    get3 (lay 0 0 128 128 (fun _ => True) V X) p.val 0 0 128 128 p.isLt (by omega) (by omega) = V p := by
  refine funext2 fun y z => ?_
  show lay 0 0 128 128 _ V X (ix3 p ⟨0 + y.val, _⟩ ⟨0 + z.val, _⟩) = _
  rw [lay_of_mem (D := fun _ => True) V X p _ _ trivial (Nat.zero_le _) (by show 0 + y.val < _; omega) (Nat.zero_le _) (by show 0 + z.val < _; omega)]
  exact congrArg (V p) (congrArg₂ ix2 (Fin.ext (Nat.zero_add _)) (Fin.ext (Nat.zero_add _)))

theorem lay_all {P R C : Nat} {α : Type} (V : Fin P → (sh2 R C).Idx → α) (X : (sh3 P R C).Idx → α) :
    lay 0 0 R C (fun _ => True) V X = fun i => V (i 0) (ix2 (i 1) (i 2)) := by
  refine funext3 fun p y z => ?_
  rw [lay_of_mem (D := fun _ => True) V X p _ _ trivial (Nat.zero_le _) (by omega) (Nat.zero_le _) (by omega)]
  rfl

/-- One store for each of the sixteen planes. -/
theorem Runs.planes {R C : Nat} (r c₀ : Nat) {a b : Nat} (f : Fin 16 → Pg nD τ sig F Λ PUnit) {O : FVec F (sh3 16 R C) .f32 → sProp 𝕄} (X : FVec F (sh3 16 R C) .f32)
    (V : Fin 16 → FVec F (sh2 a b) .f32) (h : ∀ (k : Fin 16) (Y : FVec F (sh3 16 R C) .f32), Runs defs c E (f k) (O Y) ⟨⟩ (O (lay r c₀ a b (fun q => q.val = k.val) V Y))) :
    Runs defs c E (Einet.each 16 f) (O X) ⟨⟩ (O (lay r c₀ a b (fun _ => True) V X)) := by
  refine (Runs.each (fun n => O (lay r c₀ a b (fun q => q.val < n) V X)) fun k => ?_).mono
    (congrArg O (lay_none (fun p h => absurd h (Nat.not_lt_zero _)) V X).symm)
    (congrArg O (lay_congr (fun p => ⟨fun _ => trivial, fun _ => p.isLt⟩) V X)) rfl
  refine (h k _).mono rfl (congrArg O ?_) rfl
  rw [lay_lay]
  exact lay_congr (fun p => by omega) V X

theorem runs_swap : Runs defs c E (swap R.hl R.hf : Pg nD τ sig F Λ _) (Own c R I o (lay 0 0 128 128 (fun _ => True) (H2 I u) u) v w : sProp 𝕄) ⟨⟩
    (Own c R I o (lay 0 0 128 128 (fun _ => True) (H2 I u) u) (T0 I u) w) := by
  refine (Runs.planes 0 0 (O := fun v => Own c R I o (lay 0 0 128 128 (fun _ => True) (H2 I u) u) v w) _ v
    (fun p => transpose (sh2 128 128) [1, 0] (H2 I u p) swaps) fun k Y => ?_).mono rfl ?_ rfl
  · refine Runs.bind (Runs.rd3 (foc_hl R I o _ Y w)) (Runs.wr3 (O := fun v => Own c R I o _ v w) (foc_hf R I o _ Y w) _ ?_)
    rw [shapeCast_got, get3_lay_self]
  · rw [lay_all]; rfl

theorem runs_keep (i : Nat) (hi : i + 1 ≤ 8) : Runs defs c E (keep R.hf R.sf i hi : Pg nD τ sig F Λ _) (Own c R I o u v w : sProp 𝕄) ⟨⟩
    (Own c R I o u v (lay i 0 1 128 (fun _ => True) (fun p => get3 v p.val 0 0 1 128 p.isLt (by omega) (by omega)) w)) := by
  refine Runs.planes i 0 (O := fun w => Own c R I o u v w) _ w (fun p => get3 v p.val 0 0 1 128 p.isLt (by omega) (by omega)) fun k Y => ?_
  refine Runs.bind (Runs.rd3 (foc_hf R I o u v Y)) (Runs.wr3 (O := fun w => Own c R I o u v w) (foc_sf R I o u v Y) _ ?_)
  rw [shapeCast_got]

theorem overlay_full {s : Shape} {off : Fin s.rank → Nat} (h0 : ∀ a, off a = 0) (inb : ∀ a, off a + s.size a ≤ s.size a) {α : Type} (X : s.Idx → α) (G : s.Idx → α) :
    (Rect.unit off s.size inb).overlay X G = G := by
  funext j
  have e : (Rect.unit off s.size inb).emb j = j := funext fun a => Fin.ext (by
    show off a + 1 * (j a).val = (j a).val
    rw [h0 a, Nat.zero_add, Nat.one_mul])
  have := Rect.overlay_emb (Rect.unit off s.size inb) X G j
  rwa [e] at this

theorem runs_zero : Runs defs c E (zero R.sf : Pg nD τ sig F Λ _) (Own c R I o u v w : sProp 𝕄) ⟨⟩ (Own c R I o u v Z) := by
  refine Runs.bind (Runs.load (foc_sf R I o u v w)) ((Runs.store (foc_sf R I o u v w)).mono rfl (congrArg (fun w => Own c R I o u v w) ?_) rfl)
  refine (overlay_full (s := sh3 16 8 128) (by decide) _ _ _).trans ?_
  exact shapeCast_self _ _

theorem runs_root : Runs defs c E (root R.w10 R.w11 R.wr R.out R.sf : Pg nD τ sig F Λ _) (Own c R I o u v w : sProp 𝕄) ⟨⟩ (Own c R I (RT I w) u v w) := by
  refine Runs.bind ((Runs.rd2 (foc_w10 R I o u v w)).mono rfl rfl rfl) ?_
  refine Runs.bind ((Runs.rd2 (foc_w11 R I o u v w)).mono rfl rfl rfl) ?_
  refine Runs.bind (a := R10 I.w10 w) (P' := Own c R I o u v w) (Runs.collect fun r => Runs.collect fun f => ?_) ?_
  · exact Runs.bind (Runs.sums (O := fun w => Own c R I o u v w) (fun w => foc_sf R I o u v w) w w fun _ => ⟨rfl, rfl⟩) (Runs.ret _ _)
  refine Runs.bind ((Runs.rd2 (foc_wr R I o u v w)).mono rfl rfl rfl) ?_
  refine Runs.bind ((Runs.rd2 (foc_out R I o u v w)).mono rfl rfl rfl) ?_
  refine (Runs.store (foc_out R I o u v w)).mono rfl (congrArg (fun o => Own c R I o u v w) ?_) rfl
  exact overlay_full (s := sh2 1 128) (by decide) _ _ _

/-- The buffers the sublane levels leave. -/
theorem runs_level (n s : Nat) (hn : 0 < n) (h2 : n + n ≤ 128) (ho : s + n ≤ 4092) :
    Runs defs c E (levelF R.wg R.hf n s hn h2 ho : Pg nD τ sig F Λ _) (Own c R I o u v w : sProp 𝕄) ⟨⟩ (Own c R I o u (FS I.wg n s h2 ho v) w) :=
  Runs.levelF (O := fun v => Own c R I o u v w) (fun v => foc_wg R I o u v w) (fun _ => rfl) (fun v => foc_hf R I o u v w) v

/-- What the third stack holds when a grid point's levels start. -/
def S0 (i : Fin 3) (w : FVec F (sh3 16 8 128) .f32) : FVec F (sh3 16 8 128) .f32 := match i with | ⟨0, _⟩ => Z | ⟨_ + 1, _⟩ => w

/-- What the output holds when a grid point ends. -/
def O0 (i : Fin 3) (o : FVec F (sh2 1 128) .f32) (w : FVec F (sh3 16 8 128) .f32) : FVec F (sh2 1 128) .f32 := match i with | ⟨2, _⟩ => RT I w | _ => o

/-- What the first stack holds when a grid point ends. -/
def UF (I : Ins F) : FVec F (sh3 16 128 512) .f32 := lay 0 0 128 128 (fun _ => True) (H2 I (below 256 (H1 I (H0 hlp I)) (H0 hlp I))) (below 256 (H1 I (H0 hlp I)) (H0 hlp I))

/-- The whole body: whatever the first two stacks held, the third ends with the row of this grid point's subtree set, and the last point's output is the root's value. -/
theorem runs_body (i : Fin 3) : Runs defs c E (body hlp i R.x R.mu R.lv R.w0 R.w1 R.w2 R.wg R.w10 R.w11 R.wr R.out R.hl R.hf R.sf : Pg nD τ sig F Λ _)
    (Own c R I o u v w : sProp 𝕄) ⟨⟩ (Own c R I (O0 I i o (SF hlp I i (S0 i w))) (UF hlp I) (TF hlp I i) (SF hlp I i (S0 i w))) := by
  refine Runs.bind (P' := Own c R I o u v (S0 i w)) (a := ⟨⟩) ?_ <| Runs.bind (runs_level0 R I o u v _ hlp) <| Runs.bind (runs_level1 R I o _ v _) <|
    Runs.bind (runs_level2 R I o _ v _) <| Runs.bind (runs_swap R I o _ v _) <| Runs.bind (runs_level R I o _ _ _ 64 _ _ _ _) <|
    Runs.bind (runs_level R I o _ _ _ 32 _ _ _ _) <| Runs.bind (runs_level R I o _ _ _ 16 _ _ _ _) <| Runs.bind (runs_level R I o _ _ _ 8 _ _ _ _) <|
    Runs.bind (runs_level R I o _ _ _ 4 _ _ _ _) <| Runs.bind (runs_level R I o _ _ _ 2 _ _ _ _) <| Runs.bind (runs_level R I o _ _ _ 1 _ _ _ _) <|
    Runs.bind (runs_keep R I o _ _ _ i.val _) ?_
  · match i with
    | ⟨0, _⟩ => exact runs_zero R I o u v w
    | ⟨_ + 1, _⟩ => exact Runs.ret _ _
  · match i with
    | ⟨2, _⟩ => exact runs_root R I o _ _ _
    | ⟨0, _⟩ => exact Runs.ret _ _
    | ⟨1, _⟩ => exact Runs.ret _ _

end Einet
-- ==== Proof.Einet.Body.lean ====
/- The printed body of the idealized kernel is the program of `Einet.body`, at each of the three grid points. -/
module

public import proofs.«01_k».proof.KernelIdeal.P03
public import proofs.«01_k».proof.Proof.Einet.Tree
public import Idealize.ShloMosaic.Lib.Tactic

@[expose] public section

set_option maxRecDepth 16384

noncomputable section

namespace Cert.KernelIdeal

open Idealize.ShloMosaic Idealize.SL.Sem

variable {F : FTy → Type} [FloatOps F] [Named F] [Facts]

theorem body_eq_0 (x : Memref sig .tc .vmem S128x1024 .f32) (hx : x.IsWhole) (mu : Memref sig .tc .vmem S16x1024 .f32) (hmu : mu.IsWhole) (lv : Memref sig .tc .vmem S16x1024 .f32) (hlv : lv.IsWhole) (w0 : Memref sig .tc .vmem S128x512 .f32) (hw0 : w0.IsWhole) (w1 : Memref sig .tc .vmem S128x256 .f32) (hw1 : w1.IsWhole) (w2 : Memref sig .tc .vmem S128x128 .f32) (hw2 : w2.IsWhole) (wg : Memref sig .tc .vmem S4092x128 .f32) (hwg : wg.IsWhole) (w10 : Memref sig .tc .vmem S2x128 .f32) (hw10 : w10.IsWhole) (w11 : Memref sig .tc .vmem S1x128 .f32) (hw11 : w11.IsWhole) (wr : Memref sig .tc .vmem S1x16 .f32) (hwr : wr.IsWhole) (out : Memref sig .tc .vmem S1x128 .f32) (hout : out.IsWhole) (hl : Memref sig .tc .vmem S16x128x512 .f32) (hhl : hl.IsWhole) (hf : Memref sig .tc .vmem S16x128x128 .f32) (hhf : hf.IsWhole) (sf : Memref sig .tc .vmem S16x8x128 .f32) (hsf : sf.IsWhole) :
    cc0__body (F := F) (grid0.coords ⟨0, by decide⟩) x hx mu hmu lv hlv w0 hw0 w1 hw1 w2 hw2 wg hwg w10 hw10 w11 hw11 wr hwr out hout hl hhl hf hhf sf hsf
      = Einet.body (Named.named κ "half_log_two_pi" 0x3F6B3F8E#32) ⟨0, by decide⟩ x mu lv w0 w1 w2 wg w10 w11 wr out hl hf sf := by
  sl_kernel_rfl

theorem body_eq_1 (x : Memref sig .tc .vmem S128x1024 .f32) (hx : x.IsWhole) (mu : Memref sig .tc .vmem S16x1024 .f32) (hmu : mu.IsWhole) (lv : Memref sig .tc .vmem S16x1024 .f32) (hlv : lv.IsWhole) (w0 : Memref sig .tc .vmem S128x512 .f32) (hw0 : w0.IsWhole) (w1 : Memref sig .tc .vmem S128x256 .f32) (hw1 : w1.IsWhole) (w2 : Memref sig .tc .vmem S128x128 .f32) (hw2 : w2.IsWhole) (wg : Memref sig .tc .vmem S4092x128 .f32) (hwg : wg.IsWhole) (w10 : Memref sig .tc .vmem S2x128 .f32) (hw10 : w10.IsWhole) (w11 : Memref sig .tc .vmem S1x128 .f32) (hw11 : w11.IsWhole) (wr : Memref sig .tc .vmem S1x16 .f32) (hwr : wr.IsWhole) (out : Memref sig .tc .vmem S1x128 .f32) (hout : out.IsWhole) (hl : Memref sig .tc .vmem S16x128x512 .f32) (hhl : hl.IsWhole) (hf : Memref sig .tc .vmem S16x128x128 .f32) (hhf : hf.IsWhole) (sf : Memref sig .tc .vmem S16x8x128 .f32) (hsf : sf.IsWhole) :
    cc0__body (F := F) (grid0.coords ⟨1, by decide⟩) x hx mu hmu lv hlv w0 hw0 w1 hw1 w2 hw2 wg hwg w10 hw10 w11 hw11 wr hwr out hout hl hhl hf hhf sf hsf
      = Einet.body (Named.named κ "half_log_two_pi" 0x3F6B3F8E#32) ⟨1, by decide⟩ x mu lv w0 w1 w2 wg w10 w11 wr out hl hf sf := by
  sl_kernel_rfl

theorem body_eq_2 (x : Memref sig .tc .vmem S128x1024 .f32) (hx : x.IsWhole) (mu : Memref sig .tc .vmem S16x1024 .f32) (hmu : mu.IsWhole) (lv : Memref sig .tc .vmem S16x1024 .f32) (hlv : lv.IsWhole) (w0 : Memref sig .tc .vmem S128x512 .f32) (hw0 : w0.IsWhole) (w1 : Memref sig .tc .vmem S128x256 .f32) (hw1 : w1.IsWhole) (w2 : Memref sig .tc .vmem S128x128 .f32) (hw2 : w2.IsWhole) (wg : Memref sig .tc .vmem S4092x128 .f32) (hwg : wg.IsWhole) (w10 : Memref sig .tc .vmem S2x128 .f32) (hw10 : w10.IsWhole) (w11 : Memref sig .tc .vmem S1x128 .f32) (hw11 : w11.IsWhole) (wr : Memref sig .tc .vmem S1x16 .f32) (hwr : wr.IsWhole) (out : Memref sig .tc .vmem S1x128 .f32) (hout : out.IsWhole) (hl : Memref sig .tc .vmem S16x128x512 .f32) (hhl : hl.IsWhole) (hf : Memref sig .tc .vmem S16x128x128 .f32) (hhf : hf.IsWhole) (sf : Memref sig .tc .vmem S16x8x128 .f32) (hsf : sf.IsWhole) :
    cc0__body (F := F) (grid0.coords ⟨2, by decide⟩) x hx mu hmu lv hlv w0 hw0 w1 hw1 w2 hw2 wg hwg w10 hw10 w11 hw11 wr hwr out hout hl hhl hf hhf sf hsf
      = Einet.body (Named.named κ "half_log_two_pi" 0x3F6B3F8E#32) ⟨2, by decide⟩ x mu lv w0 w1 w2 wg w10 w11 wr out hl hf sf := by
  sl_kernel_rfl

end Cert.KernelIdeal
-- ==== Proof.Einet.Run.lean ====
/- The run of the idealized kernel: what its buffers hold after each grid point. -/
module

public import proofs.«01_k».proof.Proof.Einet.Whole
public import proofs.«01_k».proof.Proof.Einet.Body
public import proofs.«01_k».proof.Proof.Gen.KernelIdeal.Frame.Runs
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Einet (sh2 sh3 at_)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's half of log 2π. -/
abbrev hlp : F .f32 := Named.named κ "half_log_two_pi" 0x3F6B3F8E#32

/-- The blocks of a grid point. -/
def ins (c : Dev nD) (t : Fin cfg0.N) : Einet.Ins F where
  x := iblk m c 0 t
  mu := iblk m c 1 t
  lv := iblk m c 2 t
  w0 := iblk m c 3 t
  w1 := iblk m c 4 t
  w2 := iblk m c 5 t
  wg := iblk m c 6 t
  w10 := iblk m c 7 t
  w11 := iblk m c 8 t
  wr := iblk m c 9 t

/-- The buffers of a grid point. -/
def refs (t : Fin cfg0.N) : Einet.Refs sig where
  x := ms0_0 t
  mu := ms0_1 t
  lv := ms0_2 t
  w0 := ms0_3 t
  w1 := ms0_4 t
  w2 := ms0_5 t
  wg := ms0_6 t
  w10 := ms0_7 t
  w11 := ms0_8 t
  wr := ms0_9 t
  out := ms0_10 t
  hl := scM0_0
  hf := scM0_1
  sf := scM0_2

/-- A grid point as a number below three. -/
def pt (t : Fin cfg0.N) : Fin 3 := ⟨t.val, lt_of_lt_of_eq t.isLt N_0⟩

/-- What the third stack holds after point `n`. -/
def stack (c : Dev nD) : (n : ℕ) → n < cfg0.N → FVec F (sh3 16 8 128) .f32
  | 0, h => Einet.SF hlp (ins m c ⟨0, h⟩) (pt ⟨0, h⟩) Einet.Z
  | n + 1, h => Einet.SF hlp (ins m c ⟨n + 1, h⟩) (pt ⟨n + 1, h⟩) (stack c n (Nat.lt_of_succ_lt h))

/-- The root's value over the third stack after point `t`: what the output holds after the last point. -/
def root (c : Dev nD) (t : Fin cfg0.N) : FVec F (sh2 1 128) .f32 := Einet.RT (ins m c t) (stack m c t.val t.isLt)

/-- The scratch buffers and the generator between points. -/
def Inv (c : Dev nD) : (n : ℕ) → n ≤ cfg0.N → sProp 𝕄
  | 0, _ => Pipeline.ΦA spec0 c
  | n + 1, h => iprop(((∃ d, at_ c scM0_0 d) ∗ (∃ d, at_ c scM0_1 d) ∗ at_ c scM0_2 (stack m c n h)) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => root m c t
  Φ t := Inv m c t.val (Nat.le_of_lt_succ t.isLt)
  q _ := fullShare
  owed _ := 0

theorem arr (c : Dev nD) (w : Fin cfg0.W) : (dats m 0 c).A w = V m c (Pipeline.arrRef spec0 w) := by
  dsimp only [dats]

theorem inv_at (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = root m c t := by dsimp only [dats]
theorem before_0 (c : Dev nD) (t : Fin cfg0.N) (d) : (dats m 0 c).before 0 t d = iblk m c 0 t := before0_0_of m (dats m 0 c) (arr m c 0) (after_0 m c) t d
theorem before_1 (c : Dev nD) (t : Fin cfg0.N) (d) : (dats m 0 c).before 1 t d = iblk m c 1 t := before0_1_of m (dats m 0 c) (arr m c 1) (after_1 m c) t d
theorem before_2 (c : Dev nD) (t : Fin cfg0.N) (d) : (dats m 0 c).before 2 t d = iblk m c 2 t := before0_2_of m (dats m 0 c) (arr m c 2) (after_2 m c) t d
theorem before_3 (c : Dev nD) (t : Fin cfg0.N) (d) : (dats m 0 c).before 3 t d = iblk m c 3 t := before0_3_of m (dats m 0 c) (arr m c 3) (after_3 m c) t d
theorem before_4 (c : Dev nD) (t : Fin cfg0.N) (d) : (dats m 0 c).before 4 t d = iblk m c 4 t := before0_4_of m (dats m 0 c) (arr m c 4) (after_4 m c) t d
theorem before_5 (c : Dev nD) (t : Fin cfg0.N) (d) : (dats m 0 c).before 5 t d = iblk m c 5 t := before0_5_of m (dats m 0 c) (arr m c 5) (after_5 m c) t d
theorem before_6 (c : Dev nD) (t : Fin cfg0.N) (d) : (dats m 0 c).before 6 t d = iblk m c 6 t := before0_6_of m (dats m 0 c) (arr m c 6) (after_6 m c) t d
theorem before_7 (c : Dev nD) (t : Fin cfg0.N) (d) : (dats m 0 c).before 7 t d = iblk m c 7 t := before0_7_of m (dats m 0 c) (arr m c 7) (after_7 m c) t d
theorem before_8 (c : Dev nD) (t : Fin cfg0.N) (d) : (dats m 0 c).before 8 t d = iblk m c 8 t := before0_8_of m (dats m 0 c) (arr m c 8) (after_8 m c) t d
theorem before_9 (c : Dev nD) (t : Fin cfg0.N) (d) : (dats m 0 c).before 9 t d = iblk m c 9 t := before0_9_of m (dats m 0 c) (arr m c 9) (after_9 m c) t d
theorem leaves_0 (c : Dev nD) (t : Fin cfg0.N) : (dats m 0 c).leavesExact 0 t = at_ c (ms0_0 t) (iblk m c 0 t) := by
  unfold Dat.leavesExact; rw [liveAt0_0 t, after_0]
theorem leaves_1 (c : Dev nD) (t : Fin cfg0.N) : (dats m 0 c).leavesExact 1 t = at_ c (ms0_1 t) (iblk m c 1 t) := by
  unfold Dat.leavesExact; rw [liveAt0_1 t, after_1]
theorem leaves_2 (c : Dev nD) (t : Fin cfg0.N) : (dats m 0 c).leavesExact 2 t = at_ c (ms0_2 t) (iblk m c 2 t) := by
  unfold Dat.leavesExact; rw [liveAt0_2 t, after_2]
theorem leaves_3 (c : Dev nD) (t : Fin cfg0.N) : (dats m 0 c).leavesExact 3 t = at_ c (ms0_3 t) (iblk m c 3 t) := by
  unfold Dat.leavesExact; rw [liveAt0_3 t, after_3]
theorem leaves_4 (c : Dev nD) (t : Fin cfg0.N) : (dats m 0 c).leavesExact 4 t = at_ c (ms0_4 t) (iblk m c 4 t) := by
  unfold Dat.leavesExact; rw [liveAt0_4 t, after_4]
theorem leaves_5 (c : Dev nD) (t : Fin cfg0.N) : (dats m 0 c).leavesExact 5 t = at_ c (ms0_5 t) (iblk m c 5 t) := by
  unfold Dat.leavesExact; rw [liveAt0_5 t, after_5]
theorem leaves_6 (c : Dev nD) (t : Fin cfg0.N) : (dats m 0 c).leavesExact 6 t = at_ c (ms0_6 t) (iblk m c 6 t) := by
  unfold Dat.leavesExact; rw [liveAt0_6 t, after_6]
theorem leaves_7 (c : Dev nD) (t : Fin cfg0.N) : (dats m 0 c).leavesExact 7 t = at_ c (ms0_7 t) (iblk m c 7 t) := by
  unfold Dat.leavesExact; rw [liveAt0_7 t, after_7]
theorem leaves_8 (c : Dev nD) (t : Fin cfg0.N) : (dats m 0 c).leavesExact 8 t = at_ c (ms0_8 t) (iblk m c 8 t) := by
  unfold Dat.leavesExact; rw [liveAt0_8 t, after_8]
theorem leaves_9 (c : Dev nD) (t : Fin cfg0.N) : (dats m 0 c).leavesExact 9 t = at_ c (ms0_9 t) (iblk m c 9 t) := by
  unfold Dat.leavesExact; rw [liveAt0_9 t, after_9]

/-- The body's program at point `t`. -/
theorem body_eq (t : Fin cfg0.N) : bodyAt0 (F := F) t
    = Einet.body hlp (pt t) (ms0_0 t) (ms0_1 t) (ms0_2 t) (ms0_3 t) (ms0_4 t) (ms0_5 t) (ms0_6 t) (ms0_7 t) (ms0_8 t) (ms0_9 t) (ms0_10 t) scM0_0 scM0_1 scM0_2 := by
  obtain ⟨n, hn⟩ := t
  have hN : n < 3 := lt_of_lt_of_eq hn N_0
  match n, hn, hN with
  | 0, _, _ => exact body_eq_0 _ _ _ _ _ _ _ _ _ _ _ _ _ _ _ _ _ _ _ _ _ _ _ _ _ _ _ _
  | 1, _, _ => exact body_eq_1 _ _ _ _ _ _ _ _ _ _ _ _ _ _ _ _ _ _ _ _ _ _ _ _ _ _ _ _
  | 2, _, _ => exact body_eq_2 _ _ _ _ _ _ _ _ _ _ _ _ _ _ _ _ _ _ _ _ _ _ _ _ _ _ _ _

set_option maxHeartbeats 4000000 in
/-- The body at a point, between the pipeline's two assertions; `w` is the third stack at the point's start. -/
theorem step (c : Dev nD) (t : Fin cfg0.N) (w : FVec F (sh3 16 8 128) .f32) {D0 D1 D2 D3 D4 D5 D6 D7 D8 D9 D : Type} (B : D → FVec F (sh2 1 128) .f32) (G O : sProp 𝕄) :
    iprop((((∃ d, at_ c scM0_0 d) ∗ (∃ d, at_ c scM0_1 d) ∗ at_ c scM0_2 w) ∗ G) ∗ O ∗ (∃ _ : D0, at_ c (ms0_0 t) (iblk m c 0 t)) ∗ (∃ _ : D1, at_ c (ms0_1 t) (iblk m c 1 t)) ∗ (∃ _ : D2, at_ c (ms0_2 t) (iblk m c 2 t)) ∗ (∃ _ : D3, at_ c (ms0_3 t) (iblk m c 3 t)) ∗ (∃ _ : D4, at_ c (ms0_4 t) (iblk m c 4 t)) ∗ (∃ _ : D5, at_ c (ms0_5 t) (iblk m c 5 t)) ∗ (∃ _ : D6, at_ c (ms0_6 t) (iblk m c 6 t)) ∗ (∃ _ : D7, at_ c (ms0_7 t) (iblk m c 7 t)) ∗ (∃ _ : D8, at_ c (ms0_8 t) (iblk m c 8 t)) ∗ (∃ _ : D9, at_ c (ms0_9 t) (iblk m c 9 t)) ∗ ∃ d, at_ c (ms0_10 t) (B d))
    ⊢ wp frame (wpE (defs₀ (F := F)) Variants.none c none) Set.univ (bodyAt0 t) fun _ =>
      iprop((((∃ d, at_ c scM0_0 d) ∗ (∃ d, at_ c scM0_1 d) ∗ at_ c scM0_2 (Einet.SF hlp (ins m c t) (pt t) (Einet.S0 (pt t) w))) ∗ G) ∗ O ∗ at_ c (ms0_0 t) (iblk m c 0 t) ∗ at_ c (ms0_1 t) (iblk m c 1 t) ∗ at_ c (ms0_2 t) (iblk m c 2 t) ∗ at_ c (ms0_3 t) (iblk m c 3 t) ∗ at_ c (ms0_4 t) (iblk m c 4 t) ∗ at_ c (ms0_5 t) (iblk m c 5 t) ∗ at_ c (ms0_6 t) (iblk m c 6 t) ∗ at_ c (ms0_7 t) (iblk m c 7 t) ∗ at_ c (ms0_8 t) (iblk m c 8 t) ∗ at_ c (ms0_9 t) (iblk m c 9 t)
        ∗ ∃ d, at_ c (ms0_10 t) (Einet.O0 (ins m c t) (pt t) (B d) (Einet.SF hlp (ins m c t) (pt t) (Einet.S0 (pt t) w)))) := by
  rw [body_eq]
  iintro ⟨⟨⟨⟨%u, HS0⟩, ⟨%v, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d, H10⟩⟩
  iapply (Einet.runs_body (c := c) (E := Set.univ) (refs t) (ins m c t) (B d) u v w hlp (pt t)) _
  isplitl [H0 H1 H2 H3 H4 H5 H6 H7 H8 H9 H10 HS0 HS1 HS2]
  · unfold Einet.Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iexact HS2
  unfold Einet.Own
  iintro ⟨H0, H1, H2, H3, H4, H5, H6, H7, H8, H9, H10, HS0, HS1, HS2⟩
  isplitl [HS0 HS1 HS2 Hg]
  · isplitl [HS0 HS1 HS2]
    · isplitl [HS0]; · iexists _; iexact HS0
      isplitl [HS1]; · iexists _; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d; iexact H10

end Cert.KernelIdeal.Own
-- ==== Proof.Einet.Real.lean ====
/- The mixture tree over the reals. -/
module

public import Idealize.ShloMosaic.Lib.Claim
public import Idealize.ShloMosaic.Lib.Pointwise.Tactic

@[expose] public section

noncomputable section

namespace Einet

/-- The log of a sum of exponentials. -/
def lse {n : ℕ} (x : Fin n → ℝ) : ℝ := Real.log (∑ k, Real.exp (x k))

/-- A mixture of eight log values `a` with weights proportional to the exponentials of `w`. -/
def node {n : ℕ} (w a : Fin n → ℝ) : ℝ := lse (fun k => a k + w k) - lse w

/-- The tree: the value of feature `f` after `l` levels, channel `c`, rank index `r`; `L` are the leaves and `W` the weights of a level. -/
def tree (L : ℕ → Fin 8 → Fin 2 → ℝ) (W : ℕ → ℕ → Fin 8 → Fin 8 → Fin 2 → ℝ) : ℕ → ℕ → Fin 8 → Fin 2 → ℝ
  | 0 => L
  | l + 1 => fun f co r => node (fun ci => W l f co ci r) fun ci => tree L W l (2 * f) ci r + tree L W l (2 * f + 1) ci r

/-- A Gaussian log density with mean `mu` and log variance `lv`. -/
def gauss (lv mu x : ℝ) : ℝ := -(1 / 2) * (Real.exp (-lv) * ((x - mu) * (x - mu))) - (1 / 2) * lv - (1 / 2) * Real.log (13176795 / 2097152)

theorem sum_exp_pos {n : ℕ} [NeZero n] (x : Fin n → ℝ) : 0 < ∑ k, Real.exp (x k) :=
  Finset.sum_pos (fun k _ => Real.exp_pos _) ⟨0, Finset.mem_univ _⟩

/-- Shifting every term shifts the log of the sum. -/
theorem lse_shift {n : ℕ} [NeZero n] (x : Fin n → ℝ) (m : ℝ) : m + Real.log (∑ k, Real.exp (x k - m)) = lse x := by
  have h : ∑ k, Real.exp (x k - m) = (∑ k, Real.exp (x k)) * Real.exp (-m) := by
    rw [Finset.sum_mul]; exact Finset.sum_congr rfl fun k _ => by rw [← Real.exp_add, sub_eq_add_neg]
  rw [h, Real.log_mul (sum_exp_pos x).ne' (Real.exp_pos _).ne', Real.log_exp, lse]; ring

/-- The kernel's form of a mixture. -/
theorem node_shift {n : ℕ} [NeZero n] (w a : Fin n → ℝ) (m : ℝ) :
    m + Real.log (∑ k, Real.exp (w k) * Real.exp (a k - m)) - Real.log (∑ k, Real.exp (w k)) = node w a := by
  rw [node, ← lse_shift _ m]
  congr 3
  exact Finset.sum_congr rfl fun k _ => by rw [← Real.exp_add]; congr 1; ring

/-- The reference's form: normalised weights first. -/
theorem node_normal {n : ℕ} [NeZero n] (w a : Fin n → ℝ) (mw m : ℝ) :
    Real.log (∑ k, Real.exp (a k + (w k - mw - Real.log (∑ j, Real.exp (w j - mw))) - m)) + m = node w a := by
  have hw := lse_shift w mw
  have := lse_shift (fun k => a k + (w k - lse w)) m
  rw [add_comm, show (∑ k, Real.exp (a k + (w k - mw - Real.log (∑ j, Real.exp (w j - mw))) - m)) = ∑ k, Real.exp (a k + (w k - lse w) - m) from
    Finset.sum_congr rfl fun k _ => by rw [← hw]; congr 1; ring]
  have e : lse (fun k => a k + (w k - lse w)) = Real.log (∑ k, Real.exp (a k + w k - lse w)) :=
    congrArg Real.log (Finset.sum_congr rfl fun k _ => congrArg Real.exp (by ring))
  rw [this, e, node, ← lse_shift (fun k => a k + w k) (lse w)]; ring

/-- Over equal log values nothing changes: a mixture of zeros is zero. -/
theorem node_zero {n : ℕ} (w : Fin n → ℝ) : node w (fun _ => 0) = 0 := by
  simp [node]

theorem gauss_kernel (lv mu x : ℝ) :
    -(1 / 2) * Real.exp (0 - lv) * ((x - mu) * (x - mu)) + (-(1 / 2) * lv - 1 / 2 * Real.log (13176795 / 2097152)) = gauss lv mu x := by
  rw [gauss, zero_sub]; ring

theorem gauss_reference (lv mu x : ℝ) :
    -(1 / 2) * ((x - mu) / Real.exp (1 / 2 * lv)) ^ 2 - Real.log (Real.exp (1 / 2 * lv)) - 1 / 2 * Real.log (13176795 / 2097152) = gauss lv mu x := by
  have h : Real.exp (-lv) = (Real.exp (1 / 2 * lv) * Real.exp (1 / 2 * lv))⁻¹ := by
    rw [← Real.exp_add, ← Real.exp_neg]; congr 1; ring
  have := (Real.exp_pos (1 / 2 * lv)).ne'
  rw [gauss, h, Real.log_exp]
  field_simp
  try ring

/-- The bits of `p` in reverse: `rev k` reverses the lowest `k` bits. -/
def rev : ℕ → ℕ → ℕ
  | 0, _ => 0
  | k + 1, p => 2 * rev k (p % 2 ^ k) + p / 2 ^ k

theorem rev_low (k p : ℕ) (h : p < 2 ^ k) : rev (k + 1) p = 2 * rev k p := by
  rw [rev, Nat.mod_eq_of_lt h, Nat.div_eq_of_lt h, Nat.add_zero]

theorem rev_high (k p : ℕ) (h : p < 2 ^ k) : rev (k + 1) (2 ^ k + p) = 2 * rev k p + 1 := by
  rw [rev, Nat.add_mod_left, Nat.mod_eq_of_lt h, Nat.add_div_left _ (Nat.two_pow_pos k), Nat.div_eq_of_lt h]

theorem rev_lt (k p : ℕ) (h : p < 2 ^ k) : rev k p < 2 ^ k := by
  induction k generalizing p with
  | zero => exact Nat.one_pos
  | succ k ih =>
    rcases Nat.lt_or_ge p (2 ^ k) with hp | hp
    · rw [rev_low k p hp, Nat.pow_succ]; have := ih p hp; omega
    · obtain ⟨q, rfl⟩ := Nat.exists_eq_add_of_le hp
      have hq : q < 2 ^ k := by rw [Nat.pow_succ] at h; omega
      rw [rev_high k q hq, Nat.pow_succ]; have := ih q hq; omega

end Einet
-- ==== Proof.Einet.Lit.lean ====
/- The two index tables of the kernel's host program: they reverse the bits of a position within its block. -/
module

public import proofs.«01_k».proof.KernelIdeal
public import proofs.«01_k».proof.Proof.Einet.Real

@[expose] public section

set_option maxRecDepth 16384

noncomputable section

namespace Einet

open Cert.KernelIdeal

/-- The leaves' table, block by block. -/
theorem lit0_at : ∀ (i : Fin 3) (p : Fin 1024), (lit0 ⟨i.val * 1024 + p.val, by omega⟩).toNat = i.val * 1024 + rev 10 p.val := by
  decide +kernel

theorem row_lt {k i p : ℕ} (hk : k < 10) (hi : i < 3) (hp : p < 2 ^ k) : 4096 - 8 * 2 ^ k + i * 2 ^ k + p < 4092 := by
  have : i * 2 ^ k ≤ 2 * 2 ^ k := Nat.mul_le_mul_right _ (by omega)
  have : 1 ≤ 2 ^ k := Nat.one_le_two_pow
  have : 2 ^ k ≤ 2 ^ 9 := Nat.pow_le_pow_right (by decide) (by omega)
  omega

/-- The weights' table: the level whose blocks hold `2 ^ k` features starts at row `4096 - 8 * 2 ^ k`. -/
theorem lit1_at : ∀ (k : Fin 10) (i : Fin 3) (p : Fin (2 ^ k.val)), (lit1 ⟨4096 - 8 * 2 ^ k.val + i.val * 2 ^ k.val + p.val, row_lt k.isLt i.isLt p.isLt⟩).toNat = 4096 - 8 * 2 ^ k.val + (i.val * 2 ^ k.val + rev k.val p.val) := by
  decide +kernel

end Einet
-- ==== Proof.Einet.Ideal.lean ====
/- The value functions over the extended reals: on real arguments they are the mixtures and densities of the tree. -/
module

public import proofs.«01_k».proof.Proof.Einet.Step
public import proofs.«01_k».proof.Proof.Einet.Real
public import Idealize.ShloMosaic.Lib.Pointwise.Reduce

@[expose] public section

noncomputable section

namespace Einet

open Idealize.ShloMosaic hiding ix1 ix2 ix3 eq_ix3
open Idealize.ShloMosaic.ValueIdx

theorem exp_coe (x : ℝ) : Ideal.exp (x : EReal) = (Real.exp x : EReal) := rfl

theorem log_coe {x : ℝ} (h : 0 < x) : Ideal.log (x : EReal) = (Real.log x : EReal) := if_neg (not_le.mpr h)

theorem max_coe (x y : ℝ) : max (x : EReal) (y : EReal) = ((max x y : ℝ) : EReal) := (EReal.coe_strictMono.monotone.map_max).symm

theorem neg_half : Ideal.ofBits .f32 0xBF000000#32 = ((-(1 / 2) : ℝ) : EReal) := by
  simp [Ideal.ofBits, Ideal.ieee, -EReal.coe_mul, -EReal.coe_neg]; norm_num

theorem minus_inf : Ideal.ofBits .f32 0xFF800000#32 = ⊥ := by
  simp [Ideal.ofBits, Ideal.ieee]

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

theorem tree8_add (f : Fin 8 → ℝ) : tree8 (fun x y : EReal => x + y) (fun k => (f k : EReal)) = ((∑ k, f k : ℝ) : EReal) := by
  rw [Fin.sum_univ_eight]
  show ((f 0 : EReal) + f 1 + (f 2 + f 3) + (f 4 + f 5 + (f 6 + f 7))) = _
  norm_cast
  ring

theorem tree8_max (f : Fin 8 → ℝ) : ∃ m : ℝ, tree8 (fun x y : EReal => max x y) (fun k => (f k : EReal)) = (m : EReal) := by
  unfold tree8; simp only [max_coe]; exact ⟨_, rfl⟩

theorem mx_at {s : Shape} (f : Fin 8 → FVec Ideal s .f32) (i : s.Idx) (a : Fin 8 → ℝ) (h : ∀ k, f k i = (a k : EReal)) : ∃ m : ℝ, mx f i = (m : EReal) := by
  obtain ⟨m, hm⟩ := tree8_max a
  exact ⟨m, (show mx f i = tree8 (fun x y : EReal => max x y) fun k => f k i from rfl).trans ((congrArg _ (funext h)).trans hm)⟩

/-- The mixture's arithmetic, on real arguments. -/
theorem mix_at (a v : Fin 8 → ℝ) (m : ℝ) :
    ((m : EReal) + Ideal.log (tree8 (fun x y : EReal => x + y) fun k => (Real.exp (v k) : EReal) * Ideal.exp ((a k : EReal) - (m : EReal))))
      - Ideal.log (tree8 (fun x y : EReal => x + y) fun k => (Real.exp (v k) : EReal)) = (node v a : EReal) := by
  have h : (fun k => (Real.exp (v k) : EReal) * Ideal.exp ((a k : EReal) - (m : EReal))) = fun k => ((Real.exp (v k) * Real.exp (a k - m) : ℝ) : EReal) :=
    funext fun k => by rw [← EReal.coe_sub, exp_coe, ← EReal.coe_mul]
  rw [h, tree8_add, tree8_add, log_coe, log_coe (sum_exp_pos v), ← EReal.coe_add, ← EReal.coe_sub, node_shift]
  exact Finset.sum_pos (fun k _ => mul_pos (Real.exp_pos _) (Real.exp_pos _)) ⟨0, Finset.mem_univ _⟩

theorem bcr {a b : Nat} {α : Type} (v : (sh2 1 b).Idx → α) (h : (sh2 1 b).Broadcasts (sh2 a b)) (y : Fin a) (z : Fin b) : broadcastTo (sh2 a b) v h (ix2 y z) = v (ix2 0 z) :=
  broadcastTo_1b_ab_apply v h y z

theorem bcc {a b : Nat} {α : Type} (v : (sh2 a 1).Idx → α) (h : (sh2 a 1).Broadcasts (sh2 a b)) (y : Fin a) (z : Fin b) : broadcastTo (sh2 a b) v h (ix2 y z) = v (ix2 y 0) := by
  refine broadcastTo_apply v h _ (ix2 y 0) fun ax => ?_
  match ax with
  | ⟨0, _⟩ =>
    show y.val = if a = 1 then 0 else y.val
    split <;> omega
  | ⟨1, _⟩ => rfl

/-- A level along the lanes. -/
theorem planeB_at (s : Fin 8 → FVec Ideal (sh2 128 128) .f32) (w : Fin 8 → FVec Ideal (sh2 1 128) .bf16) (y z : Fin 128) (a v : Fin 8 → ℝ)
    (hs : ∀ k, s k (ix2 y z) = (a k : EReal)) (hw : ∀ k, w k (ix2 0 z) = (Real.exp (v k) : EReal)) : planeB (mx s) (eB (mx s) s) w (ix2 y z) = (node v a : EReal) := by
  obtain ⟨m, hm⟩ := mx_at s (ix2 y z) a hs
  show (mx s (ix2 y z) + Ideal.log (tree8 (fun x y : EReal => x + y) fun k => broadcastTo (sh2 128 128) (w k) (bc_row 128 128) (ix2 y z) * Ideal.exp (s k (ix2 y z) - mx s (ix2 y z))))
    - broadcastTo (sh2 128 128) (log (extf .f32 (tree8 addf w) lt16)) (bc_row 128 128) (ix2 y z) = _
  rw [bcr]
  show _ - Ideal.log (tree8 (fun x y : EReal => x + y) fun k => w k (ix2 0 z)) = _
  simp only [bcr, hm, hs, hw]
  exact mix_at a v m

/-- A level along the sublanes. -/
theorem planeF_at {n : Nat} (s : Fin 8 → FVec Ideal (sh2 n 128) .f32) (w : Fin 8 → FVec Ideal (sh2 n 1) .f32) (y : Fin n) (z : Fin 128) (a v : Fin 8 → ℝ)
    (hs : ∀ k, s k (ix2 y z) = (a k : EReal)) (hw : ∀ k, w k (ix2 y 0) = (Real.exp (v k) : EReal)) : planeF (mx s) (eF (mx s) s) w (ix2 y z) = (node v a : EReal) := by
  obtain ⟨m, hm⟩ := mx_at s (ix2 y z) a hs
  show (mx s (ix2 y z) + Ideal.log (tree8 (fun x y : EReal => x + y) fun k => broadcastTo (sh2 n 128) (w k) (bc_col n 128) (ix2 y z) * Ideal.exp (s k (ix2 y z) - mx s (ix2 y z))))
    - broadcastTo (sh2 n 128) (log (tree8 addf w)) (bc_col n 128) (ix2 y z) = _
  rw [bcc]
  show _ - Ideal.log (tree8 (fun x y : EReal => x + y) fun k => w k (ix2 y 0)) = _
  simp only [bcc, hm, hs, hw]
  exact mix_at a v m

/-- A level with scalar weights. -/
theorem planeS_at (s : Fin 8 → FVec Ideal (sh2 1 128) .f32) (w : Fin 8 → Ideal .f32) (z : Fin 128) (a v : Fin 8 → ℝ)
    (hs : ∀ k, s k (ix2 0 z) = (a k : EReal)) (hw : ∀ k, w k = (Real.exp (v k) : EReal)) : planeS (mx s) (eF (mx s) s) w (ix2 0 z) = (node v a : EReal) := by
  obtain ⟨m, hm⟩ := mx_at s (ix2 0 z) a hs
  show (mx s (ix2 0 z) + Ideal.log (tree8 (fun x y : EReal => x + y) fun k => w k * Ideal.exp (s k (ix2 0 z) - mx s (ix2 0 z))))
    - Ideal.log (tree8 (fun x y : EReal => x + y) w) = _
  rw [show w = fun k => (Real.exp (v k) : EReal) from funext hw]
  simp only [hm, hs]
  exact mix_at a v m

/-- A leaf. -/
theorem leafE_at (lv mu : FVec Ideal (sh2 1 128) .f32) (x : FVec Ideal (sh2 128 128) .f32) (y z : Fin 128) (a b c : ℝ)
    (hl : lv (ix2 0 z) = (a : EReal)) (hm : mu (ix2 0 z) = (b : EReal)) (hx : x (ix2 y z) = (c : EReal)) :
    leafE (F := Ideal) ((2⁻¹ * Real.log (13176795 / 2097152) : ℝ) : EReal) lv mu x (ix2 y z) = (gauss a b c : EReal) := by
  unfold leafE
  simp only [shapeCast_self]
  show broadcastTo (sh2 128 128) _ (bc_row 128 128) (ix2 y z) * ((x (ix2 y z) - broadcastTo (sh2 128 128) mu (bc_row 128 128) (ix2 y z))
    * (x (ix2 y z) - broadcastTo (sh2 128 128) mu (bc_row 128 128) (ix2 y z))) + broadcastTo (sh2 128 128) _ (bc_row 128 128) (ix2 y z) = _
  simp only [bcr, hm, hx]
  show Ideal.ofBits .f32 0xBF000000#32 * Ideal.exp (Ideal.ofBits .f32 0x00000000#32 - lv (ix2 0 z)) * _
    + (Ideal.ofBits .f32 0xBF000000#32 * lv (ix2 0 z) - ((2⁻¹ * Real.log (13176795 / 2097152) : ℝ) : EReal)) = _
  rw [hl, neg_half, Ideal.ofBits_zero_f32, ← gauss_kernel, ← EReal.coe_zero, ← EReal.coe_sub, exp_coe]
  norm_cast
  rw [one_div]

/-- The largest of at least one real number, from minus infinity, is a real number. -/
theorem fold_max_real {ι : Type} (s : Finset ι) (hs : s.Nonempty) (a : ι → ℝ) : ∃ m : ℝ, s.fold max (⊥ : EReal) (fun k => (a k : EReal)) = (m : EReal) := by
  classical
  induction hs using Finset.Nonempty.cons_induction with
  | singleton k => exact ⟨a k, by simp⟩
  | cons k s h hs ih =>
    obtain ⟨m, hm⟩ := ih
    exact ⟨max (a k) m, by rw [Finset.fold_cons, hm, max_coe]⟩

theorem tree16_add (f : Fin 16 → ℝ) :
    tree16 (fun x y : EReal => x + y) (fun c r => (f ⟨2 * c.val + r.val, two_mul_lt c.isLt r.isLt⟩ : EReal)) = ((∑ k, f k : ℝ) : EReal) := by
  unfold tree16
  simp only [← EReal.coe_add]
  rw [tree8_add]
  congr 1
  simp only [Fin.sum_univ_succ, Fin.sum_univ_zero]
  simp only [Fin.val_zero, Fin.val_succ]
  ring_nf
  rfl

theorem tree16_max (f : Fin 8 → Fin 2 → ℝ) : ∃ m : ℝ, tree16 (fun x y : EReal => max x y) (fun c r => (f c r : EReal)) = (m : EReal) := by
  unfold tree16; simp only [max_coe]; exact tree8_max _

theorem pick_at {F : FTy → Type} {R C : Nat} (v : FVec F (sh2 R C) .f32) (r c : Nat) (hr : r + 1 ≤ R) (hc : c + 1 ≤ C) : pick v r c hr hc = v (ix2 ⟨r, hr⟩ ⟨c, hc⟩) := by
  unfold pick
  simp only [pointwise]
  refine congrArg v (funext fun a => ?_)
  match a with
  | ⟨0, _⟩ => exact Fin.ext (Nat.add_zero r)
  | ⟨1, _⟩ => exact Fin.ext (Nat.add_zero c)

theorem cast_one {α : Type} (v : (⟨1, ![1]⟩ : Shape).Idx → α) (i : (sh3 1 1 1).Idx) : shapeCast (sh3 1 1 1) v casts_111 i = v (ix1 0) :=
  congrArg v (funext fun a => match a with | ⟨0, _⟩ => Subsingleton.elim (α := Fin 1) _ _)

theorem cast_row {α : Type} (v : (sh2 1 16).Idx → α) (i : (sh3 1 1 16).Idx) : shapeCast (sh3 1 1 16) v (casts_add 1 16) i = v (ix2 0 (i 2)) := by
  rw [show i = ix3 (0 : Fin 1) (0 : Fin 1) (i 2) from funext fun a => match a with
    | ⟨0, _⟩ => Subsingleton.elim (α := Fin 1) _ _ | ⟨1, _⟩ => Subsingleton.elim (α := Fin 1) _ _ | ⟨2, _⟩ => rfl]
  exact shapeCast_ab_1ab_apply v (casts_add 1 16) 0 0 (i 2)

theorem row_max (w : FVec Ideal (sh2 1 16) .f32) (v : Fin 16 → ℝ) (h : ∀ k, w (ix2 0 k) = (v k : EReal)) (h₁ h₂ h₃) :
    ∃ m : ℝ, multiReduction .maximumf [1, 2] ⟨1, ![1]⟩ (shapeCast (sh3 1 1 16) w (casts_add 1 16)) 0xFF800000#32 h₁ h₂ h₃ (ix1 0) = (m : EReal) := by
  obtain ⟨m, hm⟩ := fold_max_real (Finset.univ.filter fun i : (sh3 1 1 16).Idx => Shape.Reduces.drop h₁ i = ix1 0)
    ⟨ix3 0 0 0, Finset.mem_filter.mpr ⟨Finset.mem_univ _, funext fun a => match a with | ⟨0, _⟩ => Subsingleton.elim (α := Fin 1) _ _⟩⟩ fun i => v (i 2)
  refine ⟨m, ?_⟩
  rw [multiReduction_maximumf_eq_fold, show shapeCast (sh3 1 1 16) w (casts_add 1 16) = fun i => ((v (i 2) : ℝ) : EReal) from funext fun i => (cast_row w i).trans (h _)]
  refine Eq.trans ?_ hm
  rw [show (FloatOps.ofBits .f32 0xFF800000#32 : Ideal .f32) = (⊥ : EReal) from minus_inf]
  rfl

theorem row_sum (w : FVec Ideal (sh2 1 16) .f32) (h₁ h₂ h₃) :
    multiReduction .add [1, 2] ⟨1, ![1]⟩ (shapeCast (sh3 1 1 16) w (casts_add 1 16)) 0x00000000#32 h₁ h₂ h₃ (ix1 0) = ∑ k, w (ix2 0 k) := by
  rw [show shapeCast (sh3 1 1 16) w (casts_add 1 16) = fun i => w (ix2 0 (i 2)) from funext fun i => cast_row w i]
  simp only [pointwise]
  exact Fin.sum_univ_one _

theorem lseW_at (w : FVec Ideal (sh2 1 16) .f32) (v : Fin 16 → ℝ) (h : ∀ k, w (ix2 0 k) = (v k : EReal)) : lseW w = (lse v : EReal) := by
  obtain ⟨m, hm⟩ := row_max w v h reds (.inl rfl) rfl
  have key : ∀ M : EReal, M = (m : EReal) → M + Ideal.log (shapeCast (sh3 1 1 1) (multiReduction .add [1, 2] ⟨1, ![1]⟩
      (shapeCast (sh3 1 1 16) (exp (F := Ideal) (subf w (broadcast (sh2 1 16) M))) (casts_add 1 16)) 0x00000000#32 reds (.inl rfl) rfl) casts_111 (fun a => ⟨![0, 0, 0] a, at000 a⟩)) = (lse v : EReal) := by
    rintro _ rfl
    refine (congrArg (fun S => (m : EReal) + Ideal.log S) ((cast_one _ _).trans (row_sum _ _ _ _))).trans ?_
    show (m : EReal) + Ideal.log (∑ k, Ideal.exp (w (ix2 0 k) - (m : EReal))) = _
    simp only [h, ← EReal.coe_sub, exp_coe]
    rw [coe_sum, log_coe (sum_exp_pos _), ← EReal.coe_add, lse_shift]
  exact key _ ((cast_one _ _).trans hm)

/-- The root. -/
theorem rootE_at (f : Fin 8 → Fin 2 → FVec Ideal (sh2 1 128) .f32) (w : FVec Ideal (sh2 1 16) .f32) (z : Fin 128) (a v : Fin 16 → ℝ)
    (hf : ∀ c r, f c r (ix2 0 z) = (a ⟨2 * c.val + r.val, two_mul_lt c.isLt r.isLt⟩ : EReal)) (hw : ∀ k, w (ix2 0 k) = (v k : EReal)) :
    rootE f w (ix2 0 z) = (node v a : EReal) := by
  obtain ⟨m, hm⟩ := tree16_max fun c r => a ⟨2 * c.val + r.val, two_mul_lt c.isLt r.isLt⟩
  show tree16 (fun x y : EReal => max x y) (fun c r => f c r (ix2 0 z)) + Ideal.log (tree16 (fun x y : EReal => x + y) fun c r =>
    Ideal.exp (f c r (ix2 0 z) - tree16 (fun x y : EReal => max x y) (fun c r => f c r (ix2 0 z))) *
      Ideal.exp (pick w 0 (2 * c.val + r.val) (Nat.le_refl _) (two_mul_lt c.isLt r.isLt) - lseW w)) = _
  simp only [hf, hm, pick_at, lseW_at w v hw]
  have h : (fun (c : Fin 8) (r : Fin 2) => Ideal.exp ((a ⟨2 * c.val + r.val, two_mul_lt c.isLt r.isLt⟩ : EReal) - (m : EReal)) *
      Ideal.exp (w (ix2 ⟨0, Nat.le_refl _⟩ ⟨2 * c.val + r.val, two_mul_lt c.isLt r.isLt⟩) - (lse v : EReal))) = fun c r =>
        (((fun k => Real.exp (a k - m) * Real.exp (v k - lse v)) ⟨2 * c.val + r.val, two_mul_lt c.isLt r.isLt⟩ : ℝ) : EReal) :=
    funext fun c => funext fun r => by
      rw [show w (ix2 ⟨0, Nat.le_refl _⟩ ⟨2 * c.val + r.val, two_mul_lt c.isLt r.isLt⟩) = _ from hw _]
      simp only [← EReal.coe_sub, exp_coe, ← EReal.coe_mul]
  refine (congrArg (fun S => (m : EReal) + Ideal.log S) ((congrArg (tree16 fun x y : EReal => x + y) h).trans
    (tree16_add fun k => Real.exp (a k - m) * Real.exp (v k - lse v)))).trans ?_
  show (m : EReal) + Ideal.log _ = _
  rw [log_coe (Finset.sum_pos (fun k _ => mul_pos (Real.exp_pos _) (Real.exp_pos _)) ⟨0, Finset.mem_univ _⟩), ← EReal.coe_add, add_comm]
  have e := node_normal v a 0 m
  have l : lse v = Real.log (∑ j, Real.exp (v j - 0)) := by simp [lse]
  rw [← e, ← l]
  refine congrArg (fun s => ((Real.log s + m : ℝ) : EReal)) (Finset.sum_congr rfl fun k _ => ?_)
  rw [← Real.exp_add]
  congr 1
  ring

end Einet
-- ==== Proof.Einet.Ref.lean ====
/- One level of the reference over the extended reals: on real arguments it is the mixture of the tree. -/
module

public import proofs.«01_k».proof.Proof.Einet.Ideal
public import Idealize.ShloMosaic.Lib.Pipeline.Value

@[expose] public section

noncomputable section

namespace Einet

open Idealize.ShloMosaic hiding ix1 ix2 ix3 ix4 ix5 eq_ix3 eq_ix4 eq_ix5
open Idealize.ShloMosaic.ValueIdx

abbrev r3 (a b c : ℕ) : Shape := ⟨3, ![a, b, c]⟩
abbrev r4 (a b c d : ℕ) : Shape := ⟨4, ![a, b, c, d]⟩
abbrev r5 (a b c d e : ℕ) : Shape := ⟨5, ![a, b, c, d, e]⟩
abbrev r0 : Shape := ⟨0, ![]⟩

/-- A coordinate that a broadcast keeps. -/
theorem kept_coord {n : ℕ} (f : Fin n) : f.val = if n = 1 then 0 else f.val := by split <;> omega

/-- A maximum of real numbers from minus infinity on is real. -/
theorem reduce_max_real {s t : Shape} {axes : List (Fin s.rank)} (x : FVec Ideal s .f32) (v : s.Idx → ℝ) (hx : ∀ i, x i = (v i : EReal)) (h : s.ReducesTo axes t) (hu : 0 < r0.numel) (j : t.Idx)
    (hj : ∃ i, h.drop i = j) : ∃ m : ℝ, Host.reduce FloatOps.maximumf x (constant (F := Ideal) r0 .f32 0xFF800000#32) h hu j = (m : EReal) := by
  obtain ⟨i, hi⟩ := hj
  obtain ⟨m, hm⟩ := fold_max_real (Finset.univ.filter fun i => h.drop i = j) ⟨i, Finset.mem_filter.mpr ⟨Finset.mem_univ _, hi⟩⟩ v
  refine ⟨m, ?_⟩
  rw [Ideal.maximumf_eq_max, Host.reduce_eq_fold, show x = fun i => ((v i : ℝ) : EReal) from funext hx]
  refine Eq.trans ?_ hm
  rw [show (constant (F := Ideal) r0 .f32 0xFF800000#32 : FVec Ideal r0 .f32) (Shape.Idx.first hu) = (⊥ : EReal) from minus_inf]

section Level

variable (n : ℕ) {α : Type}

theorem bc013 (v : (r3 n 8 2).Idx → α) (h : (r3 n 8 2).BroadcastsInDim (r4 n 8 1 2) ![0, 1, 3]) (f : Fin n) (co : Fin 8) (z : Fin 1) (r : Fin 2) :
    broadcastInDim (r4 n 8 1 2) ![0, 1, 3] h v (ix4 f co z r) = v (ix3 f co r) :=
  broadcastInDim_apply _ h v _ (ix3 f co r) fun a => match a with
    | ⟨0, _⟩ => kept_coord f
    | ⟨1, _⟩ => kept_coord co
    | ⟨2, _⟩ => kept_coord r

theorem bc0123 (v : (r4 n 8 1 2).Idx → α) (h : (r4 n 8 1 2).BroadcastsInDim (r4 n 8 8 2) ![0, 1, 2, 3]) (f : Fin n) (co ci : Fin 8) (r : Fin 2) :
    broadcastInDim (r4 n 8 8 2) ![0, 1, 2, 3] h v (ix4 f co ci r) = v (ix4 f co 0 r) :=
  broadcastInDim_apply _ h v _ (ix4 f co 0 r) fun a => match a with
    | ⟨0, _⟩ => kept_coord f
    | ⟨1, _⟩ => kept_coord co
    | ⟨2, _⟩ => rfl
    | ⟨3, _⟩ => kept_coord r

theorem bc0134 (v : (r4 128 n 8 2).Idx → α) (h : (r4 128 n 8 2).BroadcastsInDim (r5 128 n 1 8 2) ![0, 1, 3, 4]) (y : Fin 128) (f : Fin n) (z : Fin 1) (ci : Fin 8) (r : Fin 2) :
    broadcastInDim (r5 128 n 1 8 2) ![0, 1, 3, 4] h v (ix5 y f z ci r) = v (ix4 y f ci r) :=
  broadcastInDim_apply _ h v _ (ix4 y f ci r) fun a => match a with
    | ⟨0, _⟩ => kept_coord y
    | ⟨1, _⟩ => kept_coord f
    | ⟨2, _⟩ => kept_coord ci
    | ⟨3, _⟩ => kept_coord r

theorem bcx (v : (r5 128 n 1 8 2).Idx → α) (h : (r5 128 n 1 8 2).BroadcastsInDim (r5 128 n 8 8 2) ![0, 1, 2, 3, 4]) (y : Fin 128) (f : Fin n) (co ci : Fin 8) (r : Fin 2) :
    broadcastInDim (r5 128 n 8 8 2) ![0, 1, 2, 3, 4] h v (ix5 y f co ci r) = v (ix5 y f 0 ci r) :=
  broadcastInDim_apply _ h v _ (ix5 y f 0 ci r) fun a => match a with
    | ⟨0, _⟩ => kept_coord y
    | ⟨1, _⟩ => kept_coord f
    | ⟨2, _⟩ => rfl
    | ⟨3, _⟩ => kept_coord ci
    | ⟨4, _⟩ => kept_coord r

theorem bc1234 (v : (r4 n 8 8 2).Idx → α) (h : (r4 n 8 8 2).BroadcastsInDim (r5 1 n 8 8 2) ![1, 2, 3, 4]) (z : Fin 1) (f : Fin n) (co ci : Fin 8) (r : Fin 2) :
    broadcastInDim (r5 1 n 8 8 2) ![1, 2, 3, 4] h v (ix5 z f co ci r) = v (ix4 f co ci r) :=
  broadcastInDim_apply _ h v _ (ix4 f co ci r) fun a => match a with
    | ⟨0, _⟩ => kept_coord f
    | ⟨1, _⟩ => kept_coord co
    | ⟨2, _⟩ => kept_coord ci
    | ⟨3, _⟩ => kept_coord r

theorem bcw (v : (r5 1 n 8 8 2).Idx → α) (h : (r5 1 n 8 8 2).BroadcastsInDim (r5 128 n 8 8 2) ![0, 1, 2, 3, 4]) (y : Fin 128) (f : Fin n) (co ci : Fin 8) (r : Fin 2) :
    broadcastInDim (r5 128 n 8 8 2) ![0, 1, 2, 3, 4] h v (ix5 y f co ci r) = v (ix5 0 f co ci r) :=
  broadcastInDim_apply _ h v _ (ix5 0 f co ci r) fun a => match a with
    | ⟨0, _⟩ => rfl
    | ⟨1, _⟩ => kept_coord f
    | ⟨2, _⟩ => kept_coord co
    | ⟨3, _⟩ => kept_coord ci
    | ⟨4, _⟩ => kept_coord r

theorem bc0124 (v : (r4 128 n 8 2).Idx → α) (h : (r4 128 n 8 2).BroadcastsInDim (r5 128 n 8 1 2) ![0, 1, 2, 4]) (y : Fin 128) (f : Fin n) (co : Fin 8) (z : Fin 1) (r : Fin 2) :
    broadcastInDim (r5 128 n 8 1 2) ![0, 1, 2, 4] h v (ix5 y f co z r) = v (ix4 y f co r) :=
  broadcastInDim_apply _ h v _ (ix4 y f co r) fun a => match a with
    | ⟨0, _⟩ => kept_coord y
    | ⟨1, _⟩ => kept_coord f
    | ⟨2, _⟩ => kept_coord co
    | ⟨3, _⟩ => kept_coord r

theorem bcm (v : (r5 128 n 8 1 2).Idx → α) (h : (r5 128 n 8 1 2).BroadcastsInDim (r5 128 n 8 8 2) ![0, 1, 2, 3, 4]) (y : Fin 128) (f : Fin n) (co ci : Fin 8) (r : Fin 2) :
    broadcastInDim (r5 128 n 8 8 2) ![0, 1, 2, 3, 4] h v (ix5 y f co ci r) = v (ix5 y f co 0 r) :=
  broadcastInDim_apply _ h v _ (ix5 y f co 0 r) fun a => match a with
    | ⟨0, _⟩ => kept_coord y
    | ⟨1, _⟩ => kept_coord f
    | ⟨2, _⟩ => kept_coord co
    | ⟨3, _⟩ => rfl
    | ⟨4, _⟩ => kept_coord r

/-- The weights less their maximum over the in-channels. -/
def centred (w : FVec Ideal (r4 n 8 8 2) .f32) (hu : 0 < r0.numel) (hr : (r4 n 8 8 2).ReducesTo [2] (r3 n 8 2)) (h0 : r0.BroadcastsInDim (r3 n 8 2) ![])
    (h1 : (r3 n 8 2).BroadcastsInDim (r4 n 8 1 2) ![0, 1, 3]) (h2 : (r4 n 8 1 2).BroadcastsInDim (r4 n 8 8 2) ![0, 1, 2, 3]) : FVec Ideal (r4 n 8 8 2) .f32 :=
  subf w (broadcastInDim _ ![0, 1, 2, 3] h2 (broadcastInDim _ ![0, 1, 3] h1 (maximumf (broadcastInDim _ ![] h0 (constant r0 .f32 0xFF800000#32))
    (Host.reduce FloatOps.maximumf w (constant r0 .f32 0xFF800000#32) hr hu))))

/-- The logarithms of the normalised weights. -/
def normal (w : FVec Ideal (r4 n 8 8 2) .f32) (hu : 0 < r0.numel) (hr : (r4 n 8 8 2).ReducesTo [2] (r3 n 8 2)) (h0 : r0.BroadcastsInDim (r3 n 8 2) ![])
    (h1 : (r3 n 8 2).BroadcastsInDim (r4 n 8 1 2) ![0, 1, 3]) (h2 : (r4 n 8 1 2).BroadcastsInDim (r4 n 8 8 2) ![0, 1, 2, 3]) : FVec Ideal (r4 n 8 8 2) .f32 :=
  subf (centred n w hu hr h0 h1 h2) (broadcastInDim _ ![0, 1, 2, 3] h2 (Host.log (broadcastInDim _ ![0, 1, 3] h1
    (Host.reduceAdd (Host.exp (centred n w hu hr h0 h1 h2)) (constant r0 .f32 0x00000000#32) hr hu))))

variable (W : Fin n → Fin 8 → Fin 8 → Fin 2 → ℝ)

theorem drop4 (hr : (r4 n 8 8 2).ReducesTo [2] (r3 n 8 2)) (f : Fin n) (co ci : Fin 8) (r : Fin 2) : hr.drop (ix4 f co ci r) = ix3 f co r :=
  funext fun a => match a with | ⟨0, _⟩ => rfl | ⟨1, _⟩ => rfl | ⟨2, _⟩ => rfl

theorem drop5 (hr : (r5 128 n 8 8 2).ReducesTo [3] (r4 128 n 8 2)) (y : Fin 128) (f : Fin n) (co ci : Fin 8) (r : Fin 2) : hr.drop (ix5 y f co ci r) = ix4 y f co r :=
  funext fun a => match a with | ⟨0, _⟩ => rfl | ⟨1, _⟩ => rfl | ⟨2, _⟩ => rfl | ⟨3, _⟩ => rfl

theorem centred_at (w : FVec Ideal (r4 n 8 8 2) .f32) (hw : ∀ f co ci r, w (ix4 f co ci r) = (W f co ci r : EReal)) (hu hr h0 h1 h2) (f : Fin n) (co : Fin 8) (r : Fin 2) :
    ∃ m : ℝ, ∀ ci, centred n w hu hr h0 h1 h2 (ix4 f co ci r) = ((W f co ci r - m : ℝ) : EReal) := by
  obtain ⟨m, hm⟩ := reduce_max_real w (fun i => W (i 0) (i 1) (i 2) (i 3)) (fun i => by rw [eq_ix4 i]; exact hw _ _ _ _) hr hu (ix3 f co r) ⟨ix4 f co 0 r, drop4 n hr f co 0 r⟩
  refine ⟨m, fun ci => ?_⟩
  show w (ix4 f co ci r) - _ = _
  rw [bc0123, bc013, hw, EReal.coe_sub]
  congr 1
  show max _ _ = _
  rw [hm, show broadcastInDim (r3 n 8 2) ![] h0 (constant (F := Ideal) r0 .f32 0xFF800000#32) (ix3 f co r) = (⊥ : EReal) from minus_inf]
  exact max_eq_right bot_le

theorem normal_at (w : FVec Ideal (r4 n 8 8 2) .f32) (hw : ∀ f co ci r, w (ix4 f co ci r) = (W f co ci r : EReal)) (hu hr h0 h1 h2) (f : Fin n) (co : Fin 8) (r : Fin 2) :
    ∃ m : ℝ, ∀ ci, normal n w hu hr h0 h1 h2 (ix4 f co ci r) = ((W f co ci r - m - Real.log (∑ k, Real.exp (W f co k r - m)) : ℝ) : EReal) := by
  obtain ⟨m, hm⟩ := centred_at n W w hw hu hr h0 h1 h2 f co r
  refine ⟨m, fun ci => ?_⟩
  show centred n w hu hr h0 h1 h2 (ix4 f co ci r) - _ = _
  rw [bc0123, hm, EReal.coe_sub (W f co ci r - m)]
  congr 1
  show Ideal.log _ = _
  rw [bc013, hostReduceAdd_apply, Ideal.hostReduceAdd_r4_a2]
  rw [show (constant (F := Ideal) r0 .f32 0x00000000#32 : FVec Ideal r0 .f32) (Shape.Idx.first hu) = (0 : EReal) from Ideal.ofBits_zero_f32, zero_add]
  rw [← log_coe (sum_exp_pos _), ← coe_sum]
  congr 1
  refine Finset.sum_congr rfl fun k _ => ?_
  exact (congrArg Ideal.exp (hm k)).trans (exp_coe _)

/-- The channels plus the weights, before the sum. -/
def terms (h : FVec Ideal (r4 128 n 8 2) .f32) (v : FVec Ideal (r4 n 8 8 2) .f32) (h1 : (r4 128 n 8 2).BroadcastsInDim (r5 128 n 1 8 2) ![0, 1, 3, 4])
    (h2 : (r5 128 n 1 8 2).BroadcastsInDim (r5 128 n 8 8 2) ![0, 1, 2, 3, 4]) (h3 : (r4 n 8 8 2).BroadcastsInDim (r5 1 n 8 8 2) ![1, 2, 3, 4])
    (h4 : (r5 1 n 8 8 2).BroadcastsInDim (r5 128 n 8 8 2) ![0, 1, 2, 3, 4]) : FVec Ideal (r5 128 n 8 8 2) .f32 :=
  addf (broadcastInDim _ ![0, 1, 2, 3, 4] h2 (broadcastInDim _ ![0, 1, 3, 4] h1 h)) (broadcastInDim _ ![0, 1, 2, 3, 4] h4 (broadcastInDim _ ![1, 2, 3, 4] h3 v))

/-- The maximum over the in-channels. -/
def peak (a : FVec Ideal (r5 128 n 8 8 2) .f32) (hu : 0 < r0.numel) (hr : (r5 128 n 8 8 2).ReducesTo [3] (r4 128 n 8 2)) : FVec Ideal (r4 128 n 8 2) .f32 :=
  Host.reduce FloatOps.maximumf a (constant r0 .f32 0xFF800000#32) hr hu

/-- The terms less their maximum. -/
def lessened (a : FVec Ideal (r5 128 n 8 8 2) .f32) (b : FVec Ideal (r4 128 n 8 2) .f32)
    (h1 : (r4 128 n 8 2).BroadcastsInDim (r5 128 n 8 1 2) ![0, 1, 2, 4]) (h2 : (r5 128 n 8 1 2).BroadcastsInDim (r5 128 n 8 8 2) ![0, 1, 2, 3, 4]) : FVec Ideal (r5 128 n 8 8 2) .f32 :=
  subf a (broadcastInDim _ ![0, 1, 2, 3, 4] h2 (broadcastInDim _ ![0, 1, 2, 4] h1 b))

/-- The log of the sum of exponentials over the in-channels, of terms `a` less `b`, plus `b`. -/
def shifted (a : FVec Ideal (r5 128 n 8 8 2) .f32) (b : FVec Ideal (r4 128 n 8 2) .f32) (hu : 0 < r0.numel) (hr : (r5 128 n 8 8 2).ReducesTo [3] (r4 128 n 8 2)) : FVec Ideal (r4 128 n 8 2) .f32 :=
  addf (Host.log (Host.reduceAdd (Host.exp a) (constant r0 .f32 0x00000000#32) hr hu)) b

/-- The log of the sum of exponentials over the in-channels, the maximum taken out. -/
def summed (a : FVec Ideal (r5 128 n 8 8 2) .f32) (hu : 0 < r0.numel) (hr : (r5 128 n 8 8 2).ReducesTo [3] (r4 128 n 8 2))
    (h1 : (r4 128 n 8 2).BroadcastsInDim (r5 128 n 8 1 2) ![0, 1, 2, 4]) (h2 : (r5 128 n 8 1 2).BroadcastsInDim (r5 128 n 8 8 2) ![0, 1, 2, 3, 4]) : FVec Ideal (r4 128 n 8 2) .f32 :=
  shifted n (lessened n a (peak n a hu hr) h1 h2) (peak n a hu hr) hu hr

theorem lessened_at (a b h1 h2) (y : Fin 128) (f : Fin n) (co ci : Fin 8) (r : Fin 2) :
    lessened n a b h1 h2 (ix5 y f co ci r) = a (ix5 y f co ci r) - b (ix4 y f co r) := by
  unfold lessened
  rw [subf_apply, bcm, bc0124]

theorem shifted_at (a : FVec Ideal (r5 128 n 8 8 2) .f32) (b hu hr) (y : Fin 128) (f : Fin n) (co : Fin 8) (r : Fin 2) (A : Fin 8 → ℝ) (m : ℝ)
    (ha : ∀ k, a (ix5 y f co k r) = (A k : EReal)) (hb : b (ix4 y f co r) = (m : EReal)) :
    shifted n a b hu hr (ix4 y f co r) = ((Real.log (∑ k, Real.exp (A k)) + m : ℝ) : EReal) := by
  unfold shifted
  rw [addf_apply, hb, EReal.coe_add]
  refine congrArg (· + (m : EReal)) ?_
  show Ideal.log (Host.reduceAdd (Host.exp a) (constant r0 .f32 0x00000000#32) hr hu (ix4 y f co r)) = _
  rw [hostReduceAdd_apply, Ideal.hostReduceAdd_r5_a3]
  rw [show (constant (F := Ideal) r0 .f32 0x00000000#32 : FVec Ideal r0 .f32) (Shape.Idx.first hu) = (0 : EReal) from Ideal.ofBits_zero_f32, zero_add]
  rw [← log_coe (sum_exp_pos _), ← coe_sum]
  refine congrArg Ideal.log (Finset.sum_congr rfl fun k _ => ?_)
  exact (congrArg Ideal.exp (ha k)).trans (exp_coe _)

theorem summed_at (a : FVec Ideal (r5 128 n 8 8 2) .f32) (A : Fin 128 → Fin n → Fin 8 → Fin 8 → Fin 2 → ℝ) (ha : ∀ y f co ci r, a (ix5 y f co ci r) = (A y f co ci r : EReal)) (hu hr h1 h2)
    (y : Fin 128) (f : Fin n) (co : Fin 8) (r : Fin 2) :
    ∃ m : ℝ, summed n a hu hr h1 h2 (ix4 y f co r) = ((Real.log (∑ k, Real.exp (A y f co k r - m)) + m : ℝ) : EReal) := by
  obtain ⟨m, hm⟩ := reduce_max_real a (fun i => A (i 0) (i 1) (i 2) (i 3) (i 4)) (fun i => (congrArg a (eq_ix5 i)).trans (ha _ _ _ _ _)) hr hu (ix4 y f co r) ⟨ix5 y f co 0 r, drop5 n hr y f co 0 r⟩
  exact ⟨m, shifted_at n _ _ hu hr y f co r (fun k => A y f co k r - m) m (fun k => (lessened_at n a _ h1 h2 y f co k r).trans (by
    rw [EReal.coe_sub, ha]; exact congrArg ((A y f co k r : EReal) - ·) hm)) hm⟩

theorem terms_at (h v h1 h2 h3 h4) (y : Fin 128) (f : Fin n) (co ci : Fin 8) (r : Fin 2) :
    terms n h v h1 h2 h3 h4 (ix5 y f co ci r) = h (ix4 y f ci r) + v (ix4 f co ci r) := by
  unfold terms
  rw [addf_apply, bcx, bc0134, bcw, bc1234]

/-- A level: the neighbours' sums, mixed with normalised weights. -/
theorem level_at {N : ℕ} (hN : N = 2 * n) (H : Fin 128 → ℕ → Fin 8 → Fin 2 → ℝ) (h : FVec Ideal (r4 128 N 8 2) .f32) (hh : ∀ y f c r, h (ix4 y f c r) = (H y f.val c r : EReal))
    (w : FVec Ideal (r4 n 8 8 2) .f32) (hw : ∀ f co ci r, w (ix4 f co ci r) = (W f co ci r : EReal)) (hs0 : (r4 128 N 8 2).SlicesBy ![0, 0, 0, 0] ![1, 2, 1, 1] (r4 128 n 8 2))
    (hs1 : (r4 128 N 8 2).SlicesBy ![0, 1, 0, 0] ![1, 2, 1, 1] (r4 128 n 8 2)) (hu hr h0 h1 h2 k1 k2 k3 k4 hr' l1 l2) (y : Fin 128) (f : Fin n) (co : Fin 8) (r : Fin 2) :
    summed n (terms n (addf (Host.slice _ ![0, 0, 0, 0] ![1, 2, 1, 1] h hs0) (Host.slice _ ![0, 1, 0, 0] ![1, 2, 1, 1] h hs1)) (normal n w hu hr h0 h1 h2) k1 k2 k3 k4) hu hr' l1 l2 (ix4 y f co r)
      = (node (fun ci => W f co ci r) (fun ci => H y (2 * f.val) ci r + H y (2 * f.val + 1) ci r) : EReal) := by
  choose m hm using normal_at n W w hw hu hr h0 h1 h2
  obtain ⟨s, hs⟩ := summed_at n (terms n (addf (Host.slice _ ![0, 0, 0, 0] ![1, 2, 1, 1] h hs0) (Host.slice _ ![0, 1, 0, 0] ![1, 2, 1, 1] h hs1)) (normal n w hu hr h0 h1 h2) k1 k2 k3 k4)
    (fun y f co ci r => (H y (2 * f.val) ci r + H y (2 * f.val + 1) ci r) + (W f co ci r - m f co r - Real.log (∑ k, Real.exp (W f co k r - m f co r))))
    (fun y f co ci r => by
      rw [terms_at, hm, EReal.coe_add]
      refine congrArg (· + ((W f co ci r - m f co r - Real.log (∑ k, Real.exp (W f co k r - m f co r)) : ℝ) : EReal)) ?_
      show Host.slice _ ![0, 0, 0, 0] ![1, 2, 1, 1] h hs0 (ix4 y f ci r) + Host.slice _ ![0, 1, 0, 0] ![1, 2, 1, 1] h hs1 (ix4 y f ci r) = _
      rw [EReal.coe_add, ← hh y ⟨2 * f.val, by omega⟩ ci r, ← hh y ⟨2 * f.val + 1, by omega⟩ ci r]
      congr 1
      · exact congrArg h (funext fun a => match a with
          | ⟨0, _⟩ => Fin.ext (by show 0 + 1 * y.val = y.val; omega) | ⟨1, _⟩ => Fin.ext (by show 0 + 2 * f.val = 2 * f.val; omega)
          | ⟨2, _⟩ => Fin.ext (by show 0 + 1 * ci.val = ci.val; omega) | ⟨3, _⟩ => Fin.ext (by show 0 + 1 * r.val = r.val; omega))
      · exact congrArg h (funext fun a => match a with
          | ⟨0, _⟩ => Fin.ext (by show 0 + 1 * y.val = y.val; omega) | ⟨1, _⟩ => Fin.ext (by show 1 + 2 * f.val = 2 * f.val + 1; omega)
          | ⟨2, _⟩ => Fin.ext (by show 0 + 1 * ci.val = ci.val; omega) | ⟨3, _⟩ => Fin.ext (by show 0 + 1 * r.val = r.val; omega)))
    hu hr' l1 l2 y f co r
  rw [hs]
  exact congrArg _ (node_normal (fun ci => W f co ci r) (fun ci => H y (2 * f.val) ci r + H y (2 * f.val + 1) ci r) (m f co r) s)

end Level

end Einet
-- ==== Proof.Einet.Take.lean ====
/- A take along one axis by a table of indices, read at an element: where the index is in range, the table's row or column. -/
module

public import proofs.«01_k».proof.Proof.Einet.Ref
public import Idealize.ShloMosaic.Lib.WordCmp

@[expose] public section

noncomputable section

namespace Einet

open Idealize.ShloMosaic hiding ix1 ix2 ix3 ix4 ix5 eq_ix3 eq_ix4 eq_ix5
open Idealize.ShloMosaic.ValueIdx

/-- The shapes of a vector and a matrix. -/
abbrev s1 (a : ℕ) : Shape := ⟨1, ![a]⟩
abbrev s2 (a b : ℕ) : Shape := ⟨2, ![a, b]⟩

/-- The indices as a column, a negative one counted from the end. -/
def fixed (n : ℕ) (N : BitVec 32) (h : r0.BroadcastsInDim (s1 n) ![]) (h' : (s1 n).BroadcastsInDim (s2 n 1) ![0]) (idx : IVec (s1 n) 32) : IVec (s2 n 1) 32 :=
  broadcastInDim (s2 n 1) ![0] h' (select (cmpi .slt idx (broadcastInDim (s1 n) ![] h (constantI r0 32 0#32)))
    (addi idx (broadcastInDim (s1 n) ![] h (constantI r0 32 N))) idx)

/-- The entries of a column that lie between zero and `L`. -/
def inside (n : ℕ) (L : BitVec 32) (h : r0.BroadcastsInDim (s2 n 1) ![]) (h1 : (s1 1).BroadcastsInDim (s2 1 1) ![1]) (h2 : (s2 1 1).BroadcastsInDim (s2 n 1) ![0, 1])
    (hr : (s2 n 1).ReducesTo [1] (s1 n)) (hu : 0 < r0.numel) (col : IVec (s2 n 1) 32) : IVec (s1 n) 1 :=
  Host.reduce IntOp.andi (andi (cmpi .sge col (broadcastInDim (s2 n 1) ![] h (constantI r0 32 0#32)))
    (cmpi .sle col (broadcastInDim (s2 n 1) ![0, 1] h2 (broadcastInDim (s2 1 1) ![1] h1 (constantI (s1 1) 32 L))))) (constantI r0 1 1#1) hr hu

theorem fixed_at (n : ℕ) (N : BitVec 32) (h h') (idx : IVec (s1 n) 32) (p : Fin n) (hp : (idx (ix1 p)).toNat < 2 ^ 31) :
    fixed n N h h' idx (ix2 p 0) = idx (ix1 p) := by
  refine (broadcastInDim_apply _ h' _ (ix2 p (0 : Fin 1)) (ix1 p) fun a => match a with | ⟨0, _⟩ => kept_coord p).trans ?_
  show Scalar.select (IntOp.cmpi .slt (idx (ix1 p)) 0#32) _ (idx (ix1 p)) = _
  rw [WordCmp.cmpi_slt_zero, WordCmp.select_decide, if_neg (Nat.not_le.2 hp)]

theorem ones {ι : Type} [DecidableEq ι] (s : Finset ι) (f : ι → BitVec 1) (hf : ∀ i ∈ s, f i = 1#1) : s.fold IntOp.andi 1#1 f = 1#1 := by
  induction s using Finset.induction_on with
  | empty => rfl
  | insert a s ha ih =>
    rw [Finset.fold_insert ha, hf a (Finset.mem_insert_self _ _), ih fun i hi => hf i (Finset.mem_insert_of_mem hi)]
    rfl

theorem inside_at (n : ℕ) (L : BitVec 32) (h h1 h2 hr hu) (col : IVec (s2 n 1) 32) (p : Fin n) (hL : L.toNat < 2 ^ 31) (hp : (col (ix2 p 0)).toNat ≤ L.toNat) :
    inside n L h h1 h2 hr hu col (ix1 p) = 1#1 := by
  unfold inside
  rw [Host.reduce_eq_fold]
  refine ones _ _ fun i hi => ?_
  have e : i = ix2 p 0 := by
    have h0 := congrArg Fin.val (congrFun (Finset.mem_filter.mp hi).2 0)
    refine funext fun a => match a with
      | ⟨0, _⟩ => Fin.ext h0
      | ⟨1, _⟩ => Subsingleton.elim (α := Fin 1) _ _
  subst e
  show IntOp.andi (IntOp.cmpi .sge (col (ix2 p 0)) 0#32) (IntOp.cmpi .sle (col (ix2 p 0)) L) = 1#1
  rw [WordCmp.cmpi_sge_of_lt (lt_of_le_of_lt hp hL) (by decide), WordCmp.cmpi_sle_of_lt (lt_of_le_of_lt hp hL) hL, WordCmp.andi_ofBool]
  simp [hp]

/-- A take along the columns of a matrix. -/
abbrev colDims (R C n : ℕ) (wf : GatherDims.WF (s2 R C) (s2 n 1) (s2 R n) [0] [1] [] [1] [] 1 ![R, 1]) : GatherDims (s2 R C) (s2 n 1) (s2 R n) where
  offsetDims := [0]
  collapsedSliceDims := [1]
  operandBatchingDims := []
  startIndicesBatchingDims := []
  startIndexMap := [1]
  indexVectorDim := 1
  sliceSizes := ![R, 1]
  wf := wf

/-- A take along the rows of a matrix. -/
abbrev rowDims (R C n : ℕ) (wf : GatherDims.WF (s2 R C) (s2 n 1) (s2 n C) [1] [0] [] [0] [] 1 ![1, C]) : GatherDims (s2 R C) (s2 n 1) (s2 n C) where
  offsetDims := [1]
  collapsedSliceDims := [0]
  operandBatchingDims := []
  startIndicesBatchingDims := []
  startIndexMap := [0]
  indexVectorDim := 1
  sliceSizes := ![1, C]
  wf := wf

/-- An index word in range is read as it is. -/
theorem clamped (w : BitVec 32) (k L : ℕ) (hw : w.toNat = k) (hk : k ≤ L) (h31 : L < 2 ^ 31) : min w.toInt.toNat L = k := by
  rw [WordCmp.toInt_eq_toNat_of_lt_half (by omega), Int.toNat_natCast]
  omega

theorem col_take {α : Type} (R C n : ℕ) (wf) (x : (s2 R C).Idx → α) (idx : IVec (s2 n 1) 32) (a : Fin R) (p : Fin n) (k : Fin C) (hC : C < 2 ^ 31)
    (hk : (idx (ix2 p 0)).toNat = k.val) : Host.gather (colDims R C n wf) x idx (ix2 a p) = x (ix2 a k) := by
  unfold Host.gather
  congr 1
  refine funext fun b => match b with
    | ⟨0, _⟩ => Fin.ext ?_
    | ⟨1, _⟩ => Fin.ext ?_
  · show 0 + 0 + a.val = a.val
    omega
  · show min (idx _).toInt.toNat (C - 1) + 0 + 0 = k.val
    refine clamped _ _ _ (Eq.trans (congrArg (fun i => (idx i).toNat) ?_) hk) (by omega) (by omega)
    exact funext fun c => match c with | ⟨0, _⟩ => rfl | ⟨1, _⟩ => rfl

theorem row_take {α : Type} (R C n : ℕ) (wf) (x : (s2 R C).Idx → α) (idx : IVec (s2 n 1) 32) (a : Fin C) (p : Fin n) (k : Fin R) (hC : R < 2 ^ 31)
    (hk : (idx (ix2 p 0)).toNat = k.val) : Host.gather (rowDims R C n wf) x idx (ix2 p a) = x (ix2 k a) := by
  unfold Host.gather
  congr 1
  refine funext fun b => match b with
    | ⟨0, _⟩ => Fin.ext ?_
    | ⟨1, _⟩ => Fin.ext ?_
  · show min (idx _).toInt.toNat (R - 1) + 0 + 0 = k.val
    refine clamped _ _ _ (Eq.trans (congrArg (fun i => (idx i).toNat) ?_) hk) (by omega) (by omega)
    exact funext fun c => match c with | ⟨0, _⟩ => rfl | ⟨1, _⟩ => rfl
  · show 0 + 0 + a.val = a.val
    omega

end Einet
-- ==== Proof.Einet.Host.lean ====
/- What the host hands to the kernel: the gathered data, the gathered leaf parameters and the gathered weights. -/
module

public import proofs.«01_k».proof.Proof.Einet.Run
public import proofs.«01_k».proof.Proof.Einet.Lit
public import proofs.«01_k».proof.Proof.Einet.Take
public import Idealize.ShloMosaic.Lib.StableHlo.ReadAt

@[expose] public section

noncomputable section

namespace Cert.KernelIdeal.Own

open Idealize.ShloMosaic Idealize.ShloMosaic.TcCoe Cert.KernelIdeal Cert.KernelIdeal.Gen
open Idealize.ShloMosaic.ValueIdx (ix1 ix2 ix3 ix4)

variable (m : (ℓ : Loc nD τ sig) → Buf (Elt Ideal) ℓ) (c : Dev nD)

/-- The features' column of indices, and the entries of it that are in range. -/
abbrev col0 : IVec S3072x1 32 := Einet.fixed 3072 3072#32 bcast_S_S3072 bcast_S3072_S3072x1_0 (fun i => lit0 (S3072.rowMajor i))
abbrev ok0 : IVec S3072 1 := Einet.inside 3072 3071#32 bcast_S_S3072x1 bcast_S1_S1x1_1 bcast_S1x1_S3072x1_0_1 reducesTo_S3072x1_S3072_d1 h_S_ col0
/-- The weights' column of indices, and the entries of it that are in range. -/
abbrev col1 : IVec S4092x1 32 := Einet.fixed 4092 4092#32 bcast_S_S4092 bcast_S4092_S4092x1_0 (fun i => lit1 (S4092.rowMajor i))
abbrev ok1 : IVec S4092 1 := Einet.inside 4092 4091#32 bcast_S_S4092x1 bcast_S1_S1x1_1 bcast_S1x1_S4092x1_0_1 reducesTo_S4092x1_S4092_d1 h_S_ col1

/-- The gathered data. -/
def datag : FVec Ideal S128x3072 .f32 := select (broadcastInDim S128x3072 ![1] bcast_S3072_S128x3072_1 ok0)
  (Host.gather gather_S128x3072_S3072x1_S128x3072_0_1_n_n_1_1_1281 (m (c, main_arg0)) col0)
  (broadcastInDim S128x3072 ![] bcast_S_S128x3072 (constant (F := Ideal) S_ .f32 0x7FC00000#32))

/-- The locations over the logarithms of the variances. -/
def mlcat : FVec Ideal S32x3072 .f32 := concatenate S32x3072 0
  [⟨S16x3072, transpose S16x3072 [1, 0] (shapeCast S3072x16 (m (c, main_arg1) : (⟨S3072x8x2, .f32⟩ : BufTy).Contents (Elt Ideal)) shapeCasts_S3072x8x2_S3072x16) transposes_S3072x16_S16x3072_1_0⟩,
   ⟨S16x3072, transpose S16x3072 [1, 0] (shapeCast S3072x16 (m (c, main_arg2) : (⟨S3072x8x2, .f32⟩ : BufTy).Contents (Elt Ideal)) shapeCasts_S3072x8x2_S3072x16) transposes_S3072x16_S16x3072_1_0⟩]
  concatenates_S16x3072_S16x3072_S32x3072_d0

/-- The gathered leaf parameters. -/
def mlg : FVec Ideal S32x3072 .f32 := select (broadcastInDim S32x3072 ![1] bcast_S3072_S32x3072_1 ok0)
  (Host.gather gather_S32x3072_S3072x1_S32x3072_0_1_n_n_1_1_321 (mlcat m c) col0)
  (broadcastInDim S32x3072 ![] bcast_S_S32x3072 (constant (F := Ideal) S_ .f32 0x7FC00000#32))

/-- The weights of the first ten levels, each a matrix with one node to a row. -/
def pieces : List ((s : Shape) × (s.Idx → Elt Ideal .f32)) := [⟨S2048x128, shapeCast S2048x128 (m (c, main_arg3) : (⟨S2048x8x8x2, .f32⟩ : BufTy).Contents (Elt Ideal)) shapeCasts_S2048x8x8x2_S2048x128⟩, ⟨S1024x128, shapeCast S1024x128 (m (c, main_arg4) : (⟨S1024x8x8x2, .f32⟩ : BufTy).Contents (Elt Ideal)) shapeCasts_S1024x8x8x2_S1024x128⟩, ⟨S512x128, shapeCast S512x128 (m (c, main_arg5) : (⟨S512x8x8x2, .f32⟩ : BufTy).Contents (Elt Ideal)) shapeCasts_S512x8x8x2_S512x128⟩, ⟨S256x128, shapeCast S256x128 (m (c, main_arg6) : (⟨S256x8x8x2, .f32⟩ : BufTy).Contents (Elt Ideal)) shapeCasts_S256x8x8x2_S256x128⟩, ⟨S128x128, shapeCast S128x128 (m (c, main_arg7) : (⟨S128x8x8x2, .f32⟩ : BufTy).Contents (Elt Ideal)) shapeCasts_S128x8x8x2_S128x128⟩, ⟨S64x128, shapeCast S64x128 (m (c, main_arg8) : (⟨S64x8x8x2, .f32⟩ : BufTy).Contents (Elt Ideal)) shapeCasts_S64x8x8x2_S64x128⟩, ⟨S32x128, shapeCast S32x128 (m (c, main_arg9) : (⟨S32x8x8x2, .f32⟩ : BufTy).Contents (Elt Ideal)) shapeCasts_S32x8x8x2_S32x128⟩, ⟨S16x128, shapeCast S16x128 (m (c, main_arg10) : (⟨S16x8x8x2, .f32⟩ : BufTy).Contents (Elt Ideal)) shapeCasts_S16x8x8x2_S16x128⟩, ⟨S8x128, shapeCast S8x128 (m (c, main_arg11) : (⟨S8x8x8x2, .f32⟩ : BufTy).Contents (Elt Ideal)) shapeCasts_S8x8x8x2_S8x128⟩, ⟨S4x128, shapeCast S4x128 (m (c, main_arg12) : (⟨S4x8x8x2, .f32⟩ : BufTy).Contents (Elt Ideal)) shapeCasts_S4x8x8x2_S4x128⟩]

/-- Those weights one below the other. -/
def wcat : FVec Ideal S4092x128 .f32 := concatenate S4092x128 0 (pieces m c)
  concatenates_S2048x128_S1024x128_S512x128_S256x128_S128x128_S64x128_S32x128_S16x128_S8x128_S4x128_S4092x128_d0

/-- The gathered weights. -/
def wgath : FVec Ideal S4092x128 .f32 := select (broadcastInDim S4092x128 ![0] bcast_S4092_S4092x128_0 ok1)
  (Host.gather gather_S4092x128_S4092x1_S4092x128_1_0_n_n_0_1_1128 (wcat m c) col1)
  (broadcastInDim S4092x128 ![] bcast_S_S4092x128 (constant (F := Ideal) S_ .f32 0x7FC00000#32))

theorem data_eq : V m c main_v0 = datag m c := by
  unfold V datag
  after_reads_simp
  all_goals try simp -implicitDefEqProofs only [StableHlo.TRef.toBuf, StableHlo.TRef.ofBuf, cast_cast, cast_eq]
  all_goals rfl

theorem mu_eq : V m c main_v7 = extractStridedSlice S16x3072 ![0, 0] (mlg m c) slices_S32x3072_S16x3072_0_0 := by
  unfold V mlg mlcat
  after_reads_simp
  all_goals try simp -implicitDefEqProofs only [StableHlo.TRef.toBuf, StableHlo.TRef.ofBuf, cast_cast, cast_eq]
  all_goals rfl

theorem lv_eq : V m c main_v8 = extractStridedSlice S16x3072 ![16, 0] (mlg m c) slices_S32x3072_S16x3072_16_0 := by
  unfold V mlg mlcat
  after_reads_simp
  all_goals try simp -implicitDefEqProofs only [StableHlo.TRef.toBuf, StableHlo.TRef.ofBuf, cast_cast, cast_eq]
  all_goals rfl

theorem after_two {sg : RefSig} {Val : EltTy → Type} (A B : List (HloOp τ sg Val)) (W : Valuation τ sg Val) :
    StableHlo.after (A ++ B) W = StableHlo.after B (StableHlo.after A W) := by
  induction A generalizing W with
  | nil => rfl
  | cons op A ih => exact ih _

section Stages

variable (W : Valuation τ sig (Elt Ideal))

/-- What the first four stretches of the host leave. -/
def early : Valuation τ sig (Elt Ideal) := StableHlo.after (List.flatten [hostOps0, hostOps0_1, hostOps0_2, hostOps0_3]) (fun b => m (c, b))

theorem V_split (b : Ref sig .tc) : V m c b = StableHlo.after (hostOps0_6 (F := Ideal)) (StableHlo.after (hostOps0_5 (F := Ideal)) (StableHlo.after (hostOps0_4 (F := Ideal)) (early m c))) b := by
  unfold V early
  rw [← after_two, ← after_two, ← after_two]
  simp only [List.flatten_cons, List.flatten_nil, List.append_assoc, List.append_nil]

theorem cat_stage : StableHlo.after (hostOps0_4 (F := Ideal)) W main_v19 = concatenate S4092x128 0 [⟨S2048x128, shapeCast S2048x128 (W main_arg3 : (⟨S2048x8x8x2, .f32⟩ : BufTy).Contents (Elt Ideal)) shapeCasts_S2048x8x8x2_S2048x128⟩, ⟨S1024x128, shapeCast S1024x128 (W main_arg4 : (⟨S1024x8x8x2, .f32⟩ : BufTy).Contents (Elt Ideal)) shapeCasts_S1024x8x8x2_S1024x128⟩, ⟨S512x128, shapeCast S512x128 (W main_arg5 : (⟨S512x8x8x2, .f32⟩ : BufTy).Contents (Elt Ideal)) shapeCasts_S512x8x8x2_S512x128⟩, ⟨S256x128, shapeCast S256x128 (W main_arg6 : (⟨S256x8x8x2, .f32⟩ : BufTy).Contents (Elt Ideal)) shapeCasts_S256x8x8x2_S256x128⟩, ⟨S128x128, shapeCast S128x128 (W main_arg7 : (⟨S128x8x8x2, .f32⟩ : BufTy).Contents (Elt Ideal)) shapeCasts_S128x8x8x2_S128x128⟩, ⟨S64x128, shapeCast S64x128 (W main_arg8 : (⟨S64x8x8x2, .f32⟩ : BufTy).Contents (Elt Ideal)) shapeCasts_S64x8x8x2_S64x128⟩, ⟨S32x128, shapeCast S32x128 (W main_arg9 : (⟨S32x8x8x2, .f32⟩ : BufTy).Contents (Elt Ideal)) shapeCasts_S32x8x8x2_S32x128⟩, ⟨S16x128, shapeCast S16x128 (W main_arg10 : (⟨S16x8x8x2, .f32⟩ : BufTy).Contents (Elt Ideal)) shapeCasts_S16x8x8x2_S16x128⟩, ⟨S8x128, shapeCast S8x128 (W main_arg11 : (⟨S8x8x8x2, .f32⟩ : BufTy).Contents (Elt Ideal)) shapeCasts_S8x8x8x2_S8x128⟩, ⟨S4x128, shapeCast S4x128 (W main_arg12 : (⟨S4x8x8x2, .f32⟩ : BufTy).Contents (Elt Ideal)) shapeCasts_S4x8x8x2_S4x128⟩] concatenates_S2048x128_S1024x128_S512x128_S256x128_S128x128_S64x128_S32x128_S16x128_S8x128_S4x128_S4092x128_d0 := by
  after_reads_simp
  all_goals try simp -implicitDefEqProofs only [StableHlo.TRef.toBuf, StableHlo.TRef.ofBuf, cast_cast, cast_eq]
  all_goals rfl

theorem cat_table : StableHlo.after (hostOps0_4 (F := Ideal)) W main_c_0 = W main_c_0 := by
  after_reads_simp
  all_goals try simp -implicitDefEqProofs only [StableHlo.TRef.toBuf, StableHlo.TRef.ofBuf, cast_cast, cast_eq]
  all_goals rfl

theorem gather_stage : StableHlo.after (hostOps0_5 (F := Ideal)) W main_v20 = select
    (broadcastInDim S4092x128 ![0] bcast_S4092_S4092x128_0 (Einet.inside 4092 4091#32 bcast_S_S4092x1 bcast_S1_S1x1_1 bcast_S1x1_S4092x1_0_1 reducesTo_S4092x1_S4092_d1 h_S_
      (Einet.fixed 4092 4092#32 bcast_S_S4092 bcast_S4092_S4092x1_0 (W main_c_0))))
    (Host.gather gather_S4092x128_S4092x1_S4092x128_1_0_n_n_0_1_1128 (W main_v19) (Einet.fixed 4092 4092#32 bcast_S_S4092 bcast_S4092_S4092x1_0 (W main_c_0)))
    (broadcastInDim S4092x128 ![] bcast_S_S4092x128 (constant (F := Ideal) S_ .f32 0x7FC00000#32)) := by
  after_reads_simp
  all_goals try simp -implicitDefEqProofs only [StableHlo.TRef.toBuf, StableHlo.TRef.ofBuf, cast_cast, cast_eq]
  all_goals rfl

theorem last_v20 : StableHlo.after (hostOps0_6 (F := Ideal)) W main_v20 = W main_v20 := by
  after_reads_simp
  all_goals try simp -implicitDefEqProofs only [StableHlo.TRef.toBuf, StableHlo.TRef.ofBuf, cast_cast, cast_eq]
  all_goals rfl

theorem last_v22 : StableHlo.after (hostOps0_6 (F := Ideal)) W main_v22 = transpose S128x2048 [1, 0] (extractStridedSlice S2048x128 ![0, 0] (W main_v20) slices_S4092x128_S2048x128_0_0) transposes_S2048x128_S128x2048_1_0 := by
  after_reads_simp
  all_goals try simp -implicitDefEqProofs only [StableHlo.TRef.toBuf, StableHlo.TRef.ofBuf, cast_cast, cast_eq]
  all_goals rfl

theorem last_v24 : StableHlo.after (hostOps0_6 (F := Ideal)) W main_v24 = transpose S128x1024 [1, 0] (extractStridedSlice S1024x128 ![2048, 0] (W main_v20) slices_S4092x128_S1024x128_2048_0) transposes_S1024x128_S128x1024_1_0 := by
  after_reads_simp
  all_goals try simp -implicitDefEqProofs only [StableHlo.TRef.toBuf, StableHlo.TRef.ofBuf, cast_cast, cast_eq]
  all_goals rfl

theorem last_v26 : StableHlo.after (hostOps0_6 (F := Ideal)) W main_v26 = transpose S128x512 [1, 0] (extractStridedSlice S512x128 ![3072, 0] (W main_v20) slices_S4092x128_S512x128_3072_0) transposes_S512x128_S128x512_1_0 := by
  after_reads_simp
  all_goals try simp -implicitDefEqProofs only [StableHlo.TRef.toBuf, StableHlo.TRef.ofBuf, cast_cast, cast_eq]
  all_goals rfl

end Stages

theorem early_0 : early m c main_arg3 = m (c, main_arg3) := by
  unfold early
  after_reads_simp
  all_goals try simp -implicitDefEqProofs only [StableHlo.TRef.toBuf, StableHlo.TRef.ofBuf, cast_cast, cast_eq]
  all_goals rfl

theorem early_1 : early m c main_arg4 = m (c, main_arg4) := by
  unfold early
  after_reads_simp
  all_goals try simp -implicitDefEqProofs only [StableHlo.TRef.toBuf, StableHlo.TRef.ofBuf, cast_cast, cast_eq]
  all_goals rfl

theorem early_2 : early m c main_arg5 = m (c, main_arg5) := by
  unfold early
  after_reads_simp
  all_goals try simp -implicitDefEqProofs only [StableHlo.TRef.toBuf, StableHlo.TRef.ofBuf, cast_cast, cast_eq]
  all_goals rfl

theorem early_3 : early m c main_arg6 = m (c, main_arg6) := by
  unfold early
  after_reads_simp
  all_goals try simp -implicitDefEqProofs only [StableHlo.TRef.toBuf, StableHlo.TRef.ofBuf, cast_cast, cast_eq]
  all_goals rfl

theorem early_4 : early m c main_arg7 = m (c, main_arg7) := by
  unfold early
  after_reads_simp
  all_goals try simp -implicitDefEqProofs only [StableHlo.TRef.toBuf, StableHlo.TRef.ofBuf, cast_cast, cast_eq]
  all_goals rfl

theorem early_5 : early m c main_arg8 = m (c, main_arg8) := by
  unfold early
  after_reads_simp
  all_goals try simp -implicitDefEqProofs only [StableHlo.TRef.toBuf, StableHlo.TRef.ofBuf, cast_cast, cast_eq]
  all_goals rfl

theorem early_6 : early m c main_arg9 = m (c, main_arg9) := by
  unfold early
  after_reads_simp
  all_goals try simp -implicitDefEqProofs only [StableHlo.TRef.toBuf, StableHlo.TRef.ofBuf, cast_cast, cast_eq]
  all_goals rfl

theorem early_7 : early m c main_arg10 = m (c, main_arg10) := by
  unfold early
  after_reads_simp
  all_goals try simp -implicitDefEqProofs only [StableHlo.TRef.toBuf, StableHlo.TRef.ofBuf, cast_cast, cast_eq]
  all_goals rfl

theorem early_8 : early m c main_arg11 = m (c, main_arg11) := by
  unfold early
  after_reads_simp
  all_goals try simp -implicitDefEqProofs only [StableHlo.TRef.toBuf, StableHlo.TRef.ofBuf, cast_cast, cast_eq]
  all_goals rfl

theorem early_9 : early m c main_arg12 = m (c, main_arg12) := by
  unfold early
  after_reads_simp
  all_goals try simp -implicitDefEqProofs only [StableHlo.TRef.toBuf, StableHlo.TRef.ofBuf, cast_cast, cast_eq]
  all_goals rfl

theorem early_table : early m c main_c_0 = fun i => lit1 (S4092.rowMajor i) := by
  unfold early
  after_reads_simp
  all_goals try simp -implicitDefEqProofs only [StableHlo.TRef.toBuf, StableHlo.TRef.ofBuf, cast_cast, cast_eq]
  all_goals rfl

theorem wg_before : StableHlo.after (hostOps0_5 (F := Ideal)) (StableHlo.after (hostOps0_4 (F := Ideal)) (early m c)) main_v20 = wgath m c := by
  rw [gather_stage, cat_stage, cat_table, early_table, early_0, early_1, early_2, early_3, early_4, early_5, early_6, early_7, early_8, early_9]
  rfl

theorem wg_eq : V m c main_v20 = wgath m c := by
  rw [V_split, last_v20, wg_before]

theorem w0_eq : V m c main_v22 = transpose S128x2048 [1, 0] (extractStridedSlice S2048x128 ![0, 0] (wgath m c) slices_S4092x128_S2048x128_0_0) transposes_S2048x128_S128x2048_1_0 := by
  rw [V_split, last_v22, wg_before]

theorem w1_eq : V m c main_v24 = transpose S128x1024 [1, 0] (extractStridedSlice S1024x128 ![2048, 0] (wgath m c) slices_S4092x128_S1024x128_2048_0) transposes_S1024x128_S128x1024_1_0 := by
  rw [V_split, last_v24, wg_before]

theorem w2_eq : V m c main_v26 = transpose S128x512 [1, 0] (extractStridedSlice S512x128 ![3072, 0] (wgath m c) slices_S4092x128_S512x128_3072_0) transposes_S512x128_S128x512_1_0 := by
  rw [V_split, last_v26, wg_before]

theorem w10_eq : V m c main_v27 = shapeCast S2x128 (m (c, main_arg13) : (⟨S2x8x8x2, .f32⟩ : BufTy).Contents (Elt Ideal)) shapeCasts_S2x8x8x2_S2x128 := by
  unfold V
  after_reads_simp
  all_goals try simp -implicitDefEqProofs only [StableHlo.TRef.toBuf, StableHlo.TRef.ofBuf, cast_cast, cast_eq]
  all_goals rfl

theorem w11_eq : V m c main_v28 = shapeCast S1x128 (m (c, main_arg14) : (⟨S1x8x8x2, .f32⟩ : BufTy).Contents (Elt Ideal)) shapeCasts_S1x8x8x2_S1x128 := by
  unfold V
  after_reads_simp
  all_goals try simp -implicitDefEqProofs only [StableHlo.TRef.toBuf, StableHlo.TRef.ofBuf, cast_cast, cast_eq]
  all_goals rfl

theorem wr_eq : V m c main_v29 = shapeCast S1x16 (m (c, main_arg15) : (⟨S16, .f32⟩ : BufTy).Contents (Elt Ideal)) shapeCasts_S16_S1x16 := by
  unfold V
  after_reads_simp
  all_goals try simp -implicitDefEqProofs only [StableHlo.TRef.toBuf, StableHlo.TRef.ofBuf, cast_cast, cast_eq]
  all_goals rfl

end Cert.KernelIdeal.Own
-- ==== Proof.Einet.Sem.lean ====
/- The body's value over the extended reals: on real inputs laid out in bit-reversed order it is the mixture tree. -/
module

public import proofs.«01_k».proof.Proof.Einet.Ideal

@[expose] public section

noncomputable section

namespace Einet

open Idealize.ShloMosaic hiding ix1 ix2 ix3 eq_ix3
open Idealize.ShloMosaic.ValueIdx

/-- The real numbers behind the arguments: data by row and feature, means and log variances, weights by level and feature, the root's weights. -/
structure Reals where
  x : ℕ → ℕ → ℝ
  mu : ℕ → Fin 8 → Fin 2 → ℝ
  lv : ℕ → Fin 8 → Fin 2 → ℝ
  w : ℕ → ℕ → Fin 8 → Fin 8 → Fin 2 → ℝ
  wr : Fin 16 → ℝ

/-- The leaves of row `y`: zero from feature 3072 on. -/
def Reals.leaf (R : Reals) (y g : ℕ) (c : Fin 8) (r : Fin 2) : ℝ := if g < 3072 then gauss (R.lv g c r) (R.mu g c r) (R.x y g) else 0

/-- Plane `p` of feature `f` after `l` levels, for row `y`. -/
def Reals.at (R : Reals) (y l f : ℕ) (p : Fin 16) : ℝ := tree (R.leaf y) R.w l f ⟨p.val / 2, half_lt p⟩ ⟨p.val % 2, par_lt p⟩

/-- The whole tree's value for row `y`. -/
def Reals.value (R : Reals) (y : ℕ) : ℝ := node R.wr (R.at y 12 0)

variable (R : Reals)

theorem at_two (y l f : ℕ) (ci : Fin 8) (r : Fin 2) : R.at y l f ⟨2 * ci.val + r.val, two_mul_lt ci.isLt r.isLt⟩ = tree (R.leaf y) R.w l f ci r := by
  unfold Reals.at
  rw [show (⟨(2 * ci.val + r.val) / 2, _⟩ : Fin 8) = ci from Fin.ext (by show (2 * ci.val + r.val) / 2 = ci.val; omega),
    show (⟨(2 * ci.val + r.val) % 2, _⟩ : Fin 2) = r from Fin.ext (by show (2 * ci.val + r.val) % 2 = r.val; omega)]

/-- A level over two blocks in bit-reversed order. -/
theorem at_succ (y l k b z : ℕ) (h : z < 2 ^ k) (p : Fin 16) :
    R.at y (l + 1) (b * 2 ^ k + rev k z) p = node (fun ci => R.w l (b * 2 ^ k + rev k z) ⟨p.val / 2, half_lt p⟩ ci ⟨p.val % 2, par_lt p⟩) fun ci =>
      tree (R.leaf y) R.w l (b * 2 ^ (k + 1) + rev (k + 1) z) ci ⟨p.val % 2, par_lt p⟩ + tree (R.leaf y) R.w l (b * 2 ^ (k + 1) + rev (k + 1) (2 ^ k + z)) ci ⟨p.val % 2, par_lt p⟩ := by
  rw [rev_low k z h, rev_high k z h, show b * 2 ^ (k + 1) + 2 * rev k z = 2 * (b * 2 ^ k + rev k z) by rw [Nat.pow_succ]; ring,
    show b * 2 ^ (k + 1) + (2 * rev k z + 1) = 2 * (b * 2 ^ k + rev k z) + 1 by rw [Nat.pow_succ]; ring]
  rfl

/-- From the zero leaves on, the tree is zero. -/
theorem tree_zero (y l f : ℕ) (h : 3072 ≤ f * 2 ^ l) (c : Fin 8) (r : Fin 2) : tree (R.leaf y) R.w l f c r = 0 := by
  induction l generalizing f c with
  | zero => exact if_neg (by simpa using h)
  | succ l ih =>
    show node _ _ = 0
    rw [show (fun ci => tree (R.leaf y) R.w l (2 * f) ci r + tree (R.leaf y) R.w l (2 * f + 1) ci r) = fun _ => 0 from funext fun ci => by
      rw [ih (2 * f) (by rw [Nat.pow_succ] at h; rw [Nat.mul_comm 2 f, Nat.mul_assoc, Nat.mul_comm 2]; exact h),
        ih (2 * f + 1) (by rw [Nat.pow_succ] at h; rw [Nat.add_mul, Nat.mul_comm 2 f, Nat.mul_assoc, Nat.mul_comm 2]; exact Nat.le_add_right_of_le h), add_zero]]
    exact node_zero _

/-- The blocks of grid point `i`: leaves and weights in bit-reversed order. -/
structure Good (i : Fin 3) (I : Ins Ideal) : Prop where
  x : ∀ (y : Fin 128) (p : ℕ) (h : p < 1024), I.x (ix2 y ⟨p, h⟩) = (R.x y.val (i.val * 1024 + rev 10 p) : EReal)
  mu : ∀ (c : Fin 8) (r : Fin 2) (p : ℕ) (h : p < 1024), I.mu (ix2 ⟨2 * c.val + r.val, two_mul_lt c.isLt r.isLt⟩ ⟨p, h⟩) = (R.mu (i.val * 1024 + rev 10 p) c r : EReal)
  lv : ∀ (c : Fin 8) (r : Fin 2) (p : ℕ) (h : p < 1024), I.lv (ix2 ⟨2 * c.val + r.val, two_mul_lt c.isLt r.isLt⟩ ⟨p, h⟩) = (R.lv (i.val * 1024 + rev 10 p) c r : EReal)
  w0 : ∀ (co ci : Fin 8) (r : Fin 2) (p : ℕ) (h : p < 512), I.w0 (ix2 ⟨co.val * 16 + ci.val * 2 + r.val, by omega⟩ ⟨p, h⟩) = (R.w 0 (i.val * 512 + rev 9 p) co ci r : EReal)
  w1 : ∀ (co ci : Fin 8) (r : Fin 2) (p : ℕ) (h : p < 256), I.w1 (ix2 ⟨co.val * 16 + ci.val * 2 + r.val, by omega⟩ ⟨p, h⟩) = (R.w 1 (i.val * 256 + rev 8 p) co ci r : EReal)
  w2 : ∀ (co ci : Fin 8) (r : Fin 2) (p : ℕ) (h : p < 128), I.w2 (ix2 ⟨co.val * 16 + ci.val * 2 + r.val, by omega⟩ ⟨p, h⟩) = (R.w 2 (i.val * 128 + rev 7 p) co ci r : EReal)
  wg : ∀ (l k : ℕ) (_ : l + k = 9) (_ : 3 ≤ l) (co ci : Fin 8) (r : Fin 2) (p : ℕ) (_ : p < 2 ^ k) (g : Fin 4092) (_ : g.val = 4096 - 8 * 2 ^ k + i.val * 2 ^ k + p),
    I.wg (ix2 g ⟨co.val * 16 + r.val + 2 * ci.val, lane_lt co.isLt ci.isLt r.isLt⟩) = (R.w l (i.val * 2 ^ k + rev k p) co ci r : EReal)
  w10 : ∀ (f : Fin 2) (co ci : Fin 8) (r : Fin 2), I.w10 (ix2 f ⟨co.val * 16 + r.val + 2 * ci.val, lane_lt co.isLt ci.isLt r.isLt⟩) = (R.w 10 f.val co ci r : EReal)
  w11 : ∀ (co ci : Fin 8) (r : Fin 2), I.w11 (ix2 0 ⟨co.val * 16 + r.val + 2 * ci.val, lane_lt co.isLt ci.isLt r.isLt⟩) = (R.w 11 0 co ci r : EReal)
  wr : ∀ k : Fin 16, I.wr (ix2 0 k) = (R.wr k : EReal)

/-- The constant of the leaves. -/
abbrev hl : Ideal .f32 := ((2⁻¹ * Real.log (13176795 / 2097152) : ℝ) : EReal)

theorem wS_at {C : ℕ} (W : FVec Ideal (sh2 128 C) .f32) (base : ℕ) (hb : base + 128 ≤ C) (co ci : Fin 8) (r : Fin 2) (z : Fin 128) (v : ℝ)
    (h : W (ix2 ⟨co.val * 16 + ci.val * 2 + r.val, by omega⟩ ⟨base + z.val, by omega⟩) = (v : EReal)) : wS W base hb co ci r (ix2 0 z) = (Real.exp v : EReal) := by
  show Ideal.exp (shapeCast (sh2 1 128) _ (casts_self _) (ix2 0 z)) = _
  rw [shapeCast_self]
  exact congrArg Ideal.exp h

theorem mixB_real (s : Fin 2 → Fin 8 → FVec Ideal (sh2 128 128) .f32) (w : Fin 8 → Fin 8 → Fin 2 → FVec Ideal (sh2 1 128) .bf16) (p : Fin 16) (y z : Fin 128)
    (a : Fin 2 → Fin 8 → ℝ) (v : Fin 8 → Fin 8 → Fin 2 → ℝ) (hs : ∀ r k, s r k (ix2 y z) = (a r k : EReal)) (hw : ∀ co ci r, w co ci r (ix2 0 z) = (Real.exp (v co ci r) : EReal)) :
    mixB s w p (ix2 y z) = (node (fun ci => v ⟨p.val / 2, half_lt p⟩ ci ⟨p.val % 2, par_lt p⟩) (a ⟨p.val % 2, par_lt p⟩) : EReal) :=
  planeB_at _ _ y z _ _ (hs _) fun ci => hw _ ci _

/-- What a stack holds at level `l`: the planes of features `b * 2 ^ k + rev k z`, `z` the column. -/
def Cols {n : ℕ} (l b k : ℕ) (X : FVec Ideal (sh3 16 128 n) .f32) : Prop :=
  ∀ (p : Fin 16) (y : Fin 128) (z : ℕ) (h : z < n), z < 2 ^ k → X (ix3 p y ⟨z, h⟩) = (R.at y.val l (b * 2 ^ k + rev k z) p : EReal)

theorem leafS_at (i : Fin 3) (I : Ins Ideal) (G : Good R i I) (j : Fin 4) (r : Fin 2) (ci : Fin 8) (y z : Fin 128) :
    leafS hl I j r ci (ix2 y z) = ((tree (R.leaf y.val) R.w 0 (i.val * 1024 + rev 10 (j.val * 128 + z.val)) ci r
      + tree (R.leaf y.val) R.w 0 (i.val * 1024 + rev 10 (512 + (j.val * 128 + z.val))) ci r : ℝ) : EReal) := by
  have one : ∀ q (hq : q + 128 ≤ 1024), leafE hl (get2 I.lv (2 * ci.val + r.val) q 1 128 (two_mul_lt ci.isLt r.isLt) hq)
      (get2 I.mu (2 * ci.val + r.val) q 1 128 (two_mul_lt ci.isLt r.isLt) hq) (get2 I.x 0 q 128 128 (by omega) hq) (ix2 y z)
        = (tree (R.leaf y.val) R.w 0 (i.val * 1024 + rev 10 (q + z.val)) ci r : EReal) := fun q hq => by
    have hz : q + z.val < 1024 := by omega
    refine (leafE_at _ _ _ y z _ _ _ (G.lv ci r (q + z.val) hz) (G.mu ci r (q + z.val) hz) ((congrArg I.x ?_).trans (G.x y (q + z.val) hz))).trans ?_
    · exact congrArg (fun t => ix2 t _) (Fin.ext (Nat.zero_add _))
    · have := rev_lt 10 (q + z.val) hz
      exact congrArg _ (if_pos (by omega)).symm
  show leafE hl _ _ _ (ix2 y z) + leafE hl _ _ _ (ix2 y z) = _
  rw [one, one, EReal.coe_add, Nat.add_assoc]

/-- The first level. -/
theorem H0_cols (i : Fin 3) (I : Ins Ideal) (G : Good R i I) : Cols R 1 i.val 9 (H0 hl I) := fun p y z h hz => by
  have e : z / 128 * 128 + z % 128 = z := Nat.div_add_mod' z 128
  refine (mixB_real _ _ p y ⟨z % 128, Nat.mod_lt _ (by decide)⟩ _ (fun co ci r => R.w 0 (i.val * 512 + rev 9 z) co ci r) (fun r k => leafS_at R i I G _ r k y _) fun co ci r =>
    wS_at _ _ _ co ci r _ _ ?_).trans ?_
  · refine (congrArg I.w0 (congrArg (ix2 _) (Fin.ext e))).trans (G.w0 co ci r z h)
  · have := at_succ R y.val 0 9 i.val z hz p
    simp only [e]
    exact congrArg _ this.symm

/-- The later levels along the lanes, from the stack's two halves. -/
theorem mix_cols {n C : ℕ} (i : Fin 3) (l k base : ℕ) (X : FVec Ideal (sh3 16 128 n) .f32) (hX : Cols R l i.val (k + 1) X) (W : FVec Ideal (sh2 128 C) .f32)
    (hk : 2 ^ (k + 1) ≤ n) (hC : C = 2 ^ k) (hb : base + 128 ≤ C) (h₁ h₂ h₃ h₄)
    (hW : ∀ (co ci : Fin 8) (r : Fin 2) (p : ℕ) (h : p < C), W (ix2 ⟨co.val * 16 + ci.val * 2 + r.val, by omega⟩ ⟨p, h⟩) = (R.w l (i.val * 2 ^ k + rev k p) co ci r : EReal))
    (p : Fin 16) (y z : Fin 128) :
    mixB (sumS X 0 base 0 (C + base) 128 128 h₁ h₂ h₃ h₄) (wS W base hb) p (ix2 y z) = (R.at y.val (l + 1) (i.val * 2 ^ k + rev k (base + z.val)) p : EReal) := by
  have hz : base + z.val < 2 ^ k := by omega
  have two : 2 ^ (k + 1) = 2 ^ k + 2 ^ k := by rw [Nat.pow_succ]; omega
  have one : ∀ (q : ℕ) (hq : q + 128 ≤ n) (_ : q + 128 ≤ 2 ^ (k + 1)) (r : Fin 2) (ci : Fin 8), get3 X (2 * ci.val + r.val) 0 q 128 128 (two_mul_lt ci.isLt r.isLt) h₁ hq (ix2 y z)
      = (tree (R.leaf y.val) R.w l (i.val * 2 ^ (k + 1) + rev (k + 1) (q + z.val)) ci r : EReal) := fun q hq hq' r ci => by
    refine (congrArg X ?_).trans ((hX ⟨2 * ci.val + r.val, two_mul_lt ci.isLt r.isLt⟩ y (q + z.val) (by omega) (by omega)).trans (congrArg _ (at_two R _ _ _ ci r)))
    exact congrArg (fun t => ix3 _ t _) (Fin.ext (Nat.zero_add _))
  refine (mixB_real _ _ p y z (fun r ci => tree (R.leaf y.val) R.w l (i.val * 2 ^ (k + 1) + rev (k + 1) (base + z.val)) ci r
      + tree (R.leaf y.val) R.w l (i.val * 2 ^ (k + 1) + rev (k + 1) (2 ^ k + (base + z.val))) ci r) (fun co ci r => R.w l (i.val * 2 ^ k + rev k (base + z.val)) co ci r) (fun r ci => ?_) fun co ci r => wS_at _ _ _ co ci r _ _ (hW co ci r _ _)).trans
    (congrArg _ (at_succ R y.val l k i.val (base + z.val) hz p).symm)
  refine (congrArg₂ (fun s t : EReal => s + t) (one base h₂ (by omega) r ci) (one (C + base) h₄ (by omega) r ci)).trans ?_
  rw [← EReal.coe_add, Nat.add_assoc, hC]

theorem H1_cols (i : Fin 3) (I : Ins Ideal) (G : Good R i I) (X : FVec Ideal (sh3 16 128 512) .f32) (hX : Cols R 1 i.val 9 X) : Cols R 2 i.val 8 (H1 I X) := fun p y z h hz => by
  have hz' : z < 256 := hz
  have e : z / 128 % 2 * 128 + z % 128 = z := by omega
  refine (mix_cols R i 1 8 _ X hX I.w1 (by decide) (by decide) _ _ _ _ _ G.w1 p y ⟨z % 128, Nat.mod_lt _ (by decide)⟩).trans ?_
  show ((R.at y.val 2 (i.val * 2 ^ 8 + rev 8 (z / 128 % 2 * 128 + z % 128)) p : ℝ) : EReal) = _
  rw [e]

theorem H2_at (i : Fin 3) (I : Ins Ideal) (G : Good R i I) (X : FVec Ideal (sh3 16 128 512) .f32) (hX : Cols R 2 i.val 8 X) (p : Fin 16) (y z : Fin 128) :
    H2 I X p (ix2 y z) = (R.at y.val 3 (i.val * 2 ^ 7 + rev 7 z.val) p : EReal) :=
  (mix_cols R i 2 7 0 X hX I.w2 (by decide) (by decide) _ _ _ _ _ G.w2 p y z).trans (by rw [Nat.zero_add])

/-- What the transposed stack holds at level `l`: features along the sublanes. -/
def Rows (l b k : ℕ) (X : FVec Ideal (sh3 16 128 128) .f32) : Prop :=
  ∀ (p : Fin 16) (y : ℕ) (h : y < 128) (z : Fin 128), y < 2 ^ k → X (ix3 p ⟨y, h⟩ z) = (R.at z.val l (b * 2 ^ k + rev k y) p : EReal)

theorem T0_rows (i : Fin 3) (I : Ins Ideal) (G : Good R i I) : Rows R 3 i.val 7 (T0 I (below 256 (H1 I (H0 hl I)) (H0 hl I))) := fun p y h z hy => by
  refine (transpose_ix2_apply _ _ _ _).trans (H2_at R i I G _ (fun p y z h hz => ?_) p z ⟨y, h⟩)
  exact (below_lt _ _ p y ⟨z, h⟩ hz).trans (H1_cols R i I G _ (H0_cols R i I G) p y z h hz)

theorem outF_at {n : ℕ} (v : FVec Ideal (sh2 n 128) .f32) (r : Fin 2) (s : Fin 8 → FVec Ideal (sh2 n 128) .f32) (co : Fin 8) (y : Fin n) (z : Fin 128) (a w : Fin 8 → ℝ)
    (hs : ∀ k, s k (ix2 y z) = (a k : EReal)) (hw : ∀ ci : Fin 8, v (ix2 y ⟨co.val * 16 + r.val + 2 * ci.val, lane_lt co.isLt ci.isLt r.isLt⟩) = (w ci : EReal)) :
    outF v r s co (ix2 y z) = (node w a : EReal) := by
  refine planeF_at _ _ y z a w hs fun ci => ?_
  refine (extractStridedSlice_apply _ _ _ _ (ix2 y ⟨co.val * 16 + r.val + 2 * ci.val, lane_lt co.isLt ci.isLt r.isLt⟩) fun a => ?_).trans ?_
  · match a with
    | ⟨0, _⟩ => exact (Nat.zero_add _).symm
    | ⟨1, _⟩ => exact (Nat.add_zero _).symm
  · show Ideal.exp (shapeCast (sh2 n 128) v (casts_self _) _) = _
    rw [shapeCast_self, hw]
    rfl

/-- A level along the sublanes. -/
theorem FS_rows (i : Fin 3) (I : Ins Ideal) (G : Good R i I) (l k n o : ℕ) (hn : n = 2 ^ k) (h2 : n + n ≤ 128) (ho : o + n ≤ 4092) (hlk : l + k = 9) (hl3 : 3 ≤ l)
    (hoff : o = 4096 - 8 * 2 ^ k + i.val * n) (X : FVec Ideal (sh3 16 128 128) .f32) (hX : Rows R l i.val (k + 1) X) : Rows R (l + 1) i.val k (FS I.wg n o h2 ho X) := fun p y h z hy => by
  subst hn
  have two : 2 ^ (k + 1) = 2 ^ k + 2 ^ k := by rw [Nat.pow_succ]; omega
  refine (lay_of_mem _ X p ⟨y, h⟩ z trivial (Nat.zero_le _) (by show y < 0 + 2 ^ k; omega) (Nat.zero_le _) (by omega)).trans ?_
  refine (outF_at _ _ _ _ _ _ (fun ci => _) (fun ci => R.w l (i.val * 2 ^ k + rev k y) ⟨p.val / 2, half_lt p⟩ ci ⟨p.val % 2, par_lt p⟩) (fun ci => ?_) fun ci => ?_).trans
    (congrArg _ (at_succ R z.val l k i.val y hy p).symm)
  · have one : ∀ (q : ℕ) (hq : q + 2 ^ k ≤ 128) (_ : q + 2 ^ k ≤ 2 ^ (k + 1)) (hc) (hy' : y - 0 < 2 ^ k) (hz' : z.val - 0 < 128), get3 X (2 * ci.val + p.val % 2) q 0 (2 ^ k) 128 (two_mul_lt ci.isLt (par_lt p)) hq hc (ix2 ⟨y - 0, hy'⟩ ⟨z.val - 0, hz'⟩)
        = (tree (R.leaf z.val) R.w l (i.val * 2 ^ (k + 1) + rev (k + 1) (q + y)) ci ⟨p.val % 2, par_lt p⟩ : EReal) := fun q hq hq' hc hy' hz' => by
      refine (congrArg X ?_).trans ((hX ⟨2 * ci.val + p.val % 2, two_mul_lt ci.isLt (par_lt p)⟩ (q + y) (by omega) z (by omega)).trans (congrArg _ (at_two R _ _ _ ci ⟨p.val % 2, par_lt p⟩)))
      exact congrArg (fun t => ix3 _ _ t) (Fin.ext (Nat.zero_add _))
    refine (congrArg₂ (fun s t : EReal => s + t) (one 0 _ (by omega) _ _ _) (one (2 ^ k) _ (by omega) _ _ _)).trans ?_
    rw [← EReal.coe_add, Nat.zero_add]
  · refine Eq.trans ?_ (G.wg l k hlk hl3 ⟨p.val / 2, half_lt p⟩ ci ⟨p.val % 2, par_lt p⟩ y hy ⟨o + y, by omega⟩ (by show o + y = _; omega))
    exact congrArg (fun t => I.wg (ix2 _ t)) (Fin.ext (Nat.zero_add _))

/-- The second stack's first row at the end of grid point `i`: the subtree's value. -/
theorem TF_at (i : Fin 3) (I : Ins Ideal) (G : Good R i I) (p : Fin 16) (z : Fin 128) : TF hl I i (ix3 p 0 z) = (R.at z.val 10 i.val p : EReal) := by
  have h := FS_rows R i I G 9 0 1 (4088 + i.val * 1) (by decide) (by omega) (by omega) (by decide) (by decide) (by omega) _ <|
    FS_rows R i I G 8 1 2 (4080 + i.val * 2) (by decide) (by omega) (by omega) (by decide) (by decide) (by omega) _ <|
    FS_rows R i I G 7 2 4 (4064 + i.val * 4) (by decide) (by omega) (by omega) (by decide) (by decide) (by omega) _ <|
    FS_rows R i I G 6 3 8 (4032 + i.val * 8) (by decide) (by omega) (by omega) (by decide) (by decide) (by omega) _ <|
    FS_rows R i I G 5 4 16 (3968 + i.val * 16) (by decide) (by omega) (by omega) (by decide) (by decide) (by omega) _ <|
    FS_rows R i I G 4 5 32 (3840 + i.val * 32) (by decide) (by omega) (by omega) (by decide) (by decide) (by omega) _ <|
    FS_rows R i I G 3 6 64 (3584 + i.val * 64) (by decide) (by omega) (by omega) (by decide) (by decide) (by omega) _ (T0_rows R i I G)
  refine (h p 0 (by decide) z (by decide)).trans ?_
  rw [show i.val * 2 ^ 0 + rev 0 0 = i.val from Nat.mul_one _]

/-- Rows below `n` of the third stack hold their subtrees' values, the fourth zero. -/
def Tops (n : ℕ) (X : FVec Ideal (sh3 16 8 128) .f32) : Prop :=
  ∀ (p : Fin 16) (f : ℕ) (h : f < 8) (z : Fin 128), f < n ∨ f = 3 → X (ix3 p ⟨f, h⟩ z) = (R.at z.val 10 f p : EReal)

theorem Z_tops : Tops R 0 Z := fun p f h z hf => by
  obtain rfl : f = 3 := hf.resolve_left (Nat.not_lt_zero f)
  refine (show (Z : FVec Ideal (sh3 16 8 128) .f32) (ix3 p ⟨3, h⟩ z) = Ideal.ofBits .f32 0x00000000#32 from rfl).trans ?_
  rw [Ideal.ofBits_zero_f32, Reals.at, tree_zero R z.val 10 3 (by decide), EReal.coe_zero]

theorem SF_tops (i : Fin 3) (I : Ins Ideal) (G : Good R i I) (X : FVec Ideal (sh3 16 8 128) .f32) (hX : Tops R i.val X) : Tops R (i.val + 1) (SF hl I i X) := fun p f h z hf => by
  by_cases e : f = i.val
  · subst e
    refine (lay_of_mem _ X p ⟨i.val, h⟩ z trivial (Nat.le_refl _) (Nat.lt_succ_self _) (Nat.zero_le _) (by omega)).trans ?_
    refine Eq.trans (congrArg (TF hl I i) ?_) (TF_at R i I G p z)
    exact funext fun a => match a with
      | ⟨0, _⟩ => rfl
      | ⟨1, _⟩ => Fin.ext (by show 0 + (i.val - i.val) = 0; omega)
      | ⟨2, _⟩ => Fin.ext (by show 0 + (z.val - 0) = z.val; omega)
  · refine (lay_of_not _ X p ⟨f, h⟩ z fun h' => ?_).trans (hX p f h z (by omega))
    have h1 : i.val ≤ f := h'.1
    have h2 : f < i.val + 1 := h'.2.1
    omega

theorem exp_pick {n : ℕ} (w : FVec Ideal (sh2 n 128) .f32) (f : ℕ) (hf : f + 1 ≤ n) (c : ℕ) (hc : c + 1 ≤ 128) (v : ℝ) (h : w (ix2 ⟨f, hf⟩ ⟨c, hc⟩) = (v : EReal)) :
    pick (exp (F := Ideal) (shapeCast (sh2 n 128) w (casts_self _))) f c hf hc = (Real.exp v : EReal) := by
  rw [pick_at, shapeCast_self]
  exact congrArg Ideal.exp h

theorem get2_self {α : Type} {n b : ℕ} (w : (sh2 n b).Idx → α) (hr : 0 + n ≤ n) (hc : 0 + b ≤ b) : get2 w 0 0 n b hr hc = w :=
  funext2 fun i j => congrArg w (funext fun a => match a with
    | ⟨0, _⟩ => Fin.ext (Nat.zero_add _)
    | ⟨1, _⟩ => Fin.ext (Nat.zero_add _))

theorem R10_at (i : Fin 3) (I : Ins Ideal) (G : Good R i I) (X : FVec Ideal (sh3 16 8 128) .f32) (hX : Tops R 3 X) (r f : Fin 2) (co : Fin 8) (z : Fin 128) :
    R10 I.w10 X r f co (ix2 0 z) = (tree (R.leaf z.val) R.w 11 f.val co r : EReal) := by
  refine planeS_at _ _ z (fun ci => tree (R.leaf z.val) R.w 10 (2 * f.val) ci r + tree (R.leaf z.val) R.w 10 (2 * f.val + 1) ci r) (fun ci => R.w 10 f.val co ci r) (fun ci => ?_) fun ci => ?_
  · have one : ∀ (g : ℕ) (hg : g + 1 ≤ 8) (_ : g < 4) (hc), get3 X (2 * ci.val + r.val) g 0 1 128 (two_mul_lt ci.isLt r.isLt) hg hc (ix2 0 z) = (tree (R.leaf z.val) R.w 10 g ci r : EReal) := fun g hg hg4 hc => by
      refine (congrArg X ?_).trans ((hX ⟨2 * ci.val + r.val, two_mul_lt ci.isLt r.isLt⟩ g hg z (by omega)).trans (congrArg _ (at_two R _ _ _ ci r)))
      exact congrArg (fun t => ix3 _ _ t) (Fin.ext (Nat.zero_add _))
    refine (congrArg₂ (fun s t : EReal => s + t) (one _ _ (by omega) _) (one _ _ (by omega) _)).trans ?_
    rw [← EReal.coe_add]
  · rw [get2_self]
    exact exp_pick _ _ _ _ _ _ (G.w10 f co ci r)

theorem R11_at (i : Fin 3) (I : Ins Ideal) (G : Good R i I) (X : FVec Ideal (sh3 16 8 128) .f32) (hX : Tops R 3 X) (co : Fin 8) (r : Fin 2) (z : Fin 128) :
    R11 I.w11 (R10 I.w10 X) co r (ix2 0 z) = (tree (R.leaf z.val) R.w 12 0 co r : EReal) := by
  refine planeS_at _ _ z (fun ci => tree (R.leaf z.val) R.w 11 (2 * 0) ci r + tree (R.leaf z.val) R.w 11 (2 * 0 + 1) ci r) (fun ci => R.w 11 0 co ci r) (fun ci => ?_) fun ci => ?_
  · refine (congrArg₂ (fun s t : EReal => s + t) (R10_at R i I G X hX r 0 ci z) (R10_at R i I G X hX r 1 ci z)).trans ?_
    rw [← EReal.coe_add]
    rfl
  · rw [get2_self]
    exact exp_pick _ _ _ _ _ _ (G.w11 co ci r)

/-- The root over full stacks is the tree's value. -/
theorem RT_at (i : Fin 3) (I : Ins Ideal) (G : Good R i I) (X : FVec Ideal (sh3 16 8 128) .f32) (hX : Tops R 3 X) (z : Fin 128) : RT I X (ix2 0 z) = (R.value z.val : EReal) := by
  refine rootE_at _ _ z (R.at z.val 12 0) R.wr (fun c r => ?_) fun k => ?_
  · rw [at_two]; exact R11_at R i I G X hX c r z
  · rw [shapeCast_self, get2_self]; exact G.wr k

end Einet
-- ==== Proof.Einet.Args.lean ====
/- The float arguments of a run, and the real numbers that they stand for. -/
module

public import proofs.«01_k».proof.Proof.Einet.Sem
public import proofs.«01_k».proof.Proof.Einet.Take

@[expose] public section

noncomputable section

namespace Einet

open Idealize.ShloMosaic hiding ix1 ix2 ix3 ix4 ix5 eq_ix3 eq_ix4 eq_ix5
open Idealize.ShloMosaic.ValueIdx

/-- The float arguments: the data, the leaves' locations and log variances, the weights of each level and of the root. -/
structure Args where
  x : FVec Ideal (s2 128 3072) .f32
  loc : FVec Ideal (r3 3072 8 2) .f32
  lv : FVec Ideal (r3 3072 8 2) .f32
  w : ∀ l : ℕ, FVec Ideal (r4 (2 ^ (11 - l)) 8 8 2) .f32
  wr : FVec Ideal (s1 16) .f32

variable (A : Args)

/-- Every argument is a real number. -/
structure Args.Finite : Prop where
  x : ∀ i, ∃ v : ℝ, A.x i = (v : EReal)
  loc : ∀ i, ∃ v : ℝ, A.loc i = (v : EReal)
  lv : ∀ i, ∃ v : ℝ, A.lv i = (v : EReal)
  w : ∀ l, l < 12 → ∀ i, ∃ v : ℝ, A.w l i = (v : EReal)
  wr : ∀ i, ∃ v : ℝ, A.wr i = (v : EReal)

/-- The arguments as real numbers. -/
def Args.reals : Reals where
  x y g := if h : y < 128 ∧ g < 3072 then EReal.toReal (A.x (ix2 ⟨y, h.1⟩ ⟨g, h.2⟩)) else 0
  mu g c r := if h : g < 3072 then EReal.toReal (A.loc (ix3 ⟨g, h⟩ c r)) else 0
  lv g c r := if h : g < 3072 then EReal.toReal (A.lv (ix3 ⟨g, h⟩ c r)) else 0
  w l f co ci r := if h : f < 2 ^ (11 - l) then EReal.toReal (A.w l (ix4 ⟨f, h⟩ co ci r)) else 0
  wr k := EReal.toReal (A.wr (ix1 k))

theorem of_real {v : EReal} (h : ∃ x : ℝ, v = (x : EReal)) : v = (EReal.toReal v : EReal) := by
  obtain ⟨x, rfl⟩ := h
  rw [EReal.toReal_coe]

variable {A} (hA : A.Finite)
include hA

theorem Args.Finite.x_at (y : Fin 128) (g : ℕ) (h : g < 3072) : A.x (ix2 y ⟨g, h⟩) = (A.reals.x y.val g : EReal) :=
  (of_real (hA.x _)).trans (congrArg _ (by simp only [Args.reals, dif_pos (And.intro y.isLt h)]))

theorem Args.Finite.loc_at (g : ℕ) (h : g < 3072) (c : Fin 8) (r : Fin 2) : A.loc (ix3 ⟨g, h⟩ c r) = (A.reals.mu g c r : EReal) :=
  (of_real (hA.loc _)).trans (congrArg _ (by simp only [Args.reals, dif_pos h]))

theorem Args.Finite.lv_at (g : ℕ) (h : g < 3072) (c : Fin 8) (r : Fin 2) : A.lv (ix3 ⟨g, h⟩ c r) = (A.reals.lv g c r : EReal) :=
  (of_real (hA.lv _)).trans (congrArg _ (by simp only [Args.reals, dif_pos h]))

theorem Args.Finite.w_at (l : ℕ) (hl : l < 12) (f : ℕ) (h : f < 2 ^ (11 - l)) (co ci : Fin 8) (r : Fin 2) :
    A.w l (ix4 ⟨f, h⟩ co ci r) = (A.reals.w l f co ci r : EReal) :=
  (of_real (hA.w l hl _)).trans (congrArg _ (by simp only [Args.reals, dif_pos h]))

theorem Args.Finite.wr_at (k : Fin 16) : A.wr (ix1 k) = (A.reals.wr k : EReal) := of_real (hA.wr _)

end Einet
-- ==== Proof.Einet.Fed.lean ====
/- The blocks of each grid point hold the arguments, gathered into the order of the tree. -/
module

public import proofs.«01_k».proof.Proof.Einet.Host
public import proofs.«01_k».proof.Proof.Einet.Args
public import Idealize.ShloMosaic.Lib.Pipeline.ValueKit
public import Idealize.ShloMosaic.Lib.ValueLayout

@[expose] public section

noncomputable section

namespace Cert.KernelIdeal.Own

open Cert.KernelIdeal Cert.KernelIdeal.Gen
open Idealize.ShloMosaic hiding ix1 ix2 ix3 ix4 ix5 eq_ix3 eq_ix4 eq_ix5
open Idealize.ShloMosaic.TcCoe
open Idealize.ShloMosaic.ValueIdx
open Einet

variable (m : (ℓ : Loc nD τ sig) → Buf (Elt Ideal) ℓ) (c : Dev nD)

/-- The arguments in memory. -/
def args : Args where
  x := m (c, main_arg0)
  loc := m (c, main_arg1)
  lv := m (c, main_arg2)
  w := fun l => match l with
    | 0 => m (c, main_arg3)
    | 1 => m (c, main_arg4)
    | 2 => m (c, main_arg5)
    | 3 => m (c, main_arg6)
    | 4 => m (c, main_arg7)
    | 5 => m (c, main_arg8)
    | 6 => m (c, main_arg9)
    | 7 => m (c, main_arg10)
    | 8 => m (c, main_arg11)
    | 9 => m (c, main_arg12)
    | 10 => m (c, main_arg13)
    | 11 => m (c, main_arg14)
    | _ => fun _ => (0 : EReal)
  wr := m (c, main_arg15)

theorem one_row (n : ℕ) (k : Fin n) : ((s1 n).rowMajor (ix1 k)) = (⟨k.val, by rw [show (s1 n).numel = n from by simp [Shape.numel]]; exact k.isLt⟩ : Fin (s1 n).numel) :=
  Fin.ext (Shape.rowMajor_val_one _)

/-- The features' column holds the feature of each position. -/
theorem col0_at (i : Fin 3) (p : Fin 1024) (h : i.val * 1024 + p.val < 3072) : (col0 (ix2 ⟨i.val * 1024 + p.val, h⟩ 0)).toNat = i.val * 1024 + rev 10 p.val := by
  have e := lit0_at i p
  have hr := rev_lt 10 p.val p.isLt
  have e' : ((fun j => lit0 (S3072.rowMajor j) : IVec S3072 32) (ix1 ⟨i.val * 1024 + p.val, h⟩)).toNat = i.val * 1024 + rev 10 p.val :=
    (congrArg (fun q => (lit0 q).toNat) (Fin.ext (Shape.rowMajor_val_one _))).trans e
  unfold col0
  rw [fixed_at _ _ _ _ _ _ (by rw [e']; omega)]
  exact e'

theorem ok0_at (i : Fin 3) (p : Fin 1024) (h : i.val * 1024 + p.val < 3072) : ok0 (ix1 ⟨i.val * 1024 + p.val, h⟩) = 1#1 := by
  have hr := rev_lt 10 p.val p.isLt
  exact inside_at _ _ _ _ _ _ _ _ _ (by decide) (by rw [col0_at]; show _ ≤ 3071; omega)

theorem datag_at (i : Fin 3) (y : Fin 128) (p : Fin 1024) (h : i.val * 1024 + p.val < 3072) (h' : i.val * 1024 + rev 10 p.val < 3072) :
    datag m c (ix2 y ⟨i.val * 1024 + p.val, h⟩) = (args m c).x (ix2 y ⟨i.val * 1024 + rev 10 p.val, h'⟩) := by
  show Scalar.select (broadcastInDim S128x3072 ![1] bcast_S3072_S128x3072_1 ok0 (ix2 y ⟨i.val * 1024 + p.val, h⟩)) _ _ = _
  rw [broadcastInDim_apply _ _ _ (ix2 y (⟨i.val * 1024 + p.val, h⟩ : Fin 3072)) (ix1 ⟨i.val * 1024 + p.val, h⟩) fun a => match a with | ⟨0, _⟩ => kept_coord _, ok0_at]
  exact col_take 128 3072 3072 (by decide) _ col0 y _ ⟨_, h'⟩ (by decide) (col0_at i p h)

theorem mlg_at (i : Fin 3) (q : Fin 32) (p : Fin 1024) (h : i.val * 1024 + p.val < 3072) (h' : i.val * 1024 + rev 10 p.val < 3072) :
    mlg m c (ix2 q ⟨i.val * 1024 + p.val, h⟩) = mlcat m c (ix2 q ⟨i.val * 1024 + rev 10 p.val, h'⟩) := by
  show Scalar.select (broadcastInDim S32x3072 ![1] bcast_S3072_S32x3072_1 ok0 (ix2 q ⟨i.val * 1024 + p.val, h⟩)) _ _ = _
  rw [broadcastInDim_apply _ _ _ (ix2 q (⟨i.val * 1024 + p.val, h⟩ : Fin 3072)) (ix1 ⟨i.val * 1024 + p.val, h⟩) fun a => match a with | ⟨0, _⟩ => kept_coord _, ok0_at]
  exact col_take 32 3072 3072 (by decide) (mlcat m c) col0 q _ ⟨_, h'⟩ (by decide) (col0_at i p h)

theorem cast3 (v : FVec Ideal S3072x8x2 .f32) (g : Fin 3072) (k : Fin 8) (r : Fin 2) :
    transpose S16x3072 [1, 0] (shapeCast S3072x16 v shapeCasts_S3072x8x2_S3072x16) transposes_S3072x16_S16x3072_1_0 (ix2 ⟨2 * k.val + r.val, two_mul_lt k.isLt r.isLt⟩ g) = v (ix3 g k r) := by
  refine (transpose_ix2_apply _ _ _ _).trans (shapeCast_apply _ _ _ _ ?_)
  rw [Shape.rowMajor_val_two, Shape.rowMajor_val_three]
  show (g.val * 8 + k.val) * 2 + r.val = g.val * 16 + (2 * k.val + r.val)
  omega

theorem mlcat_mu (g : Fin 3072) (k : Fin 8) (r : Fin 2) : mlcat m c (ix2 ⟨2 * k.val + r.val, by omega⟩ g) = (args m c).loc (ix3 g k r) := by
  refine Eq.trans ?_ (cast3 _ g k r)
  exact concatenate_pair_apply_left (t := S32x3072) (s₁ := S16x3072) (s₂ := S16x3072) 0 _ _ _ _ rfl (ix2 ⟨2 * k.val + r.val, two_mul_lt k.isLt r.isLt⟩ g) fun b => match b with | ⟨0, _⟩ => rfl | ⟨1, _⟩ => rfl

theorem mlcat_lv (g : Fin 3072) (k : Fin 8) (r : Fin 2) : mlcat m c (ix2 ⟨16 + (2 * k.val + r.val), by omega⟩ g) = (args m c).lv (ix3 g k r) := by
  refine Eq.trans ?_ (cast3 _ g k r)
  refine concatenate_pair_apply_right (t := S32x3072) (s₁ := S16x3072) (s₂ := S16x3072) 0 _ _ _ _ rfl rfl (ix2 ⟨2 * k.val + r.val, two_mul_lt k.isLt r.isLt⟩ g) (fun b => match b with | ⟨0, _⟩ => fun h => absurd rfl h | ⟨1, _⟩ => fun _ => rfl) ?_
  show 2 * k.val + r.val + 16 = 16 + (2 * k.val + r.val)
  omega

/-- Where a level's nodes of a grid point lie among the rows of the weights. -/
theorem row_bound (k : ℕ) (hk : k ≤ 9) (i : Fin 3) (p : ℕ) (hp : p < 2 ^ k) : 4096 - 8 * 2 ^ k + (i.val * 2 ^ k + p) < 4092 := by
  have h9 : 2 ^ k ≤ 2 ^ 9 := Nat.pow_le_pow_right (by decide) hk
  have : i.val * 2 ^ k ≤ 2 * 2 ^ k := Nat.mul_le_mul_right _ (by omega)
  have : 0 < 2 ^ k := Nat.two_pow_pos k
  omega

/-- The weights' column holds the row of each position. -/
theorem col1_at (k : Fin 10) (i : Fin 3) (p : Fin (2 ^ k.val)) (g : Fin 4092) (hg : g.val = 4096 - 8 * 2 ^ k.val + i.val * 2 ^ k.val + p.val) :
    (col1 (ix2 g 0)).toNat = 4096 - 8 * 2 ^ k.val + (i.val * 2 ^ k.val + rev k.val p.val) := by
  have e := lit1_at k i p
  have hr := row_bound k.val (by omega) i _ (rev_lt k.val p.val p.isLt)
  have e' : ((fun j => lit1 (S4092.rowMajor j) : IVec S4092 32) (ix1 g)).toNat = 4096 - 8 * 2 ^ k.val + (i.val * 2 ^ k.val + rev k.val p.val) :=
    (congrArg (fun q => (lit1 q).toNat) (Fin.ext ((Shape.rowMajor_val_one _).trans hg))).trans e
  unfold col1
  rw [fixed_at _ _ _ _ _ _ (by rw [e']; omega)]
  exact e'

theorem ok1_at (k : Fin 10) (i : Fin 3) (p : Fin (2 ^ k.val)) (g : Fin 4092) (hg : g.val = 4096 - 8 * 2 ^ k.val + i.val * 2 ^ k.val + p.val) : ok1 (ix1 g) = 1#1 := by
  have hr := row_bound k.val (by omega) i _ (rev_lt k.val p.val p.isLt)
  exact inside_at _ _ _ _ _ _ _ _ _ (by decide) (by rw [col1_at k i p g hg]; show _ ≤ 4091; omega)

theorem sel_one {α : Type} (a b : α) : Scalar.select 1#1 a b = a := rfl

theorem wgath_at (k : Fin 10) (i : Fin 3) (p : Fin (2 ^ k.val)) (g : Fin 4092) (hg : g.val = 4096 - 8 * 2 ^ k.val + i.val * 2 ^ k.val + p.val) (q : Fin 128) :
    wgath m c (ix2 g q) = wcat m c (ix2 ⟨4096 - 8 * 2 ^ k.val + (i.val * 2 ^ k.val + rev k.val p.val), row_bound k.val (by omega) i _ (rev_lt k.val p.val p.isLt)⟩ q) := by
  show Scalar.select (broadcastInDim S4092x128 ![0] bcast_S4092_S4092x128_0 ok1 (ix2 g q)) _ _ = _
  rw [broadcastInDim_apply _ _ _ (ix2 g q) (ix1 g) fun a => match a with | ⟨0, _⟩ => kept_coord _, ok1_at k i p g hg]
  refine (sel_one _ _).trans ?_
  have := row_take 4092 128 4092 gather_S4092x128_S4092x1_S4092x128_1_0_n_n_0_1_1128.wf (wcat m c) col1 q g ⟨_, row_bound k.val (by omega) i _ (rev_lt k.val p.val p.isLt)⟩ (by decide) (col1_at k i p g hg)
  exact this

/-- A level's weights as a matrix, one node to a row. -/
theorem cast4 (n : ℕ) (v : FVec Ideal (r4 n 8 8 2) .f32) (h : (r4 n 8 8 2).ShapeCasts (s2 n 128)) (f : Fin n) (co ci : Fin 8) (r : Fin 2) :
    shapeCast (s2 n 128) v h (ix2 f ⟨co.val * 16 + ci.val * 2 + r.val, by omega⟩) = v (ix4 f co ci r) := by
  refine shapeCast_apply _ _ _ _ ?_
  rw [Shape.rowMajor_val_two, Shape.rowMajor_val_four]
  show ((f.val * 8 + co.val) * 8 + ci.val) * 2 + r.val = f.val * 128 + (co.val * 16 + ci.val * 2 + r.val)
  omega

/-- A row of one piece of a concatenation of matrices. -/
theorem piece (xs : List ((s : Shape) × (s.Idx → Ideal .f32))) (h : Shape.Concatenates (xs.map (·.1)) S4092x128 0) (k : ℕ) (hk : k < xs.length) (n : ℕ) (v : FVec Ideal (r4 n 8 8 2) .f32)
    (hc : (r4 n 8 8 2).ShapeCasts (s2 n 128)) (hx : xs[k] = ⟨s2 n 128, shapeCast (s2 n 128) v hc⟩) (pre : ℕ)
    (hpre : (((xs.take k).map (·.1)).map fun s => if h : s.rank = S4092x128.rank then s.size ((0 : Fin S4092x128.rank).cast h.symm) else 0).sum = pre)
    (g : Fin 4092) (f : Fin n) (hg : g.val = pre + f.val) (co ci : Fin 8) (r : Fin 2) :
    concatenate S4092x128 0 xs h (ix2 g ⟨co.val * 16 + ci.val * 2 + r.val, by omega⟩) = v (ix4 f co ci r) := by
  refine Eq.trans ?_ (cast4 n v hc f co ci r)
  exact concatenate_apply_piece 0 xs h _ k hk (s2 n 128) _ hx rfl pre hpre (ix2 f ⟨co.val * 16 + ci.val * 2 + r.val, by omega⟩)
    (fun b => match b with | ⟨0, _⟩ => fun h => absurd rfl h | ⟨1, _⟩ => fun _ => rfl) hg.symm

theorem wcat_at (l : ℕ) (hl : l < 10) (f : Fin (2 ^ (11 - l))) (g : Fin 4092) (hg : g.val = 4096 - 2 ^ (12 - l) + f.val) (co ci : Fin 8) (r : Fin 2) :
    wcat m c (ix2 g ⟨co.val * 16 + ci.val * 2 + r.val, by omega⟩) = (args m c).w l (ix4 f co ci r) :=
  match l, hl, f, hg with
  | 0, _, f, hg => piece (pieces m c) _ 0 (show 0 < 10 by decide) 2048 _ shapeCasts_S2048x8x8x2_S2048x128 rfl 0 rfl g f hg co ci r
  | 1, _, f, hg => piece (pieces m c) _ 1 (show 1 < 10 by decide) 1024 _ shapeCasts_S1024x8x8x2_S1024x128 rfl 2048 rfl g f hg co ci r
  | 2, _, f, hg => piece (pieces m c) _ 2 (show 2 < 10 by decide) 512 _ shapeCasts_S512x8x8x2_S512x128 rfl 3072 rfl g f hg co ci r
  | 3, _, f, hg => piece (pieces m c) _ 3 (show 3 < 10 by decide) 256 _ shapeCasts_S256x8x8x2_S256x128 rfl 3584 rfl g f hg co ci r
  | 4, _, f, hg => piece (pieces m c) _ 4 (show 4 < 10 by decide) 128 _ shapeCasts_S128x8x8x2_S128x128 rfl 3840 rfl g f hg co ci r
  | 5, _, f, hg => piece (pieces m c) _ 5 (show 5 < 10 by decide) 64 _ shapeCasts_S64x8x8x2_S64x128 rfl 3968 rfl g f hg co ci r
  | 6, _, f, hg => piece (pieces m c) _ 6 (show 6 < 10 by decide) 32 _ shapeCasts_S32x8x8x2_S32x128 rfl 4032 rfl g f hg co ci r
  | 7, _, f, hg => piece (pieces m c) _ 7 (show 7 < 10 by decide) 16 _ shapeCasts_S16x8x8x2_S16x128 rfl 4064 rfl g f hg co ci r
  | 8, _, f, hg => piece (pieces m c) _ 8 (show 8 < 10 by decide) 8 _ shapeCasts_S8x8x8x2_S8x128 rfl 4080 rfl g f hg co ci r
  | 9, _, f, hg => piece (pieces m c) _ 9 (show 9 < 10 by decide) 4 _ shapeCasts_S4x8x8x2_S4x128 rfl 4088 rfl g f hg co ci r

/-- The gathered weights of a level. -/
theorem wgath_level (l k : ℕ) (hl : l + k = 9) (i : Fin 3) (p : ℕ) (hp : p < 2 ^ k) (g : Fin 4092) (hg : g.val = 4096 - 8 * 2 ^ k + i.val * 2 ^ k + p) (co ci : Fin 8) (r : Fin 2)
    (hf : i.val * 2 ^ k + rev k p < 2 ^ (11 - l)) :
    wgath m c (ix2 g ⟨co.val * 16 + ci.val * 2 + r.val, by omega⟩) = (args m c).w l (ix4 ⟨i.val * 2 ^ k + rev k p, hf⟩ co ci r) := by
  refine (wgath_at m c ⟨k, by omega⟩ i ⟨p, hp⟩ g hg _).trans (wcat_at m c l (by omega) ⟨_, hf⟩ _ ?_ co ci r)
  show 4096 - 8 * 2 ^ k + (i.val * 2 ^ k + rev k p) = _
  rw [show 12 - l = 3 + k by omega, Nat.pow_add]

end Cert.KernelIdeal.Own
-- ==== Proof.Einet.Given.lean ====
/- What the kernel is given at a grid point, in terms of the arguments. -/
module

public import proofs.«01_k».proof.Proof.Einet.Fed

@[expose] public section

noncomputable section

namespace Cert.KernelIdeal.Own

open Cert.KernelIdeal Cert.KernelIdeal.Gen
open Idealize.ShloMosaic hiding ix1 ix2 ix3 ix4 ix5 eq_ix3 eq_ix4 eq_ix5
open Idealize.ShloMosaic.TcCoe
open Idealize.ShloMosaic.ValueIdx
open Einet

variable (m : (ℓ : Loc nD τ sig) → Buf (Elt Ideal) ℓ) (c : Dev nD)

section Reads

variable {α : Type} (t : Fin cfg0.N)

theorem place0 : ∀ t : Fin cfg0.N, (cfg0.win 0).index t 0 = 0 ∧ (cfg0.win 0).index t 1 = t.val := by decide +kernel
theorem place1 : ∀ t : Fin cfg0.N, (cfg0.win 1).index t 0 = 0 ∧ (cfg0.win 1).index t 1 = t.val := by decide +kernel
theorem place2 : ∀ t : Fin cfg0.N, (cfg0.win 2).index t 0 = 0 ∧ (cfg0.win 2).index t 1 = t.val := by decide +kernel
theorem place3 : ∀ t : Fin cfg0.N, (cfg0.win 3).index t 0 = 0 ∧ (cfg0.win 3).index t 1 = t.val := by decide +kernel
theorem place4 : ∀ t : Fin cfg0.N, (cfg0.win 4).index t 0 = 0 ∧ (cfg0.win 4).index t 1 = t.val := by decide +kernel
theorem place5 : ∀ t : Fin cfg0.N, (cfg0.win 5).index t 0 = 0 ∧ (cfg0.win 5).index t 1 = t.val := by decide +kernel
theorem place6 : ∀ t : Fin cfg0.N, (cfg0.win 6).index t 0 = 0 ∧ (cfg0.win 6).index t 1 = 0 := by decide +kernel
theorem place7 : ∀ t : Fin cfg0.N, (cfg0.win 7).index t 0 = 0 ∧ (cfg0.win 7).index t 1 = 0 := by decide +kernel
theorem place8 : ∀ t : Fin cfg0.N, (cfg0.win 8).index t 0 = 0 ∧ (cfg0.win 8).index t 1 = 0 := by decide +kernel
theorem place9 : ∀ t : Fin cfg0.N, (cfg0.win 9).index t 0 = 0 ∧ (cfg0.win 9).index t 1 = 0 := by decide +kernel

theorem read0 (X : (⟨S128x3072, .f32⟩ : BufTy).Contents (Elt Ideal)) (y : Fin 128) (p : Fin 1024) (h : t.val * 1024 + p.val < 3072) :
    ((cfg0.win 0).blk t).view.read (Elt Ideal) X (ix2 y p) = X (ix2 y ⟨t.val * 1024 + p.val, h⟩) := by
  blk_ext [place0 t]

theorem read1 (X : (⟨S16x3072, .f32⟩ : BufTy).Contents (Elt Ideal)) (y : Fin 16) (p : Fin 1024) (h : t.val * 1024 + p.val < 3072) :
    ((cfg0.win 1).blk t).view.read (Elt Ideal) X (ix2 y p) = X (ix2 y ⟨t.val * 1024 + p.val, h⟩) := by
  blk_ext [place1 t]

theorem read2 (X : (⟨S16x3072, .f32⟩ : BufTy).Contents (Elt Ideal)) (y : Fin 16) (p : Fin 1024) (h : t.val * 1024 + p.val < 3072) :
    ((cfg0.win 2).blk t).view.read (Elt Ideal) X (ix2 y p) = X (ix2 y ⟨t.val * 1024 + p.val, h⟩) := by
  blk_ext [place2 t]

theorem read3 (X : (⟨S128x2048, .f32⟩ : BufTy).Contents (Elt Ideal)) (y : Fin 128) (p : Fin 512) (h : t.val * 512 + p.val < 2048) :
    ((cfg0.win 3).blk t).view.read (Elt Ideal) X (ix2 y p) = X (ix2 y ⟨t.val * 512 + p.val, h⟩) := by
  blk_ext [place3 t]

theorem read4 (X : (⟨S128x1024, .f32⟩ : BufTy).Contents (Elt Ideal)) (y : Fin 128) (p : Fin 256) (h : t.val * 256 + p.val < 1024) :
    ((cfg0.win 4).blk t).view.read (Elt Ideal) X (ix2 y p) = X (ix2 y ⟨t.val * 256 + p.val, h⟩) := by
  blk_ext [place4 t]

theorem read5 (X : (⟨S128x512, .f32⟩ : BufTy).Contents (Elt Ideal)) (y : Fin 128) (p : Fin 128) (h : t.val * 128 + p.val < 512) :
    ((cfg0.win 5).blk t).view.read (Elt Ideal) X (ix2 y p) = X (ix2 y ⟨t.val * 128 + p.val, h⟩) := by
  blk_ext [place5 t]

theorem read6 (X : (⟨S4092x128, .f32⟩ : BufTy).Contents (Elt Ideal)) (y : Fin 4092) (p : Fin 128) :
    ((cfg0.win 6).blk t).view.read (Elt Ideal) X (ix2 y p) = X (ix2 y p) := by
  blk_ext [place6 t]

theorem read7 (X : (⟨S2x128, .f32⟩ : BufTy).Contents (Elt Ideal)) (y : Fin 2) (p : Fin 128) :
    ((cfg0.win 7).blk t).view.read (Elt Ideal) X (ix2 y p) = X (ix2 y p) := by
  blk_ext [place7 t]

theorem read8 (X : (⟨S1x128, .f32⟩ : BufTy).Contents (Elt Ideal)) (y : Fin 1) (p : Fin 128) :
    ((cfg0.win 8).blk t).view.read (Elt Ideal) X (ix2 y p) = X (ix2 y p) := by
  blk_ext [place8 t]

theorem read9 (X : (⟨S1x16, .f32⟩ : BufTy).Contents (Elt Ideal)) (y : Fin 1) (p : Fin 16) :
    ((cfg0.win 9).blk t).view.read (Elt Ideal) X (ix2 y p) = X (ix2 y p) := by
  blk_ext [place9 t]

end Reads

/-- A column of a transposed stretch of rows. -/
theorem turned {n o : ℕ} (v : FVec Ideal S4092x128 .f32) (hs : S4092x128.Slices ![o, 0] (s2 n 128)) (ht : (s2 n 128).Transposes [1, 0] (s2 128 n)) (q : Fin 128) (f : Fin n) (h : o + f.val < 4092) :
    transpose (s2 128 n) [1, 0] (extractStridedSlice (s2 n 128) ![o, 0] v hs) ht (ix2 q f) = v (ix2 ⟨o + f.val, h⟩ q) :=
  (transpose_ix2_apply _ _ _ _).trans (extractStridedSlice_apply _ _ _ _ (ix2 ⟨o + f.val, h⟩ q) fun a => match a with | ⟨0, _⟩ => rfl | ⟨1, _⟩ => (Nat.zero_add _).symm)

theorem sliced {o : ℕ} (v : FVec Ideal S32x3072 .f32) (hs : S32x3072.Slices ![o, 0] S16x3072) (q : Fin 16) (f : Fin 3072) (h : o + q.val < 32) :
    extractStridedSlice S16x3072 ![o, 0] v hs (ix2 q f) = v (ix2 ⟨o + q.val, h⟩ f) :=
  extractStridedSlice_apply _ _ _ _ (ix2 ⟨o + q.val, h⟩ f) fun a => match a with | ⟨0, _⟩ => rfl | ⟨1, _⟩ => (Nat.zero_add _).symm

theorem lane {a b c : ℕ} (h : a * 16 + c + 2 * b < 128) (h' : a * 16 + b * 2 + c < 128) : (⟨a * 16 + c + 2 * b, h⟩ : Fin 128) = ⟨a * 16 + b * 2 + c, h'⟩ := Fin.ext (by show a * 16 + c + 2 * b = a * 16 + b * 2 + c; omega)

variable (hA : (args m c).Finite) (t : Fin cfg0.N)
include hA

theorem fed_x (y : Fin 128) (p : ℕ) (h : p < 1024) : (ins m c t).x (ix2 y ⟨p, h⟩) = ((args m c).reals.x y.val (t.val * 1024 + rev 10 p) : EReal) := by
  have ht : t.val < 3 := t.isLt
  have hr := rev_lt 10 p h
  have h1 : t.val * 1024 + p < 3072 := by omega
  have h2 : t.val * 1024 + rev 10 p < 3072 := by omega
  show iblk m c 0 t (ix2 y ⟨p, h⟩) = _
  exact (read0 t (V m c main_v0) y ⟨p, h⟩ h1).trans ((congrFun (data_eq m c) _).trans ((datag_at m c ⟨t.val, ht⟩ y ⟨p, h⟩ h1 h2).trans (hA.x_at y _ h2)))

theorem fed_mu (k : Fin 8) (r : Fin 2) (p : ℕ) (h : p < 1024) :
    (ins m c t).mu (ix2 ⟨2 * k.val + r.val, two_mul_lt k.isLt r.isLt⟩ ⟨p, h⟩) = ((args m c).reals.mu (t.val * 1024 + rev 10 p) k r : EReal) := by
  have ht : t.val < 3 := t.isLt
  have hr := rev_lt 10 p h
  have h1 : t.val * 1024 + p < 3072 := by omega
  have h2 : t.val * 1024 + rev 10 p < 3072 := by omega
  show iblk m c 1 t (ix2 ⟨2 * k.val + r.val, two_mul_lt k.isLt r.isLt⟩ ⟨p, h⟩) = _
  refine (read1 t (V m c main_v7) _ ⟨p, h⟩ h1).trans ((congrFun (mu_eq m c) _).trans ((sliced _ _ _ _ (by show 0 + (2 * k.val + r.val) < 32; omega)).trans ((mlg_at m c ⟨t.val, ht⟩ _ ⟨p, h⟩ h1 h2).trans (Eq.trans (congrArg (mlcat m c) ?_) ((mlcat_mu m c ⟨_, h2⟩ k r).trans (hA.loc_at _ h2 k r))))))
  exact congrArg (fun q => ix2 q _) (Fin.ext (Nat.zero_add _))

theorem fed_lv (k : Fin 8) (r : Fin 2) (p : ℕ) (h : p < 1024) :
    (ins m c t).lv (ix2 ⟨2 * k.val + r.val, two_mul_lt k.isLt r.isLt⟩ ⟨p, h⟩) = ((args m c).reals.lv (t.val * 1024 + rev 10 p) k r : EReal) := by
  have ht : t.val < 3 := t.isLt
  have hr := rev_lt 10 p h
  have h1 : t.val * 1024 + p < 3072 := by omega
  have h2 : t.val * 1024 + rev 10 p < 3072 := by omega
  show iblk m c 2 t (ix2 ⟨2 * k.val + r.val, two_mul_lt k.isLt r.isLt⟩ ⟨p, h⟩) = _
  exact (read2 t (V m c main_v8) _ ⟨p, h⟩ h1).trans ((congrFun (lv_eq m c) _).trans ((sliced _ _ _ _ (by show 16 + (2 * k.val + r.val) < 32; omega)).trans ((mlg_at m c ⟨t.val, ht⟩ _ ⟨p, h⟩ h1 h2).trans ((mlcat_lv m c ⟨_, h2⟩ k r).trans (hA.lv_at _ h2 k r)))))

/-- A node's gathered weights as real numbers. -/
theorem fed_row (l k : ℕ) (hl : l + k = 9) (p : ℕ) (hp : p < 2 ^ k) (g : Fin 4092) (hg : g.val = 4096 - 8 * 2 ^ k + t.val * 2 ^ k + p) (co ci : Fin 8) (r : Fin 2) :
    wgath m c (ix2 g ⟨co.val * 16 + ci.val * 2 + r.val, by omega⟩) = ((args m c).reals.w l (t.val * 2 ^ k + rev k p) co ci r : EReal) := by
  have ht : t.val < 3 := t.isLt
  have hf : t.val * 2 ^ k + rev k p < 2 ^ (11 - l) := by
    have := rev_lt k p hp
    have : t.val * 2 ^ k ≤ 2 * 2 ^ k := Nat.mul_le_mul_right _ (by omega)
    rw [show 11 - l = 2 + k by omega, Nat.pow_add]
    omega
  exact (wgath_level m c l k hl ⟨t.val, ht⟩ p hp g hg co ci r hf).trans (hA.w_at l (by omega) _ hf co ci r)

theorem fed_w0 (co ci : Fin 8) (r : Fin 2) (p : ℕ) (h : p < 512) :
    (ins m c t).w0 (ix2 ⟨co.val * 16 + ci.val * 2 + r.val, by omega⟩ ⟨p, h⟩) = ((args m c).reals.w 0 (t.val * 512 + rev 9 p) co ci r : EReal) := by
  have ht : t.val < 3 := t.isLt
  have h1 : t.val * 512 + p < 2048 := by omega
  show iblk m c 3 t (ix2 ⟨co.val * 16 + ci.val * 2 + r.val, by omega⟩ ⟨p, h⟩) = _
  exact (read3 t (V m c main_v22) _ ⟨p, h⟩ h1).trans ((congrFun (w0_eq m c) _).trans ((turned (n := 2048) (o := 0) _ _ _ _ ⟨_, h1⟩ (by show 0 + (t.val * 512 + p) < 4092; omega)).trans
    (fed_row m c hA t 0 9 rfl p h _ (by show 0 + (t.val * 512 + p) = 4096 - 8 * 512 + t.val * 512 + p; omega) co ci r)))

theorem fed_w1 (co ci : Fin 8) (r : Fin 2) (p : ℕ) (h : p < 256) :
    (ins m c t).w1 (ix2 ⟨co.val * 16 + ci.val * 2 + r.val, by omega⟩ ⟨p, h⟩) = ((args m c).reals.w 1 (t.val * 256 + rev 8 p) co ci r : EReal) := by
  have ht : t.val < 3 := t.isLt
  have h1 : t.val * 256 + p < 1024 := by omega
  show iblk m c 4 t (ix2 ⟨co.val * 16 + ci.val * 2 + r.val, by omega⟩ ⟨p, h⟩) = _
  exact (read4 t (V m c main_v24) _ ⟨p, h⟩ h1).trans ((congrFun (w1_eq m c) _).trans ((turned (n := 1024) (o := 2048) _ _ _ _ ⟨_, h1⟩ (by show 2048 + (t.val * 256 + p) < 4092; omega)).trans
    (fed_row m c hA t 1 8 rfl p h _ (by show 2048 + (t.val * 256 + p) = 4096 - 8 * 256 + t.val * 256 + p; omega) co ci r)))

theorem fed_w2 (co ci : Fin 8) (r : Fin 2) (p : ℕ) (h : p < 128) :
    (ins m c t).w2 (ix2 ⟨co.val * 16 + ci.val * 2 + r.val, by omega⟩ ⟨p, h⟩) = ((args m c).reals.w 2 (t.val * 128 + rev 7 p) co ci r : EReal) := by
  have ht : t.val < 3 := t.isLt
  have h1 : t.val * 128 + p < 512 := by omega
  show iblk m c 5 t (ix2 ⟨co.val * 16 + ci.val * 2 + r.val, by omega⟩ ⟨p, h⟩) = _
  exact (read5 t (V m c main_v26) _ ⟨p, h⟩ h1).trans ((congrFun (w2_eq m c) _).trans ((turned (n := 512) (o := 3072) _ _ _ _ ⟨_, h1⟩ (by show 3072 + (t.val * 128 + p) < 4092; omega)).trans
    (fed_row m c hA t 2 7 rfl p h _ (by show 3072 + (t.val * 128 + p) = 4096 - 8 * 128 + t.val * 128 + p; omega) co ci r)))

theorem fed_wg (l k : ℕ) (hl : l + k = 9) (co ci : Fin 8) (r : Fin 2) (p : ℕ) (hp : p < 2 ^ k) (g : Fin 4092) (hg : g.val = 4096 - 8 * 2 ^ k + t.val * 2 ^ k + p) :
    (ins m c t).wg (ix2 g ⟨co.val * 16 + r.val + 2 * ci.val, lane_lt co.isLt ci.isLt r.isLt⟩) = ((args m c).reals.w l (t.val * 2 ^ k + rev k p) co ci r : EReal) := by
  rw [lane _ (by omega)]
  show iblk m c 6 t (ix2 g ⟨co.val * 16 + ci.val * 2 + r.val, by omega⟩) = _
  exact (read6 t (V m c main_v20) g _).trans ((congrFun (wg_eq m c) _).trans (fed_row m c hA t l k hl p hp g hg co ci r))

theorem fed_w10 (f : Fin 2) (co ci : Fin 8) (r : Fin 2) :
    (ins m c t).w10 (ix2 f ⟨co.val * 16 + r.val + 2 * ci.val, lane_lt co.isLt ci.isLt r.isLt⟩) = ((args m c).reals.w 10 f.val co ci r : EReal) := by
  rw [lane _ (by omega)]
  show iblk m c 7 t (ix2 f ⟨co.val * 16 + ci.val * 2 + r.val, by omega⟩) = _
  exact (read7 t (V m c main_v27) f _).trans ((congrFun (w10_eq m c) _).trans ((cast4 2 _ _ f co ci r).trans (hA.w_at 10 (by decide) f.val f.isLt co ci r)))

theorem fed_w11 (co ci : Fin 8) (r : Fin 2) :
    (ins m c t).w11 (ix2 0 ⟨co.val * 16 + r.val + 2 * ci.val, lane_lt co.isLt ci.isLt r.isLt⟩) = ((args m c).reals.w 11 0 co ci r : EReal) := by
  rw [lane _ (by omega)]
  show iblk m c 8 t (ix2 0 ⟨co.val * 16 + ci.val * 2 + r.val, by omega⟩) = _
  exact (read8 t (V m c main_v28) 0 _).trans ((congrFun (w11_eq m c) _).trans ((cast4 1 _ _ 0 co ci r).trans (hA.w_at 11 (by decide) 0 (by decide) co ci r)))

theorem fed_wr (k : Fin 16) : (ins m c t).wr (ix2 0 k) = ((args m c).reals.wr k : EReal) := by
  show iblk m c 9 t (ix2 0 k) = _
  exact (read9 t (V m c main_v29) 0 k).trans ((congrFun (wr_eq m c) _).trans ((shapeCast_a_1a_apply _ _ 0 k).trans (hA.wr_at k)))

/-- A grid point is given what its features' part of the tree needs. -/
theorem given : Good (args m c).reals ⟨t.val, t.isLt⟩ (ins m c t) where
  x := fed_x m c hA t
  mu := fed_mu m c hA t
  lv := fed_lv m c hA t
  w0 := fed_w0 m c hA t
  w1 := fed_w1 m c hA t
  w2 := fed_w2 m c hA t
  wg := fun l k hl _ co ci r p hp g hg => fed_wg m c hA t l k hl co ci r p hp g hg
  w10 := fed_w10 m c hA t
  w11 := fed_w11 m c hA t
  wr := fed_wr m c hA t

end Cert.KernelIdeal.Own
-- ==== Proof.Einet.Launch.lean ====
/- The launch of the idealized kernel: each grid point keeps the stacks' invariant, and the arguments end unchanged. -/
module

public import proofs.«01_k».proof.Proof.Einet.Run

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Einet (sh2 sh3 at_)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the pipeline hands the body at point `t`. -/
def Pre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)))

/-- What it takes back. -/
def Post (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

theorem idle_out : ∀ t : Fin cfg0.N, t.val ≠ 2 → cfg0.idle 10 (grid0.coords t) = true ∧ (cfg0.win 10).flush t = false := by decide +kernel
theorem live_out : ∀ t : Fin cfg0.N, t.val = 2 → cfg0.idle 10 (grid0.coords t) = false := by decide +kernel

theorem O0_ne (i : Fin 3) (h : i.val ≠ 2) (I : Einet.Ins F) (o : FVec F (sh2 1 128) .f32) (w : FVec F (sh3 16 8 128) .f32) : Einet.O0 I i o w = o := by
  match i, h with
  | ⟨0, _⟩, _ => rfl
  | ⟨1, _⟩, _ => rfl
  | ⟨2, _⟩, h => exact absurd rfl h

theorem O0_two (i : Fin 3) (h : i.val = 2) (I : Einet.Ins F) (o : FVec F (sh2 1 128) .f32) (w : FVec F (sh3 16 8 128) .f32) : Einet.O0 I i o w = Einet.RT I w := by
  obtain rfl : i = 2 := Fin.ext h
  rfl

theorem S0_pos (i : Fin 3) (h : i.val ≠ 0) (w : FVec F (sh3 16 8 128) .f32) : Einet.S0 i w = w := by
  match i, h with
  | ⟨_ + 1, _⟩, _ => rfl

set_option maxHeartbeats 4000000 in
theorem sound (c : Dev nD) (t : Fin cfg0.N) :
    Pre m c t ⊢ wp frame (wpE (defs₀ (F := F)) Variants.none c none) Set.univ (bodyAt0 t) (fun _ => Post m c t) := by
  unfold Pre Post
  simp only [before_0, before_1, before_2, before_3, before_4, before_5, before_6, before_7, before_8, before_9, leaves_0, leaves_1, leaves_2, leaves_3, leaves_4, leaves_5, leaves_6, leaves_7, leaves_8, leaves_9]
  rw [show (dats m 0 c).owesAt () t.succ = (dats m 0 c).owesAt () t.castSucc from rfl,
    show (dats m 0 c).Φ t.succ = Inv m c (t.val + 1) t.isLt from rfl, inv_at]
  by_cases h2 : t.val = 2
  · rw [show (dats m 0 c).leavesExact 10 t = at_ c (ms0_10 t) (root m c t) from by unfold Dat.leavesExact; rw [live_out t h2, after_10]]
    obtain ⟨n, hn⟩ := t
    have h0 : n ≠ 0 := fun h => absurd (h.symm.trans h2) (by decide)
    obtain ⟨k, rfl⟩ : ∃ k, n = k + 1 := Nat.exists_eq_succ_of_ne_zero h0
    have e1 := fun d => O0_two (F := F) (pt ⟨k + 1, hn⟩) h2 (ins m c ⟨k + 1, hn⟩) ((dats m 0 c).before 10 ⟨k + 1, hn⟩ d)
    have h := step (D0 := (cfg0.win 0).block.Idx → Elt F (cfg0.win 0).elt) (D1 := (cfg0.win 1).block.Idx → Elt F (cfg0.win 1).elt) (D2 := (cfg0.win 2).block.Idx → Elt F (cfg0.win 2).elt) (D3 := (cfg0.win 3).block.Idx → Elt F (cfg0.win 3).elt) (D4 := (cfg0.win 4).block.Idx → Elt F (cfg0.win 4).elt) (D5 := (cfg0.win 5).block.Idx → Elt F (cfg0.win 5).elt) (D6 := (cfg0.win 6).block.Idx → Elt F (cfg0.win 6).elt) (D7 := (cfg0.win 7).block.Idx → Elt F (cfg0.win 7).elt) (D8 := (cfg0.win 8).block.Idx → Elt F (cfg0.win 8).elt) (D9 := (cfg0.win 9).block.Idx → Elt F (cfg0.win 9).elt) m c ⟨k + 1, hn⟩ (stack m c k (Nat.lt_of_succ_lt hn)) ((dats m 0 c).before 10 ⟨k + 1, hn⟩) (iprop(∃ r, prngReg c r)) ((dats m 0 c).owesAt () (Fin.castSucc ⟨k + 1, hn⟩))
    simp only [e1, S0_pos (pt ⟨k + 1, hn⟩) h0] at h
    have e2 : Inv m c (k + 1 + 1) hn = iprop(((∃ d, at_ c scM0_0 d) ∗ (∃ d, at_ c scM0_1 d) ∗
      at_ c scM0_2 (Einet.SF hlp (ins m c ⟨k + 1, hn⟩) (pt ⟨k + 1, hn⟩) (stack m c k (Nat.lt_of_succ_lt hn)))) ∗ ∃ r, prngReg c r) := rfl
    have e3 : root m c ⟨k + 1, hn⟩ = Einet.RT (ins m c ⟨k + 1, hn⟩) (Einet.SF hlp (ins m c ⟨k + 1, hn⟩) (pt ⟨k + 1, hn⟩) (stack m c k (Nat.lt_of_succ_lt hn))) := rfl
    rw [e2, e3]
    refine h.trans (wp_mono _ _ _ fun _ => ?_)
    iintro ⟨HS, Ho, H0, H1, H2, H3, H4, H5, H6, H7, H8, H9, ⟨%d, H10⟩⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats m 0 c) 10 t (idle_out t h2).1 (idle_out t h2).2]
    by_cases h0 : t.val = 0
    · obtain ⟨n, hn⟩ := t
      obtain rfl : n = 0 := h0
      rw [show Inv m c 0 _ = Pipeline.ΦA spec0 c from rfl, PhiA0_eq]
      iintro ⟨⟨⟨HS0, HS1, ⟨%w, HS2⟩⟩, Hg⟩, Hr⟩
      iapply (step m c ⟨0, hn⟩ w ((dats m 0 c).before 10 ⟨0, hn⟩) _ _)
      isplitl [HS0 HS1 HS2 Hg]
      · isplitl [HS0 HS1 HS2]
        · isplitl [HS0]; · iexact HS0
          isplitl [HS1]; · iexact HS1
          iexact HS2
        iexact Hg
      iexact Hr
    · obtain ⟨n, hn⟩ := t
      obtain ⟨k, rfl⟩ : ∃ k, n = k + 1 := Nat.exists_eq_succ_of_ne_zero h0
      have e1 := fun d => O0_ne (F := F) (pt ⟨k + 1, hn⟩) h2 (ins m c ⟨k + 1, hn⟩) ((dats m 0 c).before 10 ⟨k + 1, hn⟩ d)
      have h := step (D0 := (cfg0.win 0).block.Idx → Elt F (cfg0.win 0).elt) (D1 := (cfg0.win 1).block.Idx → Elt F (cfg0.win 1).elt) (D2 := (cfg0.win 2).block.Idx → Elt F (cfg0.win 2).elt) (D3 := (cfg0.win 3).block.Idx → Elt F (cfg0.win 3).elt) (D4 := (cfg0.win 4).block.Idx → Elt F (cfg0.win 4).elt) (D5 := (cfg0.win 5).block.Idx → Elt F (cfg0.win 5).elt) (D6 := (cfg0.win 6).block.Idx → Elt F (cfg0.win 6).elt) (D7 := (cfg0.win 7).block.Idx → Elt F (cfg0.win 7).elt) (D8 := (cfg0.win 8).block.Idx → Elt F (cfg0.win 8).elt) (D9 := (cfg0.win 9).block.Idx → Elt F (cfg0.win 9).elt) m c ⟨k + 1, hn⟩ (stack m c k (Nat.lt_of_succ_lt hn)) ((dats m 0 c).before 10 ⟨k + 1, hn⟩) (iprop(∃ r, prngReg c r)) ((dats m 0 c).owesAt () (Fin.castSucc ⟨k + 1, hn⟩))
      simp only [e1, S0_pos (pt ⟨k + 1, hn⟩) h0] at h
      exact h

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem enter (c : Dev nD) : Pipeline.ΦA spec0 c ⊢ (dats m 0 c).Φ 0 := .rfl

theorem leave (c : Dev nD) : (dats m 0 c).Φ (Fin.last cfg0.N) ⊢ Pipeline.ΦA spec0 c := by
  rw [PhiA0_eq]
  show Inv m c 3 _ ⊢ _
  unfold Inv
  iintro ⟨⟨HS0, HS1, HS2⟩, Hg⟩
  isplitl [HS0 HS1 HS2]
  · isplitl [HS0]; · iexact HS0
    isplitl [HS1]; · iexact HS1
    iexists _; iexact HS2
  iexact Hg

set_option backward.isDefEq.respectTransparency.types false in
/-- The launch, with every semaphore counter at zero at the end. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr m) (hin := enter m) (hout := leave m)

theorem ended : θ_run defs (onTc (τ := τ) (main (F := F))) (s₀ m ρ) (Pipeline.FramePost cfgs (dats m) 0 (V m)) :=
  (θ_run defs _ _).mono (fun _ h => h.1) (launched m ρ)

/-- The arguments end unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (arr m) (ended m ρ)

/-- The frame claim's statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (kept m ρ) ((θ_run defs _ _).mono (fun _ h => h.2) (launched m ρ))

end Cert.KernelIdeal.Own
-- ==== Proof.Einet.Out.lean ====
/- The idealized kernel's result: the tree's value of each row. -/
module

public import proofs.«01_k».proof.Proof.Einet.Given
public import proofs.«01_k».proof.Proof.Einet.Launch
public import Idealize.ShloMosaic.Lib.Pipeline.ValueKit

@[expose] public section

noncomputable section

namespace Cert.KernelIdeal.Own

open Cert.KernelIdeal Cert.KernelIdeal.Gen
open Idealize.ShloMosaic hiding ix1 ix2 ix3 ix4 ix5 eq_ix3 eq_ix4 eq_ix5
open Idealize.ShloMosaic.TcCoe
open Idealize.ShloMosaic.ValueIdx
open Idealize.SL.Sem
open Einet

variable (m : (ℓ : Loc nD τ sig) → Buf (Elt Ideal) ℓ) (c : Dev nD)

/-- The named constant is half the logarithm of two pi. -/
theorem hlp_eq : (hlp : Ideal .f32) = Einet.hl := IdealRules.named_const.ideal_named_scalar κ "half_log_two_pi" _ _ rfl

variable (hA : (args m c).Finite)
include hA

theorem stack_tops : ∀ (n : ℕ) (h : n < cfg0.N), Tops (args m c).reals (n + 1) (stack m c n h)
  | 0, h => by
    unfold stack
    rw [hlp_eq]
    exact SF_tops _ ⟨0, h⟩ _ (given m c hA ⟨0, h⟩) _ (Z_tops _)
  | n + 1, h => by
    unfold stack
    rw [hlp_eq]
    exact SF_tops _ ⟨n + 1, h⟩ _ (given m c hA ⟨n + 1, h⟩) _ (stack_tops n _)

theorem root_at (t : Fin cfg0.N) (ht : t.val = 2) (z : Fin 128) : root m c t (ix2 0 z) = ((args m c).reals.value z.val : EReal) := by
  obtain ⟨n, hn⟩ := t
  obtain rfl : n = 2 := ht
  exact RT_at _ ⟨2, hn⟩ _ (given m c hA ⟨2, hn⟩) _ (stack_tops m c hA 2 hn) z

/-- What the result array holds at the end. -/
theorem out_eq : (dats m 0 c).arrAt 10 cfg0.N = fun i : S1x128.Idx => ((args m c).reals.value (i 1).val : EReal) := by
  refine (dats m 0 c).arrAt_eq_of_after_last 10 ⟨2, by decide⟩ (by decide +kernel) _ fun j => ?_
  rw [after_10]
  have e : j = ix2 0 (j 1) := funext fun a => match a with | ⟨0, _⟩ => Subsingleton.elim (α := Fin 1) _ _ | ⟨1, _⟩ => rfl
  exact (congrArg (root m c ⟨2, by decide⟩) e).trans (root_at m c hA ⟨2, by decide⟩ rfl (j 1))

end Cert.KernelIdeal.Own
-- ==== Proof.Einet.Range.lean ====
/- What the precondition says of the arguments: the floats are real numbers and the permutation is the identity. -/
module

public import proofs.«01_k».proof.Defs
public import proofs.«01_k».proof.Proof.Einet.Fed

@[expose] public section

noncomputable section

namespace Cert.KernelIdeal.Own

open Cert.KernelIdeal Cert.KernelIdeal.Gen
open Idealize.ShloMosaic hiding ix1 ix2 ix3 ix4 ix5 eq_ix3 eq_ix4 eq_ix5
open Idealize.ShloMosaic.TcCoe
open Idealize.ShloMosaic.ValueIdx
open Einet

/-- The precondition's side conditions. -/
instance inRange : Cert.Pre_in_range.Facts where
  bcast_S_S128x3072 := by decide
  bcast_S_S3072x8x2 := by decide
  bcast_S_S2048x8x8x2 := by decide
  bcast_S_S1024x8x8x2 := by decide
  bcast_S_S512x8x8x2 := by decide
  bcast_S_S256x8x8x2 := by decide
  bcast_S_S128x8x8x2 := by decide
  bcast_S_S64x8x8x2 := by decide
  bcast_S_S32x8x8x2 := by decide
  bcast_S_S16x8x8x2 := by decide
  bcast_S_S8x8x8x2 := by decide
  bcast_S_S4x8x8x2 := by decide
  bcast_S_S2x8x8x2 := by decide
  bcast_S_S1x8x8x2 := by decide
  bcast_S_S16 := by decide

theorem true_of_one {b : Bool} (h : BitVec.ofBool b = 1#1) : b = true := by
  cases b
  · exact absurd h (by decide)
  · rfl

/-- A number whose absolute value lies below plus infinity is real. -/
theorem real_of_abs_lt {v : EReal} (h : max v (-v) < ⊤) : ∃ x : ℝ, v = (x : EReal) := by
  induction v with
  | bot => exact absurd h (by simp)
  | coe x => exact ⟨x, rfl⟩
  | top => exact absurd h (by simp)

theorem real_of {s : Shape} (x : FVec Ideal s .f32) (h : r0.BroadcastsInDim s ![])
    (e : cmpf .olt (Host.absf x) (broadcastInDim s ![] h (constant r0 .f32 0x7F800000#32)) = fun _ => 1#1) (i : s.Idx) : ∃ v : ℝ, x i = (v : EReal) := by
  refine real_of_abs_lt ?_
  have h := of_decide_eq_true (true_of_one (congrFun e i))
  exact lt_of_lt_of_eq h (show Ideal.ofBits .f32 0x7F800000#32 = ⊤ from by simp [Ideal.ofBits, Ideal.ieee])

theorem identity_of (x : IVec (s1 4096) 32) (e : cmpi .eq x (iotaInDim (s1 4096) 32 0) = fun _ => 1#1) (g : Fin 4096) : x (ix1 g) = BitVec.ofNat 32 g.val := by
  have h : IntOp.cmpi .eq (x (ix1 g)) (BitVec.ofNat 32 g.val) = 1#1 := congrFun e (ix1 g)
  rw [WordCmp.cmpi_eq_eq] at h
  exact of_decide_eq_true (true_of_one h)

variable (m : (ℓ : Loc nD τ sig) → Buf (Elt Ideal) ℓ) (hm : Cert.Pre_KernelIdeal_in_range m) (c : Dev nD)
include hm

theorem finite : (args m c).Finite := by
  obtain ⟨h0, h1, h2, h3, h4, h5, h6, h7, h8, h9, h10, h11, h12, h13, h14, h15, -⟩ := hm c
  exact {
    x := real_of _ _ h0
    loc := real_of _ _ h1
    lv := real_of _ _ h2
    w := fun l hl => match l, hl with
      | 0, _ => real_of _ _ h3
      | 1, _ => real_of _ _ h4
      | 2, _ => real_of _ _ h5
      | 3, _ => real_of _ _ h6
      | 4, _ => real_of _ _ h7
      | 5, _ => real_of _ _ h8
      | 6, _ => real_of _ _ h9
      | 7, _ => real_of _ _ h10
      | 8, _ => real_of _ _ h11
      | 9, _ => real_of _ _ h12
      | 10, _ => real_of _ _ h13
      | 11, _ => real_of _ _ h14
    wr := real_of _ _ h15 }

theorem identity (g : Fin 4096) : (m (c, main_arg16) : IVec (s1 4096) 32) (ix1 g) = BitVec.ofNat 32 g.val := by
  obtain ⟨-, -, -, -, -, -, -, -, -, -, -, -, -, -, -, -, h⟩ := hm c
  exact identity_of _ h g

end Cert.KernelIdeal.Own
-- ==== Proof.Einet.Leaf.lean ====
/- The reference's leaves over the extended reals: the log densities, padded with zeros and taken in the features' order. -/
module

public import proofs.«01_k».proof.Proof.Einet.Args
public import Idealize.ShloMosaic.Lib.Routing.OpsSet

@[expose] public section

noncomputable section

namespace Einet

open Idealize.ShloMosaic hiding ix1 ix2 ix3 ix4 ix5 eq_ix3 eq_ix4 eq_ix5
open Idealize.ShloMosaic.ValueIdx

theorem half : Ideal.ofBits .f32 0x3F000000#32 = ((1 / 2 : ℝ) : EReal) := by
  simp [Ideal.ofBits, Ideal.ieee, -EReal.coe_mul]; norm_num

theorem two_pi : Ideal.ofBits .f32 0x40C90FDB#32 = ((13176795 / 2097152 : ℝ) : EReal) := by
  simp [Ideal.ofBits, Ideal.ieee, -EReal.coe_mul]; norm_num

section Spread

variable {α : Type}

theorem bcl (v : (r3 3072 8 2).Idx → α) (h1 : (r3 3072 8 2).BroadcastsInDim (r4 1 3072 8 2) ![1, 2, 3]) (h2 : (r4 1 3072 8 2).BroadcastsInDim (r4 128 3072 8 2) ![0, 1, 2, 3])
    (y : Fin 128) (g : Fin 3072) (c : Fin 8) (r : Fin 2) :
    broadcastInDim (r4 128 3072 8 2) ![0, 1, 2, 3] h2 (broadcastInDim (r4 1 3072 8 2) ![1, 2, 3] h1 v) (ix4 y g c r) = v (ix3 g c r) :=
  (broadcastInDim_apply _ h2 _ (ix4 y g c r) (ix4 (0 : Fin 1) g c r) fun a => match a with
    | ⟨0, _⟩ => rfl
    | ⟨1, _⟩ => kept_coord g
    | ⟨2, _⟩ => kept_coord c
    | ⟨3, _⟩ => kept_coord r).trans
  (broadcastInDim_apply _ h1 v (ix4 (0 : Fin 1) g c r) (ix3 g c r) fun a => match a with
    | ⟨0, _⟩ => kept_coord g
    | ⟨1, _⟩ => kept_coord c
    | ⟨2, _⟩ => kept_coord r)

theorem bcd (v : (s2 128 3072).Idx → α) (h1 : (s2 128 3072).BroadcastsInDim (r4 128 3072 1 1) ![0, 1]) (h2 : (r4 128 3072 1 1).BroadcastsInDim (r4 128 3072 8 2) ![0, 1, 2, 3])
    (y : Fin 128) (g : Fin 3072) (c : Fin 8) (r : Fin 2) :
    broadcastInDim (r4 128 3072 8 2) ![0, 1, 2, 3] h2 (broadcastInDim (r4 128 3072 1 1) ![0, 1] h1 v) (ix4 y g c r) = v (ix2 y g) :=
  (broadcastInDim_apply _ h2 _ (ix4 y g c r) (ix4 y g (0 : Fin 1) (0 : Fin 1)) fun a => match a with
    | ⟨0, _⟩ => kept_coord y
    | ⟨1, _⟩ => kept_coord g
    | ⟨2, _⟩ => rfl
    | ⟨3, _⟩ => rfl).trans
  (broadcastInDim_apply _ h1 v (ix4 y g (0 : Fin 1) (0 : Fin 1)) (ix2 y g) fun a => match a with
    | ⟨0, _⟩ => kept_coord y
    | ⟨1, _⟩ => kept_coord g)

end Spread

/-- The leaves' standard deviations. -/
def scale (lv : FVec Ideal (r3 3072 8 2) .f32) (h0 : r0.BroadcastsInDim (r3 3072 8 2) ![]) : FVec Ideal (r3 3072 8 2) .f32 :=
  Host.exp (mulf (broadcastInDim _ ![] h0 (constant r0 .f32 0x3F000000#32)) lv)

/-- The data's distances from the locations, in standard deviations. -/
def quot (x : FVec Ideal (s2 128 3072) .f32) (loc lv : FVec Ideal (r3 3072 8 2) .f32) (h0 : r0.BroadcastsInDim (r3 3072 8 2) ![])
    (x1 : (s2 128 3072).BroadcastsInDim (r4 128 3072 1 1) ![0, 1]) (x2 : (r4 128 3072 1 1).BroadcastsInDim (r4 128 3072 8 2) ![0, 1, 2, 3])
    (l1 : (r3 3072 8 2).BroadcastsInDim (r4 1 3072 8 2) ![1, 2, 3]) (l2 : (r4 1 3072 8 2).BroadcastsInDim (r4 128 3072 8 2) ![0, 1, 2, 3]) : FVec Ideal (r4 128 3072 8 2) .f32 :=
  Host.divf (subf (broadcastInDim _ ![0, 1, 2, 3] x2 (broadcastInDim _ ![0, 1] x1 x)) (broadcastInDim _ ![0, 1, 2, 3] l2 (broadcastInDim _ ![1, 2, 3] l1 loc)))
    (broadcastInDim _ ![0, 1, 2, 3] l2 (broadcastInDim _ ![1, 2, 3] l1 (scale lv h0)))

/-- The leaves' log densities. -/
def density (x : FVec Ideal (s2 128 3072) .f32) (loc lv : FVec Ideal (r3 3072 8 2) .f32) (h0 : r0.BroadcastsInDim (r3 3072 8 2) ![])
    (x1 : (s2 128 3072).BroadcastsInDim (r4 128 3072 1 1) ![0, 1]) (x2 : (r4 128 3072 1 1).BroadcastsInDim (r4 128 3072 8 2) ![0, 1, 2, 3])
    (l1 : (r3 3072 8 2).BroadcastsInDim (r4 1 3072 8 2) ![1, 2, 3]) (l2 : (r4 1 3072 8 2).BroadcastsInDim (r4 128 3072 8 2) ![0, 1, 2, 3])
    (hc : r0.BroadcastsInDim (r4 128 3072 8 2) ![]) : FVec Ideal (r4 128 3072 8 2) .f32 :=
  subf (subf (mulf (broadcastInDim _ ![] hc (constant r0 .f32 0xBF000000#32)) (mulf (quot x loc lv h0 x1 x2 l1 l2) (quot x loc lv h0 x1 x2 l1 l2)))
      (broadcastInDim _ ![0, 1, 2, 3] l2 (broadcastInDim _ ![1, 2, 3] l1 (Host.log (scale lv h0)))))
    (broadcastInDim _ ![] hc (id (mulf (constant r0 .f32 0x3F000000#32) (Host.log (constant r0 .f32 0x40C90FDB#32)))))

theorem scale_at (lv h0) (i : (r3 3072 8 2).Idx) (a : ℝ) (h : lv i = (a : EReal)) : scale lv h0 i = (Real.exp (1 / 2 * a) : EReal) := by
  show Ideal.exp (Ideal.ofBits .f32 0x3F000000#32 * lv i) = _
  rw [half, h, ← EReal.coe_mul, exp_coe]

theorem quot_at (x loc lv h0 x1 x2 l1 l2) (y : Fin 128) (g : Fin 3072) (c : Fin 8) (r : Fin 2) (a b v : ℝ) (hx : x (ix2 y g) = (v : EReal)) (hm : loc (ix3 g c r) = (b : EReal))
    (hl : lv (ix3 g c r) = (a : EReal)) : quot x loc lv h0 x1 x2 l1 l2 (ix4 y g c r) = (((v - b) / Real.exp (1 / 2 * a) : ℝ) : EReal) := by
  show Ideal.div (_ - _) _ = _
  rw [bcd, bcl, bcl, hx, hm, scale_at lv h0 _ a hl, ← EReal.coe_sub, Ideal.div_coe (Real.exp_pos _).ne', ← EReal.coe_mul, mul_one_div]

theorem density_at (x loc lv h0 x1 x2 l1 l2 hc) (y : Fin 128) (g : Fin 3072) (c : Fin 8) (r : Fin 2) (a b v : ℝ) (hx : x (ix2 y g) = (v : EReal)) (hm : loc (ix3 g c r) = (b : EReal))
    (hl : lv (ix3 g c r) = (a : EReal)) : density x loc lv h0 x1 x2 l1 l2 hc (ix4 y g c r) = (gauss a b v : EReal) := by
  show (Ideal.ofBits .f32 0xBF000000#32 * (quot x loc lv h0 x1 x2 l1 l2 (ix4 y g c r) * quot x loc lv h0 x1 x2 l1 l2 (ix4 y g c r)) - _)
    - Ideal.ofBits .f32 0x3F000000#32 * Ideal.log (Ideal.ofBits .f32 0x40C90FDB#32) = _
  rw [quot_at x loc lv h0 x1 x2 l1 l2 y g c r a b v hx hm hl, bcl, show Host.log (scale lv h0) (ix3 g c r) = Ideal.log (scale lv h0 (ix3 g c r)) from rfl, scale_at lv h0 _ a hl,
    log_coe (Real.exp_pos _), neg_half, half, two_pi, log_coe (by norm_num)]
  norm_cast
  rw [← gauss_reference, pow_two]

/-- A block of features written over an array from feature zero on. -/
abbrev padDims (wf : ScatterDims.WF (r4 128 4096 8 2) (s1 1) (r4 128 3072 8 2) [0, 1, 2, 3] [] [1] 0) : ScatterDims (r4 128 4096 8 2) (s1 1) (r4 128 3072 8 2) where
  updateWindowDims := [0, 1, 2, 3]
  insertedWindowDims := []
  scatterDimsToOperandDims := [1]
  indexVectorDim := 0
  wf := wf

theorem pad_lands (wf) (idx : IVec (s1 1) 32) (hi : ∀ i, idx i = 0#32) (k : (r4 128 3072 8 2).Idx) (ι : (r4 128 4096 8 2).Idx) :
    (padDims wf).resultIdx? k idx = some ι ↔ (k 0).val = (ι 0).val ∧ (k 1).val = (ι 1).val ∧ (k 2).val = (ι 2).val ∧ (k 3).val = (ι 3).val := by
  have e0 : (padDims wf).start k idx 0 + ((padDims wf).window k 0 : Int) = ((k 0).val : Int) := Int.zero_add _
  have e1 : (padDims wf).start k idx 1 + ((padDims wf).window k 1 : Int) = ((k 1).val : Int) := by
    show (idx _).toInt + ((k 1).val : Int) = _
    rw [hi]; exact Int.zero_add _
  have e2 : (padDims wf).start k idx 2 + ((padDims wf).window k 2 : Int) = ((k 2).val : Int) := Int.zero_add _
  have e3 : (padDims wf).start k idx 3 + ((padDims wf).window k 3 : Int) = ((k 3).val : Int) := Int.zero_add _
  rw [Routing.resultIdx?_eq_some]
  constructor
  · intro h
    exact ⟨Int.ofNat.inj (e0.symm.trans (h 0)), Int.ofNat.inj (e1.symm.trans (h 1)), Int.ofNat.inj (e2.symm.trans (h 2)), Int.ofNat.inj (e3.symm.trans (h 3))⟩
  · rintro ⟨h0, h1, h2, h3⟩ a
    exact match a with
      | ⟨0, _⟩ => e0.trans (congrArg Int.ofNat h0)
      | ⟨1, _⟩ => e1.trans (congrArg Int.ofNat h1)
      | ⟨2, _⟩ => e2.trans (congrArg Int.ofNat h2)
      | ⟨3, _⟩ => e3.trans (congrArg Int.ofNat h3)

theorem pad_at {α : Type} (wf) (x : (r4 128 4096 8 2).Idx → α) (idx : IVec (s1 1) 32) (hi : ∀ i, idx i = 0#32) (u : (r4 128 3072 8 2).Idx → α) (y : Fin 128) (g : Fin 4096) (c : Fin 8) (r : Fin 2) :
    Host.scatter (padDims wf) (fun _ b => b) x idx u (ix4 y g c r) = if h : g.val < 3072 then u (ix4 y ⟨g.val, h⟩ c r) else x (ix4 y g c r) := by
  split
  · next h =>
    refine Routing.scatter_set_hit _ x idx u _ _ (fun k hk => ?_) (ix4 y ⟨g.val, h⟩ c r) ((pad_lands wf idx hi _ _).2 ⟨rfl, rfl, rfl, rfl⟩)
    obtain ⟨h0, h1, h2, h3⟩ := (pad_lands wf idx hi _ _).1 hk
    exact congrArg u (funext fun a => match a with
      | ⟨0, _⟩ => Fin.ext h0 | ⟨1, _⟩ => Fin.ext h1 | ⟨2, _⟩ => Fin.ext h2 | ⟨3, _⟩ => Fin.ext h3)
  · next h =>
    refine Routing.scatter_set_miss _ x idx u _ fun k hk => h ?_
    obtain ⟨_, h1, _, _⟩ := (pad_lands wf idx hi _ _).1 hk
    exact lt_of_eq_of_lt h1.symm (k 1).isLt

/-- A take along the features. -/
abbrev featDims (wf : GatherDims.WF (r4 128 4096 8 2) (s2 4096 1) (r4 128 4096 8 2) [0, 2, 3] [1] [] [1] [] 1 ![128, 1, 8, 2]) : GatherDims (r4 128 4096 8 2) (s2 4096 1) (r4 128 4096 8 2) where
  offsetDims := [0, 2, 3]
  collapsedSliceDims := [1]
  operandBatchingDims := []
  startIndicesBatchingDims := []
  startIndexMap := [1]
  indexVectorDim := 1
  sliceSizes := ![128, 1, 8, 2]
  wf := wf

theorem feat_take {α : Type} (wf) (x : (r4 128 4096 8 2).Idx → α) (idx : IVec (s2 4096 1) 32) (y : Fin 128) (g k : Fin 4096) (c : Fin 8) (r : Fin 2)
    (hk : (idx (ix2 g 0)).toNat = k.val) : Host.gather (featDims wf) x idx (ix4 y g c r) = x (ix4 y k c r) := by
  unfold Host.gather
  congr 1
  refine funext fun b => match b with
    | ⟨0, _⟩ => Fin.ext ?_
    | ⟨1, _⟩ => Fin.ext ?_
    | ⟨2, _⟩ => Fin.ext ?_
    | ⟨3, _⟩ => Fin.ext ?_
  · show 0 + 0 + y.val = y.val
    omega
  · show min (idx _).toInt.toNat (4096 - 1) + 0 + 0 = k.val
    refine clamped _ _ _ (Eq.trans (congrArg (fun i => (idx i).toNat) ?_) hk) (by omega) (by omega)
    exact funext fun c => match c with | ⟨0, _⟩ => rfl | ⟨1, _⟩ => rfl
  · show 0 + 0 + c.val = c.val
    omega
  · show 0 + 0 + r.val = r.val
    omega

theorem bcok {α : Type} (v : (s1 4096).Idx → α) (h : (s1 4096).BroadcastsInDim (r4 128 4096 8 2) ![1]) (y : Fin 128) (g : Fin 4096) (c : Fin 8) (r : Fin 2) :
    broadcastInDim (r4 128 4096 8 2) ![1] h v (ix4 y g c r) = v (ix1 g) :=
  broadcastInDim_apply _ h v _ (ix1 g) fun a => match a with | ⟨0, _⟩ => kept_coord g

end Einet
-- ==== Proof.Einet.Root.lean ====
/- The reference's root over the extended reals: the sixteen planes of the last feature, mixed with normalised weights. -/
module

public import proofs.«01_k».proof.Proof.Einet.Args
public import Idealize.ShloMosaic.Lib.ValueLayout

@[expose] public section

noncomputable section

namespace Einet

open Idealize.ShloMosaic hiding ix1 ix2 ix3 ix4 ix5 eq_ix3 eq_ix4 eq_ix5
open Idealize.ShloMosaic.ValueIdx

theorem bc1 {α : Type} (v : r0.Idx → α) (h0 : r0.BroadcastsInDim (s1 1) ![]) (h1 : (s1 1).BroadcastsInDim (s1 16) ![0]) (k : Fin 16) :
    broadcastInDim (s1 16) ![0] h1 (broadcastInDim (s1 1) ![] h0 v) (ix1 k) = v fun a => a.elim0 :=
  (broadcastInDim_apply _ h1 _ (ix1 k) (ix1 (0 : Fin 1)) fun a => match a with | ⟨0, _⟩ => rfl).trans (congrArg v (funext fun a => a.elim0))

/-- The root's weights less their maximum. -/
def centredR (w : FVec Ideal (s1 16) .f32) (hu : 0 < r0.numel) (hr : (s1 16).ReducesTo [0] r0) (h0 : r0.BroadcastsInDim (s1 1) ![])
    (h1 : (s1 1).BroadcastsInDim (s1 16) ![0]) : FVec Ideal (s1 16) .f32 :=
  subf w (broadcastInDim _ ![0] h1 (broadcastInDim _ ![] h0 (maximumf (constant r0 .f32 0xFF800000#32) (Host.reduce FloatOps.maximumf w (constant r0 .f32 0xFF800000#32) hr hu))))

/-- The logarithms of the root's normalised weights. -/
def normalR (w : FVec Ideal (s1 16) .f32) (hu : 0 < r0.numel) (hr : (s1 16).ReducesTo [0] r0) (h0 : r0.BroadcastsInDim (s1 1) ![])
    (h1 : (s1 1).BroadcastsInDim (s1 16) ![0]) : FVec Ideal (s1 16) .f32 :=
  subf (centredR w hu hr h0 h1) (broadcastInDim _ ![0] h1 (Host.log (broadcastInDim _ ![] h0
    (Host.reduceAdd (Host.exp (centredR w hu hr h0 h1)) (constant r0 .f32 0x00000000#32) hr hu))))

theorem centredR_at (w hu hr h0 h1) (W : Fin 16 → ℝ) (hw : ∀ k, w (ix1 k) = (W k : EReal)) : ∃ m : ℝ, ∀ k, centredR w hu hr h0 h1 (ix1 k) = ((W k - m : ℝ) : EReal) := by
  obtain ⟨m, hm⟩ := reduce_max_real w (fun i => W (i 0)) (fun i => (congrArg w (ValueIdx.eq_ix1 i)).trans (hw (i 0))) hr hu (fun a => a.elim0)
    ⟨ix1 0, funext fun a => a.elim0⟩
  refine ⟨m, fun k => ?_⟩
  unfold centredR
  rw [ValueIdx.subf_apply, bc1, hw, EReal.coe_sub]
  refine congrArg ((W k : EReal) - ·) ?_
  show max (Ideal.ofBits .f32 0xFF800000#32) _ = _
  rw [hm, minus_inf]
  exact max_eq_right bot_le

theorem normalR_at (w hu hr h0 h1) (W : Fin 16 → ℝ) (hw : ∀ k, w (ix1 k) = (W k : EReal)) :
    ∃ m : ℝ, ∀ k, normalR w hu hr h0 h1 (ix1 k) = ((W k - m - Real.log (∑ j, Real.exp (W j - m)) : ℝ) : EReal) := by
  obtain ⟨m, hm⟩ := centredR_at w hu hr h0 h1 W hw
  refine ⟨m, fun k => ?_⟩
  unfold normalR
  rw [ValueIdx.subf_apply, hm, EReal.coe_sub (W k - m)]
  refine congrArg (((W k - m : ℝ) : EReal) - ·) ?_
  refine (broadcastInDim_apply _ h1 _ (ix1 k) (ix1 (0 : Fin 1)) fun a => match a with | ⟨0, _⟩ => rfl).trans ?_
  show Ideal.log (Host.reduceAdd (Host.exp (centredR w hu hr h0 h1)) (constant r0 .f32 0x00000000#32) hr hu _) = _
  rw [hostReduceAdd_apply, Ideal.hostReduceAdd_r1_a0]
  rw [show (constant (F := Ideal) r0 .f32 0x00000000#32 : FVec Ideal r0 .f32) (Shape.Idx.first hu) = (0 : EReal) from Ideal.ofBits_zero_f32, zero_add]
  rw [← log_coe (sum_exp_pos _), ← coe_sum]
  refine congrArg Ideal.log (Finset.sum_congr rfl fun k _ => ?_)
  exact (congrArg Ideal.exp (hm k)).trans (exp_coe _)

/-- The planes plus the weights, before the sum. -/
def termsR (h : FVec Ideal (s2 128 16) .f32) (v : FVec Ideal (s1 16) .f32) (k1 : (s1 16).BroadcastsInDim (s2 1 16) ![1]) (k2 : (s2 1 16).BroadcastsInDim (s2 128 16) ![0, 1]) :
    FVec Ideal (s2 128 16) .f32 :=
  addf h (broadcastInDim _ ![0, 1] k2 (broadcastInDim _ ![1] k1 v))

/-- The log of the sum of exponentials of a row's terms, the maximum taken out. -/
def summedR (a : FVec Ideal (s2 128 16) .f32) (hu : 0 < r0.numel) (hr : (s2 128 16).ReducesTo [1] (s1 128)) (l1 : (s1 128).BroadcastsInDim (s2 128 1) ![0])
    (l2 : (s2 128 1).BroadcastsInDim (s2 128 16) ![0, 1]) : FVec Ideal (s1 128) .f32 :=
  addf (Host.log (Host.reduceAdd (Host.exp (subf a (broadcastInDim _ ![0, 1] l2 (broadcastInDim _ ![0] l1 (Host.reduce FloatOps.maximumf a (constant r0 .f32 0xFF800000#32) hr hu)))))
    (constant r0 .f32 0x00000000#32) hr hu)) (Host.reduce FloatOps.maximumf a (constant r0 .f32 0xFF800000#32) hr hu)

theorem termsR_at (h v k1 k2) (y : Fin 128) (k : Fin 16) : termsR h v k1 k2 (ix2 y k) = h (ix2 y k) + v (ix1 k) := by
  unfold termsR
  rw [ValueIdx.addf_apply]
  refine congrArg (h (ix2 y k) + ·) ?_
  exact (broadcastInDim_apply _ k2 _ (ix2 y k) (ix2 (0 : Fin 1) k) fun a => match a with | ⟨0, _⟩ => rfl | ⟨1, _⟩ => kept_coord k).trans
    (broadcastInDim_apply _ k1 v (ix2 (0 : Fin 1) k) (ix1 k) fun a => match a with | ⟨0, _⟩ => kept_coord k)

theorem bcrow {α : Type} (v : (s1 128).Idx → α) (l1 : (s1 128).BroadcastsInDim (s2 128 1) ![0]) (l2 : (s2 128 1).BroadcastsInDim (s2 128 16) ![0, 1]) (y : Fin 128) (k : Fin 16) :
    broadcastInDim (s2 128 16) ![0, 1] l2 (broadcastInDim (s2 128 1) ![0] l1 v) (ix2 y k) = v (ix1 y) :=
  (broadcastInDim_apply _ l2 _ (ix2 y k) (ix2 y (0 : Fin 1)) fun a => match a with | ⟨0, _⟩ => kept_coord y | ⟨1, _⟩ => rfl).trans
    (broadcastInDim_apply _ l1 v (ix2 y (0 : Fin 1)) (ix1 y) fun a => match a with | ⟨0, _⟩ => kept_coord y)

theorem summedR_at (a hu hr l1 l2) (y : Fin 128) (A : Fin 128 → Fin 16 → ℝ) (ha : ∀ y k, a (ix2 y k) = (A y k : EReal)) :
    ∃ m : ℝ, summedR a hu hr l1 l2 (ix1 y) = ((Real.log (∑ k, Real.exp (A y k - m)) + m : ℝ) : EReal) := by
  obtain ⟨m, hm⟩ := reduce_max_real a (fun i => A (i 0) (i 1)) (fun i => (congrArg a (ValueIdx.eq_ix2 i)).trans (ha (i 0) (i 1))) hr hu (ix1 y)
    ⟨ix2 y 0, funext fun a => match a with | ⟨0, _⟩ => rfl⟩
  refine ⟨m, ?_⟩
  unfold summedR
  rw [ValueIdx.addf_apply, hm, EReal.coe_add]
  refine congrArg (· + (m : EReal)) ?_
  show Ideal.log (Host.reduceAdd (F := Ideal) (φ := .f32) (Host.exp _) (constant r0 .f32 0x00000000#32) hr hu (ix1 y)) = _
  rw [hostReduceAdd_apply, Ideal.hostReduceAdd_r2_a1]
  rw [show (constant (F := Ideal) r0 .f32 0x00000000#32 : FVec Ideal r0 .f32) (Shape.Idx.first hu) = (0 : EReal) from Ideal.ofBits_zero_f32, zero_add]
  rw [← log_coe (sum_exp_pos _), ← coe_sum]
  refine congrArg Ideal.log (Finset.sum_congr rfl fun k _ => ?_)
  refine Eq.trans (congrArg Ideal.exp ?_) (exp_coe _)
  refine (ValueIdx.subf_apply _ _ (ix2 y k)).trans ?_
  rw [bcrow, hm, ha, EReal.coe_sub]

/-- The root: a mixture of the planes. -/
theorem root_at (h : FVec Ideal (s2 128 16) .f32) (H : Fin 128 → Fin 16 → ℝ) (hh : ∀ y k, h (ix2 y k) = (H y k : EReal)) (w : FVec Ideal (s1 16) .f32) (W : Fin 16 → ℝ)
    (hw : ∀ k, w (ix1 k) = (W k : EReal)) (hu hr h0 h1 k1 k2 hr' l1 l2) (y : Fin 128) :
    summedR (termsR h (normalR w hu hr h0 h1) k1 k2) hu hr' l1 l2 (ix1 y) = (node W (H y) : EReal) := by
  obtain ⟨m, hm⟩ := normalR_at w hu hr h0 h1 W hw
  obtain ⟨s, hs⟩ := summedR_at (termsR h (normalR w hu hr h0 h1) k1 k2) hu hr' l1 l2 y (fun y k => H y k + (W k - m - Real.log (∑ j, Real.exp (W j - m))))
    (fun y k => by rw [termsR_at, hm, hh, EReal.coe_add])
  rw [hs]
  exact congrArg _ (node_normal W (H y) m s)

end Einet
-- ==== Proof.Einet.RefValue.lean ====
/- The reference's value over the extended reals: the tree's value of each row, where the arguments are real and the permutation is the identity. -/
module

public import proofs.«01_k».proof.Proof.Gen.ReferenceIdeal.Read
public import proofs.«01_k».proof.Proof.Einet.Leaf
public import proofs.«01_k».proof.Proof.Einet.Root
public import proofs.«01_k».proof.Proof.Einet.Fed

@[expose] public section

noncomputable section

namespace Einet

open Cert.ReferenceIdeal Cert.ReferenceIdeal.Gen Cert.ReferenceIdeal.Read
open Idealize.ShloMosaic hiding ix1 ix2 ix3 ix4 ix5 eq_ix3 eq_ix4 eq_ix5
open Idealize.ShloMosaic.ValueIdx

/-- An array holds the tree's values after `l` levels. -/
def Level (R : Reals) (l n : ℕ) (h : FVec Ideal (r4 128 n 8 2) .f32) : Prop :=
  ∀ y f c r, h (ix4 y f c r) = (tree (R.leaf y.val) R.w l f.val c r : EReal)

variable {A : Args} (hA : A.Finite) (p : IVec (s1 4096) 32) (hp : ∀ g : Fin 4096, p (ix1 g) = BitVec.ofNat 32 g.val)

include hA in
/-- One level of the reference takes the tree one level on. -/
theorem level_step (l n N : ℕ) (hl : l < 12) (hn : n = 2 ^ (11 - l)) (hN : N = 2 * n) (h : FVec Ideal (r4 128 N 8 2) .f32) (H : Level A.reals l N h)
    (w : FVec Ideal (r4 n 8 8 2) .f32) (hw : ∀ (f : ℕ) (hf : f < n) (hf' : f < 2 ^ (11 - l)) co ci r, w (ix4 ⟨f, hf⟩ co ci r) = A.w l (ix4 ⟨f, hf'⟩ co ci r))
    (hs0 : (r4 128 N 8 2).SlicesBy ![0, 0, 0, 0] ![1, 2, 1, 1] (r4 128 n 8 2)) (hs1 : (r4 128 N 8 2).SlicesBy ![0, 1, 0, 0] ![1, 2, 1, 1] (r4 128 n 8 2)) (hu hr h0 h1 h2 k1 k2 k3 k4 hr' l1 l2) :
    Level A.reals (l + 1) n (summed n (terms n (addf (Host.slice _ ![0, 0, 0, 0] ![1, 2, 1, 1] h hs0) (Host.slice _ ![0, 1, 0, 0] ![1, 2, 1, 1] h hs1)) (normal n w hu hr h0 h1 h2) k1 k2 k3 k4) hu hr' l1 l2) :=
  level_at n (fun f => A.reals.w l f.val) hN (fun y => tree (A.reals.leaf y.val) A.reals.w l) h H w
    (fun f co ci r => (hw f.val f.isLt (hn ▸ f.isLt) co ci r).trans (hA.w_at l hl f.val (hn ▸ f.isLt) co ci r)) hs0 hs1 hu hr h0 h1 h2 k1 k2 k3 k4 hr' l1 l2

include hA in
theorem density_level (y : Fin 128) (g : Fin 3072) (c : Fin 8) (r : Fin 2) :
    val_main_v22 (F := Ideal) A.x A.loc A.lv (ix4 y g c r) = (gauss (A.reals.lv g.val c r) (A.reals.mu g.val c r) (A.reals.x y.val g.val) : EReal) :=
  density_at A.x A.loc A.lv _ _ _ _ _ _ y g c r _ _ _ (hA.x_at y g.val g.isLt) (hA.loc_at g.val g.isLt c r) (hA.lv_at g.val g.isLt c r)

include hA in
theorem padded (y : Fin 128) (g : Fin 4096) (c : Fin 8) (r : Fin 2) : val_main_v25 (F := Ideal) A.x A.loc A.lv (ix4 y g c r) = (A.reals.leaf y.val g.val c r : EReal) := by
  refine (pad_at _ _ _ (fun _ => rfl) _ y g c r).trans ?_
  unfold Reals.leaf
  split
  · next h => exact density_level hA y ⟨g.val, h⟩ c r
  · exact Ideal.ofBits_zero_f32.trans EReal.coe_zero.symm

include hA hp in
theorem leaves : Level A.reals 0 4096 (val_main_v26 (F := Ideal) A.x A.loc A.lv p) := fun y g c r => by
  have hw : (p (ix1 g)).toNat = g.val := (congrArg BitVec.toNat (hp g)).trans (Nat.mod_eq_of_lt (by omega))
  have hc : (val_main_call0_v5 (F := Ideal) p) (ix2 g 0) = p (ix1 g) := fixed_at 4096 4096#32 _ _ p g (by omega)
  have hk : ((val_main_call0_v5 (F := Ideal) p) (ix2 g 0)).toNat = g.val := (congrArg BitVec.toNat hc).trans hw
  have hm : (val_main_call0_v14 (F := Ideal) p) (ix4 y g c r) = 1#1 := (bcok _ _ y g c r).trans
    (inside_at 4096 4095#32 _ _ _ _ _ (val_main_call0_v5 (F := Ideal) p) g (by decide) (hk.trans_le (Nat.le_of_lt_succ g.isLt)))
  refine (val_main_v26_apply (F := Ideal) A.x A.loc A.lv p (ix4 y g c r)).trans ?_
  rw [hm]
  refine (Cert.KernelIdeal.Own.sel_one _ _).trans ?_
  exact (feat_take _ (val_main_v25 (F := Ideal) A.x A.loc A.lv) _ y g g c r hk).trans (padded hA y g c r)

include hA hp in
theorem after_1 : Level A.reals 1 2048 (val_main_v43 (F := Ideal) A.x A.loc A.lv (A.w 0) p) :=
  level_step hA 0 2048 4096 (by decide) rfl rfl _ (leaves hA p hp) (A.w 0) (fun _ _ _ _ _ _ => rfl) _ _ _ _ _ _ _ _ _ _ _ _ _ _

include hA hp in
theorem after_2 : Level A.reals 2 1024 (val_main_v60 (F := Ideal) A.x A.loc A.lv (A.w 0) (A.w 1) p) :=
  level_step hA 1 1024 2048 (by decide) rfl rfl _ (after_1 hA p hp) (A.w 1) (fun _ _ _ _ _ _ => rfl) _ _ _ _ _ _ _ _ _ _ _ _ _ _

include hA hp in
theorem after_3 : Level A.reals 3 512 (val_main_v77 (F := Ideal) A.x A.loc A.lv (A.w 0) (A.w 1) (A.w 2) p) :=
  level_step hA 2 512 1024 (by decide) rfl rfl _ (after_2 hA p hp) (A.w 2) (fun _ _ _ _ _ _ => rfl) _ _ _ _ _ _ _ _ _ _ _ _ _ _

include hA hp in
theorem after_4 : Level A.reals 4 256 (val_main_v94 (F := Ideal) A.x A.loc A.lv (A.w 0) (A.w 1) (A.w 2) (A.w 3) p) :=
  level_step hA 3 256 512 (by decide) rfl rfl _ (after_3 hA p hp) (A.w 3) (fun _ _ _ _ _ _ => rfl) _ _ _ _ _ _ _ _ _ _ _ _ _ _

include hA hp in
theorem after_5 : Level A.reals 5 128 (val_main_v111 (F := Ideal) A.x A.loc A.lv (A.w 0) (A.w 1) (A.w 2) (A.w 3) (A.w 4) p) :=
  level_step hA 4 128 256 (by decide) rfl rfl _ (after_4 hA p hp) (A.w 4) (fun _ _ _ _ _ _ => rfl) _ _ _ _ _ _ _ _ _ _ _ _ _ _

include hA hp in
theorem after_6 : Level A.reals 6 64 (val_main_v128 (F := Ideal) A.x A.loc A.lv (A.w 0) (A.w 1) (A.w 2) (A.w 3) (A.w 4) (A.w 5) p) :=
  level_step hA 5 64 128 (by decide) rfl rfl _ (after_5 hA p hp) (A.w 5) (fun _ _ _ _ _ _ => rfl) _ _ _ _ _ _ _ _ _ _ _ _ _ _

include hA hp in
theorem after_7 : Level A.reals 7 32 (val_main_v145 (F := Ideal) A.x A.loc A.lv (A.w 0) (A.w 1) (A.w 2) (A.w 3) (A.w 4) (A.w 5) (A.w 6) p) :=
  level_step hA 6 32 64 (by decide) rfl rfl _ (after_6 hA p hp) (A.w 6) (fun _ _ _ _ _ _ => rfl) _ _ _ _ _ _ _ _ _ _ _ _ _ _

include hA hp in
theorem after_8 : Level A.reals 8 16 (val_main_v162 (F := Ideal) A.x A.loc A.lv (A.w 0) (A.w 1) (A.w 2) (A.w 3) (A.w 4) (A.w 5) (A.w 6) (A.w 7) p) :=
  level_step hA 7 16 32 (by decide) rfl rfl _ (after_7 hA p hp) (A.w 7) (fun _ _ _ _ _ _ => rfl) _ _ _ _ _ _ _ _ _ _ _ _ _ _

include hA hp in
theorem after_9 : Level A.reals 9 8 (val_main_v179 (F := Ideal) A.x A.loc A.lv (A.w 0) (A.w 1) (A.w 2) (A.w 3) (A.w 4) (A.w 5) (A.w 6) (A.w 7) (A.w 8) p) :=
  level_step hA 8 8 16 (by decide) rfl rfl _ (after_8 hA p hp) (A.w 8) (fun _ _ _ _ _ _ => rfl) _ _ _ _ _ _ _ _ _ _ _ _ _ _

include hA hp in
theorem after_10 : Level A.reals 10 4 (val_main_v196 (F := Ideal) A.x A.loc A.lv (A.w 0) (A.w 1) (A.w 2) (A.w 3) (A.w 4) (A.w 5) (A.w 6) (A.w 7) (A.w 8) (A.w 9) p) :=
  level_step hA 9 4 8 (by decide) rfl rfl _ (after_9 hA p hp) (A.w 9) (fun _ _ _ _ _ _ => rfl) _ _ _ _ _ _ _ _ _ _ _ _ _ _

include hA hp in
theorem after_11 : Level A.reals 11 2 (val_main_v213 (F := Ideal) A.x A.loc A.lv (A.w 0) (A.w 1) (A.w 2) (A.w 3) (A.w 4) (A.w 5) (A.w 6) (A.w 7) (A.w 8) (A.w 9) (A.w 10) p) :=
  level_step hA 10 2 4 (by decide) rfl rfl _ (after_10 hA p hp) (A.w 10) (fun _ _ _ _ _ _ => rfl) _ _ _ _ _ _ _ _ _ _ _ _ _ _

include hA hp in
theorem after_12 : Level A.reals 12 1 (val_main_v230 (F := Ideal) A.x A.loc A.lv (A.w 0) (A.w 1) (A.w 2) (A.w 3) (A.w 4) (A.w 5) (A.w 6) (A.w 7) (A.w 8) (A.w 9) (A.w 10) (A.w 11) p) :=
  level_step hA 11 1 2 (by decide) rfl rfl _ (after_11 hA p hp) (A.w 11) (fun _ _ _ _ _ _ => rfl) _ _ _ _ _ _ _ _ _ _ _ _ _ _

include hA hp in
theorem planes (y : Fin 128) (k : Fin 16) : val_main_v231 (F := Ideal) A.x A.loc A.lv (A.w 0) (A.w 1) (A.w 2) (A.w 3) (A.w 4) (A.w 5) (A.w 6) (A.w 7) (A.w 8) (A.w 9) (A.w 10) (A.w 11) p (ix2 y k) = (A.reals.at y.val 12 0 k : EReal) := by
  refine (shapeCast_apply _ _ _ (ix4 y (0 : Fin 1) ⟨k.val / 2, half_lt k⟩ ⟨k.val % 2, par_lt k⟩) ?_).trans (after_12 hA p hp y 0 _ _)
  rw [Shape.rowMajor_val_two, Shape.rowMajor_val_four]
  show ((y.val * 1 + 0) * 8 + k.val / 2) * 2 + k.val % 2 = y.val * 16 + k.val
  omega

include hA hp in
/-- The reference's result. -/
theorem reference_at (y : Fin 128) : val_main_v244 (F := Ideal) A.x A.loc A.lv (A.w 0) (A.w 1) (A.w 2) (A.w 3) (A.w 4) (A.w 5) (A.w 6) (A.w 7) (A.w 8) (A.w 9) (A.w 10) (A.w 11) A.wr p (ix2 0 y) = (A.reals.value y.val : EReal) :=
  (shapeCast_a_1a_apply _ _ 0 y).trans
    (root_at (val_main_v231 (F := Ideal) A.x A.loc A.lv (A.w 0) (A.w 1) (A.w 2) (A.w 3) (A.w 4) (A.w 5) (A.w 6) (A.w 7) (A.w 8) (A.w 9) (A.w 10) (A.w 11) p) (fun y => A.reals.at y.val 12 0) (planes hA p hp) A.wr A.reals.wr hA.wr_at _ _ _ _ _ _ _ _ _ y)

include hA hp in
/-- The reference's result of arguments that are these. -/
theorem reference_out (x0 x1 x2 x3 x4 x5 x6 x7 x8 x9 x10 x11 x12 x13 x14 x15 x16) (h0 : x0 = A.x) (h1 : x1 = A.loc) (h2 : x2 = A.lv) (h3 : x3 = A.w 0) (h4 : x4 = A.w 1) (h5 : x5 = A.w 2) (h6 : x6 = A.w 3) (h7 : x7 = A.w 4) (h8 : x8 = A.w 5) (h9 : x9 = A.w 6) (h10 : x10 = A.w 7) (h11 : x11 = A.w 8) (h12 : x12 = A.w 9) (h13 : x13 = A.w 10) (h14 : x14 = A.w 11)
    (h15 : x15 = A.wr) (h16 : x16 = p) :
    val_main_v244 (F := Ideal) x0 x1 x2 x3 x4 x5 x6 x7 x8 x9 x10 x11 x12 x13 x14 x15 x16 = fun i : S1x128.Idx => (A.reals.value (i 1).val : EReal) := by
  subst h0 h1 h2 h3 h4 h5 h6 h7 h8 h9 h10 h11 h12 h13 h14 h15 h16
  refine funext fun i => ?_
  have e : i = ix2 0 (i 1) := funext fun a => match a with | ⟨0, _⟩ => Subsingleton.elim (α := Fin 1) _ _ | ⟨1, _⟩ => rfl
  exact (congrArg _ e).trans (reference_at hA x16 hp (i 1))

end Einet
-- ==== Proof.lean ====
/- The proof of the certificate: the frames of the kernel, of its idealization and of the reference, the named constant, and the equality of the idealized kernel's and the reference's results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Einet.Out
public import proofs.«01_k».proof.Proof.Einet.Range
public import proofs.«01_k».proof.Proof.Einet.RefValue
public import Idealize.ShloMosaic.Adequacy
public import Idealize.ShloMosaic.Init

@[expose] public section

noncomputable section

namespace Cert.Proof

open Idealize.ShloMosaic Idealize.SL.Sem

/-- The reference's frame. -/
theorem frameR : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Both runs end with the tree's values. -/
theorem algebraic : Cert.algebraic_KernelIdeal_ReferenceIdeal_pre_in_range := fun m ρ m' ρ' hm he =>
  ⟨fun c => fun i : Cert.KernelIdeal.S1x128.Idx => ((Cert.KernelIdeal.Own.args m c).reals.value (i 1).val : EReal),
    (θ_run Cert.KernelIdeal.defs _ _).mono
      (fun _ h c => ⟨((h.1 c).1 10).trans (Cert.KernelIdeal.Own.out_eq m c (Cert.KernelIdeal.Own.finite m hm c)), h.2 c⟩)
      (θ_run_and (Cert.KernelIdeal.Own.ended m ρ) (Cert.KernelIdeal.Own.kept m ρ)),
    (θ_run Cert.ReferenceIdeal.defs _ _).mono
      (fun _ h c => ⟨(h c).1.trans ((Cert.ReferenceIdeal.Read.val_main_v244_eq (StableHlo.launchContents m' c)).trans (by
        obtain ⟨e0, e1, e2, e3, e4, e5, e6, e7, e8, e9, e10, e11, e12, e13, e14, e15, e16⟩ := he c
        exact Einet.reference_out (Cert.KernelIdeal.Own.finite m hm c) _ (Cert.KernelIdeal.Own.identity m hm c) _ _ _ _ _ _ _ _ _ _ _ _ _ _ _ _ _
          e0 e1 e2 e3 e4 e5 e6 e7 e8 e9 e10 e11 e12 e13 e14 e15 e16)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.KernelIdeal.Own.inRange,
    fun m ρ _ => Cert.Kernel.Gen.frame m ρ,
    fun m ρ _ => Cert.KernelIdeal.Own.frame m ρ,
    fun m ρ _ => Cert.KernelIdeal.Own.frame m ρ,
    frameR,
    fun m ρ _ => frameR m ρ trivial,
    IdealRules.named_const.statement Cert.KernelIdeal.κ "half_log_two_pi" .f32 0x3F6B3F8E#32 _ rfl,
    algebraic⟩

end Cert.Proof

end
